-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18)
      ∧ r.2.mem ((c.tc : Thread Cert.Kernel2.nD Cert.Kernel2.τ).loc Cert.Kernel2.main_arg19) = m ((c.tc : Thread Cert.Kernel2.nD Cert.Kernel2.τ).loc Cert.Kernel2.main_arg19))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)) (v5 : (c : Dev Cert.KernelIdeal.nD) → Buf (Elt Ideal) ((c.tc : Thread Cert.KernelIdeal.nD Cert.KernelIdeal.τ).loc Cert.KernelIdeal.main_v16_5)) (v6 : (c : Dev Cert.KernelIdeal.nD) → Buf (Elt Ideal) ((c.tc : Thread Cert.KernelIdeal.nD Cert.KernelIdeal.τ).loc Cert.KernelIdeal.main_v16_6)) (v7 : (c : Dev Cert.KernelIdeal.nD) → Buf (Elt Ideal) ((c.tc : Thread Cert.KernelIdeal.nD Cert.KernelIdeal.τ).loc Cert.KernelIdeal.main_v16_7)) (v8 : (c : Dev Cert.KernelIdeal.nD) → Buf (Elt Ideal) ((c.tc : Thread Cert.KernelIdeal.nD Cert.KernelIdeal.τ).loc Cert.KernelIdeal.main_v16_8)) (v9 : (c : Dev Cert.KernelIdeal.nD) → Buf (Elt Ideal) ((c.tc : Thread Cert.KernelIdeal.nD Cert.KernelIdeal.τ).loc Cert.KernelIdeal.main_v16_9)) (v10 : (c : Dev Cert.KernelIdeal.nD) → Buf (Elt Ideal) ((c.tc : Thread Cert.KernelIdeal.nD Cert.KernelIdeal.τ).loc Cert.KernelIdeal.main_v16_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_v16_5) = v5 c
          ∧ r.2.mem ((c.tc : Thread Cert.KernelIdeal.nD Cert.KernelIdeal.τ).loc Cert.KernelIdeal.main_v16_6) = v6 c
          ∧ r.2.mem ((c.tc : Thread Cert.KernelIdeal.nD Cert.KernelIdeal.τ).loc Cert.KernelIdeal.main_v16_7) = v7 c
          ∧ r.2.mem ((c.tc : Thread Cert.KernelIdeal.nD Cert.KernelIdeal.τ).loc Cert.KernelIdeal.main_v16_8) = v8 c
          ∧ r.2.mem ((c.tc : Thread Cert.KernelIdeal.nD Cert.KernelIdeal.τ).loc Cert.KernelIdeal.main_v16_9) = v9 c
          ∧ r.2.mem ((c.tc : Thread Cert.KernelIdeal.nD Cert.KernelIdeal.τ).loc Cert.KernelIdeal.main_v16_10) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_v97) = v4 c
          ∧ r.2.mem ((c.tc : Thread Cert.ReferenceIdeal.nD Cert.ReferenceIdeal.τ).loc Cert.ReferenceIdeal.main_v99) = v5 c
          ∧ r.2.mem ((c.tc : Thread Cert.ReferenceIdeal.nD Cert.ReferenceIdeal.τ).loc Cert.ReferenceIdeal.main_v101) = v6 c
          ∧ r.2.mem ((c.tc : Thread Cert.ReferenceIdeal.nD Cert.ReferenceIdeal.τ).loc Cert.ReferenceIdeal.main_v103) = v7 c
          ∧ r.2.mem ((c.tc : Thread Cert.ReferenceIdeal.nD Cert.ReferenceIdeal.τ).loc Cert.ReferenceIdeal.main_v105) = v8 c
          ∧ r.2.mem ((c.tc : Thread Cert.ReferenceIdeal.nD Cert.ReferenceIdeal.τ).loc Cert.ReferenceIdeal.main_v107) = v9 c
          ∧ r.2.mem ((c.tc : Thread Cert.ReferenceIdeal.nD Cert.ReferenceIdeal.τ).loc Cert.ReferenceIdeal.main_v92) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)
      ∧ m' ((c.tc : Thread Cert.Reference2Ideal.nD Cert.Reference2Ideal.τ).loc Cert.Reference2Ideal.main_arg19) = m ((c.tc : Thread Cert.Kernel2Ideal.nD Cert.Kernel2Ideal.τ).loc Cert.Kernel2Ideal.main_arg19)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_2) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
          ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v78) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18)
          ∧ r.2.mem ((c.tc : Thread Cert.Reference2Ideal.nD Cert.Reference2Ideal.τ).loc Cert.Reference2Ideal.main_arg19) = m' ((c.tc : Thread Cert.Reference2Ideal.nD Cert.Reference2Ideal.τ).loc Cert.Reference2Ideal.main_arg19))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S8x2048x1024 : Shape := ⟨3, ![8, 2048, 1024]⟩
abbrev S128x1x1024 : Shape := ⟨3, ![128, 1, 1024]⟩
abbrev S136x3072 : Shape := ⟨2, ![136, 3072]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x7184 : Shape := ⟨3, ![1, 1024, 7184]⟩
abbrev S1x1024x1024 : Shape := ⟨3, ![1, 1024, 1024]⟩
abbrev S8x1024 : Shape := ⟨2, ![8, 1024]⟩
abbrev S128x1024 : Shape := ⟨2, ![128, 1024]⟩
abbrev S1x1024x9216 : Shape := ⟨3, ![1, 1024, 9216]⟩
abbrev S1x9216 : Shape := ⟨2, ![1, 9216]⟩
abbrev S16384x1024 : Shape := ⟨2, ![16384, 1024]⟩
abbrev S136x1024 : Shape := ⟨2, ![136, 1024]⟩
abbrev S9216 : Shape := ⟨1, ![9216]⟩
abbrev S1024x7184 : Shape := ⟨2, ![1024, 7184]⟩
abbrev S7184x1024 : Shape := ⟨2, ![7184, 1024]⟩
abbrev S1024x1024 : Shape := ⟨2, ![1024, 1024]⟩
abbrev S1024x5632 : Shape := ⟨2, ![1024, 5632]⟩
abbrev S2816x1024 : Shape := ⟨2, ![2816, 1024]⟩
abbrev S1024x9216 : Shape := ⟨2, ![1024, 9216]⟩
abbrev S1024 : Shape := ⟨1, ![1024]⟩
abbrev S1024x3072 : Shape := ⟨2, ![1024, 3072]⟩
abbrev S1024x128 : Shape := ⟨2, ![1024, 128]⟩
abbrev S1024x4096 : Shape := ⟨2, ![1024, 4096]⟩
abbrev S136x6144 : Shape := ⟨2, ![136, 6144]⟩
abbrev S512x1024 : Shape := ⟨2, ![512, 1024]⟩
abbrev S16x1024 : Shape := ⟨2, ![16, 1024]⟩
abbrev S32x1024 : Shape := ⟨2, ![32, 1024]⟩
abbrev S32x5632 : Shape := ⟨2, ![32, 5632]⟩
abbrev S176x1024 : Shape := ⟨2, ![176, 1024]⟩
abbrev S1024x256 : Shape := ⟨2, ![1024, 256]⟩
abbrev S1x256 : Shape := ⟨2, ![1, 256]⟩
abbrev S136x256 : Shape := ⟨2, ![136, 256]⟩
abbrev S2x128x5632 : Shape := ⟨3, ![2, 128, 5632]⟩
abbrev S2x352x1024 : Shape := ⟨3, ![2, 352, 1024]⟩
abbrev S2 : Shape := ⟨1, ![2]⟩
abbrev S1 : Shape := ⟨1, ![1]⟩
abbrev S_ : Shape := ⟨0, ![]⟩
abbrev S1x128x5632 : Shape := ⟨3, ![1, 128, 5632]⟩
abbrev S128x5632 : Shape := ⟨2, ![128, 5632]⟩
abbrev S1x352x1024 : Shape := ⟨3, ![1, 352, 1024]⟩
abbrev S352x1024 : Shape := ⟨2, ![352, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S112x1024 : Shape := ⟨2, ![112, 1024]⟩
abbrev S128 : Shape := ⟨1, ![128]⟩
abbrev S128x1 : Shape := ⟨2, ![128, 1]⟩
abbrev S128x2816 : Shape := ⟨2, ![128, 2816]⟩

abbrev nBuf : Space → Nat
  | .hbm => 43
  | .vmem => 54
  | .smem => 0
  | _ => 0

abbrev bufTy : (tb : Table) → Fin (tcTables nBuf tb) → BufTy
  | .hbm, ⟨0, _⟩ => ⟨S8x2048x1024, .f32⟩
  | .hbm, ⟨1, _⟩ => ⟨S128x1x1024, .f32⟩
  | .hbm, ⟨2, _⟩ => ⟨S136x3072, .f32⟩
  | .hbm, ⟨3, _⟩ => ⟨S1x1024, .f32⟩
  | .hbm, ⟨4, _⟩ => ⟨S1x1024x5632, .f32⟩
  | .hbm, ⟨5, _⟩ => ⟨S1x2816x1024, .f32⟩
  | .hbm, ⟨6, _⟩ => ⟨S1x1024x7184, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1x1024x5632, .f32⟩
  | .hbm, ⟨11, _⟩ => ⟨S1x2816x1024, .f32⟩
  | .hbm, ⟨12, _⟩ => ⟨S8x1024, .f32⟩
  | .hbm, ⟨13, _⟩ => ⟨S128x1024, .f32⟩
  | .hbm, ⟨14, _⟩ => ⟨S1x1024x9216, .f32⟩
  | .hbm, ⟨15, _⟩ => ⟨S1x9216, .f32⟩
  | .hbm, ⟨16, _⟩ => ⟨S16384x1024, .f32⟩
  | .hbm, ⟨17, _⟩ => ⟨S136x1024, .f32⟩
  | .hbm, ⟨18, _⟩ => ⟨S9216, .f32⟩
  | .hbm, ⟨19, _⟩ => ⟨S1x9216, .f32⟩
  | .hbm, ⟨20, _⟩ => ⟨S1024x7184, .f32⟩
  | .hbm, ⟨21, _⟩ => ⟨S7184x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x5632, .f32⟩
  | .hbm, ⟨26, _⟩ => ⟨S2816x1024, .f32⟩
  | .hbm, ⟨27, _⟩ => ⟨S1024x9216, .f32⟩
  | .hbm, ⟨28, _⟩ => ⟨S1024, .f32⟩
  | .hbm, ⟨29, _⟩ => ⟨S1x1024, .f32⟩
  | .hbm, ⟨30, _⟩ => ⟨S1024x5632, .f32⟩
  | .hbm, ⟨31, _⟩ => ⟨S2816x1024, .f32⟩
  | .hbm, ⟨32, _⟩ => ⟨S16384x1024, .f32⟩
  | .hbm, ⟨33, _⟩ => ⟨S128x1024, .f32⟩
  | .hbm, ⟨34, _⟩ => ⟨S1024x3072, .bf16⟩
  | .hbm, ⟨35, _⟩ => ⟨S1024x128, .bf16⟩
  | .hbm, ⟨36, _⟩ => ⟨S1024x4096, .bf16⟩
  | .hbm, ⟨37, _⟩ => ⟨S1024x1024, .bf16⟩
  | .hbm, ⟨38, _⟩ => ⟨S1024x1024, .bf16⟩
  | .hbm, ⟨39, _⟩ => ⟨S1024x1024, .bf16⟩
  | .hbm, ⟨40, _⟩ => ⟨S1024x5632, .bf16⟩
  | .hbm, ⟨41, _⟩ => ⟨S2816x1024, .bf16⟩
  | .hbm, ⟨42, _⟩ => ⟨S136x6144, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | .local _ .vmem, ⟨9, _⟩ => ⟨S128x1024, .f32⟩
  | .local _ .vmem, ⟨10, _⟩ => ⟨S128x1024, .f32⟩
  | .local _ .vmem, ⟨11, _⟩ => ⟨S16x1024, .f32⟩
  | .local _ .vmem, ⟨12, _⟩ => ⟨S128x1024, .f32⟩
  | .local _ .vmem, ⟨13, _⟩ => ⟨S128x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .vmem, ⟨18, _⟩ => ⟨S32x1024, .f32⟩
  | .local _ .vmem, ⟨19, _⟩ => ⟨S32x1024, .f32⟩
  | .local _ .vmem, ⟨20, _⟩ => ⟨S32x5632, .f32⟩
  | .local _ .vmem, ⟨21, _⟩ => ⟨S32x5632, .f32⟩
  | .local _ .vmem, ⟨22, _⟩ => ⟨S176x1024, .f32⟩
  | .local _ .vmem, ⟨23, _⟩ => ⟨S176x1024, .f32⟩
  | .local _ .vmem, ⟨24, _⟩ => ⟨S136x1024, .f32⟩
  | .local _ .vmem, ⟨25, _⟩ => ⟨S1024x256, .f32⟩
  | .local _ .vmem, ⟨26, _⟩ => ⟨S1024x256, .f32⟩
  | .local _ .vmem, ⟨27, _⟩ => ⟨S1x256, .f32⟩
  | .local _ .vmem, ⟨28, _⟩ => ⟨S1x256, .f32⟩
  | .local _ .vmem, ⟨29, _⟩ => ⟨S512x1024, .f32⟩
  | .local _ .vmem, ⟨30, _⟩ => ⟨S512x1024, .f32⟩
  | .local _ .vmem, ⟨31, _⟩ => ⟨S128x1024, .f32⟩
  | .local _ .vmem, ⟨32, _⟩ => ⟨S1024x128, .bf16⟩
  | .local _ .vmem, ⟨33, _⟩ => ⟨S1024x128, .bf16⟩
  | .local _ .vmem, ⟨34, _⟩ => ⟨S1024x128, .bf16⟩
  | .local _ .vmem, ⟨35, _⟩ => ⟨S1024x128, .bf16⟩
  | .local _ .vmem, ⟨36, _⟩ => ⟨S1024x128, .bf16⟩
  | .local _ .vmem, ⟨37, _⟩ => ⟨S32x1024, .bf16⟩
  | .local _ .vmem, ⟨38, _⟩ => ⟨S32x1024, .bf16⟩
  | .local _ .vmem, ⟨39, _⟩ => ⟨S32x1024, .bf16⟩
  | .local _ .vmem, ⟨40, _⟩ => ⟨S32x1024, .bf16⟩
  | .local _ .vmem, ⟨41, _⟩ => ⟨S32x1024, .bf16⟩
  | .local _ .vmem, ⟨42, _⟩ => ⟨S32x1024, .bf16⟩
  | .local _ .vmem, ⟨43, _⟩ => ⟨S32x5632, .bf16⟩
  | .local _ .vmem, ⟨44, _⟩ => ⟨S32x5632, .bf16⟩
  | .local _ .vmem, ⟨45, _⟩ => ⟨S176x1024, .bf16⟩
  | .local _ .vmem, ⟨46, _⟩ => ⟨S176x1024, .bf16⟩
  | .local _ .vmem, ⟨47, _⟩ => ⟨S136x256, .f32⟩
  | .local _ .vmem, ⟨48, _⟩ => ⟨S136x256, .f32⟩
  | .local _ .vmem, ⟨49, _⟩ => ⟨S1024x5632, .bf16⟩
  | .local _ .vmem, ⟨50, _⟩ => ⟨S2816x1024, .bf16⟩
  | .local _ .vmem, ⟨51, _⟩ => ⟨S2x128x5632, .f32⟩
  | .local _ .vmem, ⟨52, _⟩ => ⟨S2x352x1024, .f32⟩
  | .local _ .vmem, ⟨53, _⟩ => ⟨S128x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev main_v16_3 : Ref sig .tc := ⟨.hbm, 35, rfl⟩
abbrev main_v16_4 : Ref sig .tc := ⟨.hbm, 36, rfl⟩
abbrev main_v16_5 : Ref sig .tc := ⟨.hbm, 37, rfl⟩
abbrev main_v16_6 : Ref sig .tc := ⟨.hbm, 38, rfl⟩
abbrev main_v16_7 : Ref sig .tc := ⟨.hbm, 39, rfl⟩
abbrev main_v16_8 : Ref sig .tc := ⟨.hbm, 40, rfl⟩
abbrev main_v16_9 : Ref sig .tc := ⟨.hbm, 41, rfl⟩
abbrev main_v16_10 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_stg25_0 : Ref sig .tc := ⟨.vmem, 39, rfl⟩
abbrev cc0_stg25_1 : Ref sig .tc := ⟨.vmem, 40, rfl⟩
abbrev cc0_stg26_0 : Ref sig .tc := ⟨.vmem, 41, rfl⟩
abbrev cc0_stg26_1 : Ref sig .tc := ⟨.vmem, 42, rfl⟩
abbrev cc0_stg27_0 : Ref sig .tc := ⟨.vmem, 43, rfl⟩
abbrev cc0_stg27_1 : Ref sig .tc := ⟨.vmem, 44, rfl⟩
abbrev cc0_stg28_0 : Ref sig .tc := ⟨.vmem, 45, rfl⟩
abbrev cc0_stg28_1 : Ref sig .tc := ⟨.vmem, 46, rfl⟩
abbrev cc0_stg29_0 : Ref sig .tc := ⟨.vmem, 47, rfl⟩
abbrev cc0_stg29_1 : Ref sig .tc := ⟨.vmem, 48, rfl⟩
abbrev cc0_scratch0 : Ref sig .tc := ⟨.vmem, 49, rfl⟩
abbrev cc0_scratch1 : Ref sig .tc := ⟨.vmem, 50, rfl⟩
abbrev cc0_scratch2 : Ref sig .tc := ⟨.vmem, 51, rfl⟩
abbrev cc0_scratch3 : Ref sig .tc := ⟨.vmem, 52, rfl⟩
abbrev cc0_scratch6 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem21_0 : DmaSem sig := 32
abbrev cc0_sem21_1 : DmaSem sig := 33
abbrev cc0_sem22_0 : DmaSem sig := 34
abbrev cc0_sem23_0 : DmaSem sig := 35
abbrev cc0_sem23_1 : DmaSem sig := 36
abbrev cc0_sem24_0 : DmaSem sig := 37
abbrev cc0_sem24_1 : DmaSem sig := 38
abbrev cc0_sem25_0 : DmaSem sig := 39
abbrev cc0_sem25_1 : DmaSem sig := 40
abbrev cc0_sem26_0 : DmaSem sig := 41
abbrev cc0_sem26_1 : DmaSem sig := 42
abbrev cc0_sem27_0 : DmaSem sig := 43
abbrev cc0_sem27_1 : DmaSem sig := 44
abbrev cc0_sem28_0 : DmaSem sig := 45
abbrev cc0_sem28_1 : DmaSem sig := 46
abbrev cc0_sem29_0 : DmaSem sig := 47
abbrev cc0_sem29_1 : DmaSem sig := 48

abbrev nD : Nat := 1
abbrev τ : Topo := Topo.v7x

variable {F : FTy → Type} [FloatOps F]

abbrev grid0 : Pipeline.Grid := ⟨1, ![33], ![false]⟩

def k0_mult1 (i : grid0.Coords) : BitVec 32 :=
  let c128_i32 : BitVec 32 := 128#32
  let arg0 : BitVec 32 := BitVec.ofNat 32 (i 0).val
  let c23_i32 : BitVec 32 := 23#32
  let v0 : BitVec 32 := Scalar.minsi arg0 c23_i32
  let v1 : BitVec 32 := Scalar.muli c128_i32 v0
  v1
def k0_mult2 (i : grid0.Coords) : BitVec 32 :=
  let c3088_i32 : BitVec 32 := 3088#32
  let c128_i32 : BitVec 32 := 128#32
  let arg0 : BitVec 32 := BitVec.ofNat 32 (i 0).val
  let c31_i32 : BitVec 32 := 31#32
  let v0 : BitVec 32 := Scalar.minsi arg0 c31_i32
  let v1 : BitVec 32 := Scalar.muli c128_i32 v0
  let v2 : BitVec 32 := Scalar.addi c3088_i32 v1
  v2
def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_3 : BitVec 32 := 0#32
  let v5 : BitVec 1 := Scalar.cmpi .ne v4 c0_i32_3
  v5

def k0_off1 (i : grid0.Coords) : Fin 2 → Nat :=
  let arg0 : BitVec 32 := BitVec.ofNat 32 (i 0).val
  let c0_i32_8 : BitVec 32 := 0#32
  let v10 : BitVec 1 := Scalar.cmpi .sgt arg0 c0_i32_8
  let v11 : BitVec 32 := Scalar.extui v10
  let c0_i32_9 : BitVec 32 := 0#32
  let v12 : BitVec 1 := Scalar.cmpi .slt arg0 c0_i32_9
  let v13 : BitVec 32 := Scalar.extui v12
  let v14 : BitVec 32 := Scalar.subi v11 v13
  let c4_i32 : BitVec 32 := 4#32
  let c0_i32_10 : BitVec 32 := 0#32
  let v15 : BitVec 1 := Scalar.cmpi .sgt c4_i32 c0_i32_10
  let v16 : BitVec 32 := Scalar.extui v15
  let c0_i32_11 : BitVec 32 := 0#32
  let v17 : BitVec 1 := Scalar.cmpi .slt c4_i32 c0_i32_11
  let v18 : BitVec 32 := Scalar.extui v17
  let v19 : BitVec 32 := Scalar.subi v16 v18
  let v20 : BitVec 1 := Scalar.cmpi .ne v14 v19
  let v21 : BitVec 32 := Scalar.remsi arg0 c4_i32
  let c0_i32_12 : BitVec 32 := 0#32
  let v22 : BitVec 1 := Scalar.cmpi .ne v21 c0_i32_12
  let v23 : BitVec 1 := Scalar.andi v20 v22
  let v9 : BitVec 32 := Scalar.divsi arg0 c4_i32
  let c1_i32 : BitVec 32 := 1#32
  let v24 : BitVec 32 := Scalar.subi v9 c1_i32
  let v25 : BitVec 32 := Scalar.select v23 v24 v9
  let v30 : Index := Scalar.indexCast v25
  let c0_16 : Index := 0#32
  ![v30.toNat, 0]
def k0_cond3 (i : grid0.Coords) : BitVec 1 :=
  let arg0 : BitVec 32 := BitVec.ofNat 32 (i 0).val
  let c32_i32_4 : BitVec 32 := 32#32
  let v6 : BitVec 1 := Scalar.cmpi .eq arg0 c32_i32_4
  let v7 : BitVec 32 := Scalar.extui v6
  let c0_i32_7 : BitVec 32 := 0#32
  let v8 : BitVec 1 := Scalar.cmpi .ne v7 c0_i32_7
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let c0_i32 : BitVec 32 := 0#32
  let c0_i32_0 : BitVec 32 := 0#32
  ![c16_i32.toNat, c0_i32.toNat]

def cc0_transform_2 (i : grid0.Coords) : Fin 2 → Nat :=
  let arg0 : BitVec 32 := BitVec.ofNat 32 (i 0).val
  let c16_i32 : BitVec 32 := 16#32
  let c1_i32 : BitVec 32 := 1#32
  let c0_i32 : BitVec 32 := 0#32
  ![c16_i32.toNat, c1_i32.toNat]

def cc0_transform_3 (i : grid0.Coords) : Fin 2 → Nat :=
  let arg0 : BitVec 32 := BitVec.ofNat 32 (i 0).val
  let c16_i32 : BitVec 32 := 16#32
  let c2_i32 : BitVec 32 := 2#32
  let c0_i32 : BitVec 32 := 0#32
  ![c16_i32.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c23_i32 : BitVec 32 := 23#32
  let v0 : BitVec 32 := Scalar.minsi arg0 c23_i32
  let c128_i32 : BitVec 32 := 128#32
  let v1 : BitVec 32 := Scalar.muli c128_i32 v0
  let v2 : BitVec 32 := v1
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let c3072_i32 : BitVec 32 := 3072#32
  let c0_i32 : BitVec 32 := 0#32
  let c0_i32_0 : BitVec 32 := 0#32
  ![c3072_i32.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.minsi arg0 c31_i32
  let c128_i32 : BitVec 32 := 128#32
  let v1 : BitVec 32 := Scalar.muli c128_i32 v0
  let c3088_i32 : BitVec 32 := 3088#32
  let v2 : BitVec 32 := Scalar.addi c3088_i32 v1
  let v3 : BitVec 32 := v2
  let c0_i32 : BitVec 32 := 0#32
  let c0_i32_0 : BitVec 32 := 0#32
  ![v3.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c23_i32 : BitVec 32 := 23#32
  let v0 : BitVec 32 := Scalar.minsi arg0 c23_i32
  let c12_i32 : BitVec 32 := 12#32
  let v1 : BitVec 32 := Scalar.addi c12_i32 v0
  let c0_i32 : BitVec 32 := 0#32
  let c0_i32_0 : BitVec 32 := 0#32
  ![c0_i32.toNat, v1.toNat]

def cc0_transform_21 (i : grid0.Coords) : Fin 2 → Nat :=
  let arg0 : BitVec 32 := BitVec.ofNat 32 (i 0).val
  let c23_i32 : BitVec 32 := 23#32
  let v0 : BitVec 32 := Scalar.minsi arg0 c23_i32
  let c12_i32 : BitVec 32 := 12#32
  let v1 : BitVec 32 := Scalar.addi c12_i32 v0
  let c0_i32 : BitVec 32 := 0#32
  let c0_i32_0 : BitVec 32 := 0#32
  ![c0_i32.toNat, v1.toNat]

def cc0_transform_22 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![c0_i32.toNat, v0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_27 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_28 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_29 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_30 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_31 (i : grid0.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_32 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![c0_i32.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x5632 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S176x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S136x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S1024x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1024x128 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1024x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S32x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S32x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S32x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S32x5632 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S176x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S136x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== ReferenceIdeal.lean ====
abbrev S8x2048x1024 : Shape := ⟨3, ![8, 2048, 1024]⟩
abbrev S128x1x1024 : Shape := ⟨3, ![128, 1, 1024]⟩
abbrev S136x3072 : Shape := ⟨2, ![136, 3072]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x7184 : Shape := ⟨3, ![1, 1024, 7184]⟩
abbrev S1x1024x1024 : Shape := ⟨3, ![1, 1024, 1024]⟩
abbrev S8x1024 : Shape := ⟨2, ![8, 1024]⟩
abbrev S128x1024 : Shape := ⟨2, ![128, 1024]⟩
abbrev S1x1024x9216 : Shape := ⟨3, ![1, 1024, 9216]⟩
abbrev S1x9216 : Shape := ⟨2, ![1, 9216]⟩
abbrev S8x3072 : Shape := ⟨2, ![8, 3072]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S1024x5632 : Shape := ⟨2, ![1024, 5632]⟩
abbrev S2816x1024 : Shape := ⟨2, ![2816, 1024]⟩
abbrev S8x2048x5632 : Shape := ⟨3, ![8, 2048, 5632]⟩
abbrev S8x2048x2816 : Shape := ⟨3, ![8, 2048, 2816]⟩
abbrev S16384x1024 : Shape := ⟨2, ![16384, 1024]⟩
abbrev S128x3072 : Shape := ⟨2, ![128, 3072]⟩
abbrev S128x1 : Shape := ⟨2, ![128, 1]⟩
abbrev S128x1x1 : Shape := ⟨3, ![128, 1, 1]⟩
abbrev S128x1x5632 : Shape := ⟨3, ![128, 1, 5632]⟩
abbrev S128x1x2816 : Shape := ⟨3, ![128, 1, 2816]⟩
abbrev S1024x7184 : Shape := ⟨2, ![1024, 7184]⟩
abbrev S1024x16 : Shape := ⟨2, ![1024, 16]⟩
abbrev S1024x112 : Shape := ⟨2, ![1024, 112]⟩
abbrev S1024x128 : Shape := ⟨2, ![1024, 128]⟩
abbrev S136x1024 : Shape := ⟨2, ![136, 1024]⟩
abbrev S1024x9216 : Shape := ⟨2, ![1024, 9216]⟩
abbrev S1024x6144 : Shape := ⟨2, ![1024, 6144]⟩
abbrev S136x6144 : Shape := ⟨2, ![136, 6144]⟩
abbrev S9216 : Shape := ⟨1, ![9216]⟩
abbrev S6144 : Shape := ⟨1, ![6144]⟩
abbrev S1x6144 : Shape := ⟨2, ![1, 6144]⟩
abbrev S1024x3072 : Shape := ⟨2, ![1024, 3072]⟩
abbrev S1024x4096 : Shape := ⟨2, ![1024, 4096]⟩
abbrev S1024x1024 : Shape := ⟨2, ![1024, 1024]⟩

abbrev nBuf : Space → Nat
  | .hbm => 159
  | .vmem => 0
  | .smem => 0
  | _ => 0

abbrev hbmTy0_0 (i : Nat) : BufTy := match i % 128 with
  | 0 => ⟨S8x2048x1024, .f32⟩
  | 1 => ⟨S128x1x1024, .f32⟩
  | 2 => ⟨S136x3072, .f32⟩
  | 3 => ⟨S1x1024, .f32⟩
  | 4 => ⟨S1x1024x5632, .f32⟩
  | 5 => ⟨S1x2816x1024, .f32⟩
  | 6 => ⟨S1x1024x7184, .f32⟩
  | 7 => ⟨S1x1024x1024, .f32⟩
  | 8 => ⟨S1x1024x1024, .f32⟩
  | 9 => ⟨S1x1024x1024, .f32⟩
  | 10 => ⟨S1x1024x5632, .f32⟩
  | 11 => ⟨S1x2816x1024, .f32⟩
  | 12 => ⟨S8x1024, .f32⟩
  | 13 => ⟨S128x1024, .f32⟩
  | 14 => ⟨S1x1024x9216, .f32⟩
  | 15 => ⟨S1x9216, .f32⟩
  | 16 => ⟨S8x3072, .f32⟩
  | 17 => ⟨S8x1024, .f32⟩
  | 18 => ⟨S8x1024, .f32⟩
  | 19 => ⟨S8x1024, .f32⟩
  | 20 => ⟨S1024, .f32⟩
  | 21 => ⟨S8x2048x1024, .f32⟩
  | 22 => ⟨S_, .f32⟩
  | 23 => ⟨S8x2048, .f32⟩
  | 24 => ⟨S8x2048x1, .f32⟩
  | 25 => ⟨S_, .f32⟩
  | 26 => ⟨S8x2048x1, .f32⟩
  | 27 => ⟨S8x2048x1, .f32⟩
  | 28 => ⟨S_, .f32⟩
  | 29 => ⟨S8x2048x1, .f32⟩
  | 30 => ⟨S8x2048x1, .f32⟩
  | 31 => ⟨S8x2048x1, .f32⟩
  | 32 => ⟨S8x2048x1024, .f32⟩
  | 33 => ⟨S8x2048x1024, .f32⟩
  | 34 => ⟨S1x1x1024, .f32⟩
  | 35 => ⟨S8x2048x1024, .f32⟩
  | 36 => ⟨S8x2048x1024, .f32⟩
  | 37 => ⟨S8x1x1024, .f32⟩
  | 38 => ⟨S_, .f32⟩
  | 39 => ⟨S8x1x1024, .f32⟩
  | 40 => ⟨S8x1x1024, .f32⟩
  | 41 => ⟨S8x2048x1024, .f32⟩
  | 42 => ⟨S8x2048x1024, .f32⟩
  | 43 => ⟨S8x1x1024, .f32⟩
  | 44 => ⟨S8x2048x1024, .f32⟩
  | 45 => ⟨S8x2048x1024, .f32⟩
  | 46 => ⟨S8x1x1024, .f32⟩
  | 47 => ⟨S_, .f32⟩
  | 48 => ⟨S8x1x1024, .f32⟩
  | 49 => ⟨S8x1x1024, .f32⟩
  | 50 => ⟨S1024x5632, .f32⟩
  | 51 => ⟨S2816x1024, .f32⟩
  | 52 => ⟨S8x2048x5632, .f32⟩
  | 53 => ⟨S8x2048x2816, .f32⟩
  | 54 => ⟨S8x2048x2816, .f32⟩
  | 55 => ⟨S8x2048x2816, .f32⟩
  | 56 => ⟨S8x2048x2816, .f32⟩
  | 57 => ⟨S_, .f32⟩
  | 58 => ⟨S8x2048x2816, .f32⟩
  | 59 => ⟨S8x2048x2816, .f32⟩
  | 60 => ⟨S_, .f32⟩
  | 61 => ⟨S8x2048x2816, .f32⟩
  | 62 => ⟨S8x2048x2816, .f32⟩
  | 63 => ⟨S8x2048x2816, .f32⟩
  | 64 => ⟨S8x2048x2816, .f32⟩
  | 65 => ⟨S8x2048x1024, .f32⟩
  | 66 => ⟨S8x2048x1024, .f32⟩
  | 67 => ⟨S8x2048x1024, .f32⟩
  | 68 => ⟨S8x2048x1024, .f32⟩
  | 69 => ⟨S16384x1024, .f32⟩
  | 70 => ⟨S128x3072, .f32⟩
  | 71 => ⟨S128x1024, .f32⟩
  | 72 => ⟨S128x1024, .f32⟩
  | 73 => ⟨S128x1024, .f32⟩
  | 74 => ⟨S1024, .f32⟩
  | 75 => ⟨S128x1x1024, .f32⟩
  | 76 => ⟨S_, .f32⟩
  | 77 => ⟨S128x1, .f32⟩
  | 78 => ⟨S128x1x1, .f32⟩
  | 79 => ⟨S_, .f32⟩
  | 80 => ⟨S128x1x1, .f32⟩
  | 81 => ⟨S128x1x1, .f32⟩
  | 82 => ⟨S_, .f32⟩
  | 83 => ⟨S128x1x1, .f32⟩
  | 84 => ⟨S128x1x1, .f32⟩
  | 85 => ⟨S128x1x1, .f32⟩
  | 86 => ⟨S128x1x1024, .f32⟩
  | 87 => ⟨S128x1x1024, .f32⟩
  | 88 => ⟨S1x1x1024, .f32⟩
  | 89 => ⟨S128x1x1024, .f32⟩
  | 90 => ⟨S128x1x1024, .f32⟩
  | 91 => ⟨S128x1x1024, .f32⟩
  | 92 => ⟨S_, .f32⟩
  | 93 => ⟨S128x1x1024, .f32⟩
  | 94 => ⟨S128x1x1024, .f32⟩
  | 95 => ⟨S128x1x1024, .f32⟩
  | 96 => ⟨S128x1x1024, .f32⟩
  | 97 => ⟨S128x1x1024, .f32⟩
  | 98 => ⟨S128x1x1024, .f32⟩
  | 99 => ⟨S_, .f32⟩
  | 100 => ⟨S128x1x1024, .f32⟩
  | 101 => ⟨S128x1x1024, .f32⟩
  | 102 => ⟨S1024x5632, .f32⟩
  | 103 => ⟨S2816x1024, .f32⟩
  | 104 => ⟨S128x1x5632, .f32⟩
  | 105 => ⟨S128x1x2816, .f32⟩
  | 106 => ⟨S128x1x2816, .f32⟩
  | 107 => ⟨S128x1x2816, .f32⟩
  | 108 => ⟨S128x1x2816, .f32⟩
  | 109 => ⟨S_, .f32⟩
  | 110 => ⟨S128x1x2816, .f32⟩
  | 111 => ⟨S128x1x2816, .f32⟩
  | 112 => ⟨S_, .f32⟩
  | 113 => ⟨S128x1x2816, .f32⟩
  | 114 => ⟨S128x1x2816, .f32⟩
  | 115 => ⟨S128x1x2816, .f32⟩
  | 116 => ⟨S128x1x2816, .f32⟩
  | 117 => ⟨S128x1x1024, .f32⟩
  | 118 => ⟨S128x1x1024, .f32⟩
  | 119 => ⟨S128x1x1024, .f32⟩
  | 120 => ⟨S128x1024, .f32⟩
  | 121 => ⟨S1024x7184, .f32⟩
  | 122 => ⟨S1024x16, .f32⟩
  | 123 => ⟨S_, .f32⟩
  | 124 => ⟨S1024x112, .f32⟩
  | 125 => ⟨S1024x128, .f32⟩
  | 126 => ⟨S136x1024, .f32⟩
  | 127 => ⟨S136x1024, .f32⟩
  | _ => ⟨S8x2048x1024, .f32⟩

abbrev hbmTy0_1 (i : Nat) : BufTy := match i % 128 with
  | 0 => ⟨S136x1024, .f32⟩
  | 1 => ⟨S_, .f32⟩
  | 2 => ⟨S136x1024, .f32⟩
  | 3 => ⟨S136x1024, .f32⟩
  | 4 => ⟨S_, .f32⟩
  | 5 => ⟨S136x1024, .f32⟩
  | 6 => ⟨S136x1024, .f32⟩
  | 7 => ⟨S136x1024, .f32⟩
  | 8 => ⟨S1024x9216, .f32⟩
  | 9 => ⟨S1024x6144, .f32⟩
  | 10 => ⟨S136x6144, .f32⟩
  | 11 => ⟨S9216, .f32⟩
  | 12 => ⟨S6144, .f32⟩
  | 13 => ⟨S1x6144, .f32⟩
  | 14 => ⟨S136x6144, .f32⟩
  | 15 => ⟨S136x6144, .f32⟩
  | 16 => ⟨S1024x3072, .f32⟩
  | 17 => ⟨S1024x3072, .bf16⟩
  | 18 => ⟨S1024x128, .bf16⟩
  | 19 => ⟨S1024x4096, .f32⟩
  | 20 => ⟨S1024x4096, .bf16⟩
  | 21 => ⟨S1024x1024, .f32⟩
  | 22 => ⟨S1024x1024, .bf16⟩
  | 23 => ⟨S1024x1024, .f32⟩
  | 24 => ⟨S1024x1024, .bf16⟩
  | 25 => ⟨S1024x1024, .f32⟩
  | 26 => ⟨S1024x1024, .bf16⟩
  | 27 => ⟨S1024x5632, .f32⟩
  | 28 => ⟨S1024x5632, .bf16⟩
  | 29 => ⟨S2816x1024, .f32⟩
  | 30 => ⟨S2816x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_4 : Ref sig .tc := ⟨.hbm, 76, rfl⟩
abbrev main_v47 : Ref sig .tc := ⟨.hbm, 77, rfl⟩
abbrev main_v48 : Ref sig .tc := ⟨.hbm, 78, rfl⟩
abbrev main_cst_5 : Ref sig .tc := ⟨.hbm, 79, rfl⟩
abbrev main_v49 : Ref sig .tc := ⟨.hbm, 80, rfl⟩
abbrev main_v50 : Ref sig .tc := ⟨.hbm, 81, rfl⟩
abbrev main_cst_6 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_7 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_8 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_call1_v0 : Ref sig .tc := ⟨.hbm, 107, rfl⟩
abbrev main_call1_v1 : Ref sig .tc := ⟨.hbm, 108, rfl⟩
abbrev main_call1_cst : Ref sig .tc := ⟨.hbm, 109, rfl⟩
abbrev main_call1_v2 : Ref sig .tc := ⟨.hbm, 110, rfl⟩
abbrev main_call1_v3 : Ref sig .tc := ⟨.hbm, 111, rfl⟩
abbrev main_call1_cst_0 : Ref sig .tc := ⟨.hbm, 112, rfl⟩
abbrev main_call1_v4 : Ref sig .tc := ⟨.hbm, 113, rfl⟩
abbrev main_call1_v5 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_9 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_call2_v0 : Ref sig .tc := ⟨.hbm, 127, rfl⟩
abbrev main_call2_v1 : Ref sig .tc := ⟨.hbm, 128, rfl⟩
abbrev main_call2_cst : Ref sig .tc := ⟨.hbm, 129, rfl⟩
abbrev main_call2_v2 : Ref sig .tc := ⟨.hbm, 130, rfl⟩
abbrev main_call2_v3 : Ref sig .tc := ⟨.hbm, 131, rfl⟩
abbrev main_call2_cst_0 : Ref sig .tc := ⟨.hbm, 132, rfl⟩
abbrev main_call2_v4 : Ref sig .tc := ⟨.hbm, 133, rfl⟩
abbrev main_call2_v5 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩

abbrev nD : Nat := 1
abbrev τ : Topo := Topo.v7x

variable {F : FTy → Type} [FloatOps F]
-- ==== Kernel2.lean ====
abbrev S16384x1024 : Shape := ⟨2, ![16384, 1024]⟩
abbrev S136x6144 : Shape := ⟨2, ![136, 6144]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S3x512x128 : Shape := ⟨3, ![3, 512, 128]⟩
abbrev S128x1024 : Shape := ⟨2, ![128, 1024]⟩
abbrev S1x128x4x128x256 : Shape := ⟨5, ![1, 128, 4, 128, 256]⟩
abbrev S128x7296 : Shape := ⟨2, ![128, 7296]⟩
abbrev S1x4x256 : Shape := ⟨3, ![1, 4, 256]⟩
abbrev S1x1024x1024 : Shape := ⟨3, ![1, 1024, 1024]⟩
abbrev S1x4x128x128 : Shape := ⟨4, ![1, 4, 128, 128]⟩
abbrev S1x4x128 : Shape := ⟨3, ![1, 4, 128]⟩
abbrev S4x256 : Shape := ⟨2, ![4, 256]⟩
abbrev S4x128 : Shape := ⟨2, ![4, 128]⟩
abbrev S128x4 : Shape := ⟨2, ![128, 4]⟩
abbrev S128x4x256 : Shape := ⟨3, ![128, 4, 256]⟩
abbrev S4x128x128 : Shape := ⟨3, ![4, 128, 128]⟩
abbrev S4x1x1 : Shape := ⟨3, ![4, 1, 1]⟩
abbrev S4 : Shape := ⟨1, ![4]⟩
abbrev S1024x5632 : Shape := ⟨2, ![1024, 5632]⟩
abbrev S2816x1024 : Shape := ⟨2, ![2816, 1024]⟩
abbrev S1024x1024 : Shape := ⟨2, ![1024, 1024]⟩
abbrev S128x1x1024 : Shape := ⟨3, ![128, 1, 1024]⟩
abbrev S1x128x1x1024 : Shape := ⟨4, ![1, 128, 1, 1024]⟩
abbrev S512x1024 : Shape := ⟨2, ![512, 1024]⟩
abbrev S8x1024 : Shape := ⟨2, ![8, 1024]⟩
abbrev S1x4x4x128x256 : Shape := ⟨5, ![1, 4, 4, 128, 256]⟩
abbrev S2 : Shape := ⟨1, ![2]⟩
abbrev S1x512x128 : Shape := ⟨3, ![1, 512, 128]⟩
abbrev S512x128 : Shape := ⟨2, ![512, 128]⟩
abbrev S1x1x1x128x256 : Shape := ⟨5, ![1, 1, 1, 128, 256]⟩
abbrev S128x256 : Shape := ⟨2, ![128, 256]⟩
abbrev S128x1 : Shape := ⟨2, ![128, 1]⟩
abbrev S256 : Shape := ⟨1, ![256]⟩
abbrev S1x256 : Shape := ⟨2, ![1, 256]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S128 : Shape := ⟨1, ![128]⟩
abbrev S1 : Shape := ⟨1, ![1]⟩
abbrev S_ : Shape := ⟨0, ![]⟩
abbrev S128x2816 : Shape := ⟨2, ![128, 2816]⟩

abbrev nBuf : Space → Nat
  | .hbm => 55
  | .vmem => 36
  | .smem => 0
  | _ => 0

abbrev bufTy : (tb : Table) → Fin (tcTables nBuf tb) → BufTy
  | .hbm, ⟨0, _⟩ => ⟨S16384x1024, .f32⟩
  | .hbm, ⟨1, _⟩ => ⟨S136x6144, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024, .f32⟩
  | .hbm, ⟨6, _⟩ => ⟨S3x512x128, .f32⟩
  | .hbm, ⟨7, _⟩ => ⟨S128x1024, .f32⟩
  | .hbm, ⟨8, _⟩ => ⟨S128x1024, .f32⟩
  | .hbm, ⟨9, _⟩ => ⟨S1x128x4x128x256, .f32⟩
  | .hbm, ⟨10, _⟩ => ⟨S128x1024, .f32⟩
  | .hbm, ⟨11, _⟩ => ⟨S128x7296, .f32⟩
  | .hbm, ⟨12, _⟩ => ⟨S1x4x256, .f32⟩
  | .hbm, ⟨13, _⟩ => ⟨S1x1024x1024, .f32⟩
  | .hbm, ⟨14, _⟩ => ⟨S1x1024, .f32⟩
  | .hbm, ⟨15, _⟩ => ⟨S1x1024, .f32⟩
  | .hbm, ⟨16, _⟩ => ⟨S1x4x128x128, .f32⟩
  | .hbm, ⟨17, _⟩ => ⟨S1x4x128, .f32⟩
  | .hbm, ⟨18, _⟩ => ⟨S1x1024x1024, .f32⟩
  | .hbm, ⟨19, _⟩ => ⟨S1x1024x1024, .f32⟩
  | .hbm, ⟨20, _⟩ => ⟨S4x256, .f32⟩
  | .hbm, ⟨21, _⟩ => ⟨S1x1024, .f32⟩
  | .hbm, ⟨22, _⟩ => ⟨S4x128, .f32⟩
  | .hbm, ⟨23, _⟩ => ⟨S128x4, .f32⟩
  | .hbm, ⟨24, _⟩ => ⟨S128x4x256, .f32⟩
  | .hbm, ⟨25, _⟩ => ⟨S128x1024, .f32⟩
  | .hbm, ⟨26, _⟩ => ⟨S4x128x128, .f32⟩
  | .hbm, ⟨27, _⟩ => ⟨S4x1x1, .f32⟩
  | .hbm, ⟨28, _⟩ => ⟨S4, .f32⟩
  | .hbm, ⟨29, _⟩ => ⟨S4x256, .f32⟩
  | .hbm, ⟨30, _⟩ => ⟨S1024, .f32⟩
  | .hbm, ⟨31, _⟩ => ⟨S1x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S1024x5632, .f32⟩
  | .hbm, ⟨36, _⟩ => ⟨S1024x5632, .bf16⟩
  | .hbm, ⟨37, _⟩ => ⟨S2816x1024, .f32⟩
  | .hbm, ⟨38, _⟩ => ⟨S2816x1024, .bf16⟩
  | .hbm, ⟨39, _⟩ => ⟨S1x1024, .f32⟩
  | .hbm, ⟨40, _⟩ => ⟨S1024x1024, .f32⟩
  | .hbm, ⟨41, _⟩ => ⟨S1024x1024, .bf16⟩
  | .hbm, ⟨42, _⟩ => ⟨S1024, .f32⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S1024x1024, .f32⟩
  | .hbm, ⟨47, _⟩ => ⟨S1024x1024, .bf16⟩
  | .hbm, ⟨48, _⟩ => ⟨S1024x1024, .f32⟩
  | .hbm, ⟨49, _⟩ => ⟨S1024x1024, .bf16⟩
  | .hbm, ⟨50, _⟩ => ⟨S16384x1024, .f32⟩
  | .hbm, ⟨51, _⟩ => ⟨S128x1024, .f32⟩
  | .hbm, ⟨52, _⟩ => ⟨S1x128x4x128x256, .f32⟩
  | .hbm, ⟨53, _⟩ => ⟨S128x1x1024, .f32⟩
  | .hbm, ⟨54, _⟩ => ⟨S1x128x1x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024, .f32⟩
  | .local _ .vmem, ⟨9, _⟩ => ⟨S3x512x128, .f32⟩
  | .local _ .vmem, ⟨10, _⟩ => ⟨S128x1024, .f32⟩
  | .local _ .vmem, ⟨11, _⟩ => ⟨S128x1024, .f32⟩
  | .local _ .vmem, ⟨12, _⟩ => ⟨S1x4x4x128x256, .f32⟩
  | .local _ .vmem, ⟨13, _⟩ => ⟨S1x4x4x128x256, .f32⟩
  | .local _ .vmem, ⟨14, _⟩ => ⟨S128x1024, .f32⟩
  | .local _ .vmem, ⟨15, _⟩ => ⟨S128x7296, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S1x1024, .f32⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1024x1024, .bf16⟩
  | .local _ .vmem, ⟨27, _⟩ => ⟨S1024x1024, .bf16⟩
  | .local _ .vmem, ⟨28, _⟩ => ⟨S512x1024, .f32⟩
  | .local _ .vmem, ⟨29, _⟩ => ⟨S512x1024, .f32⟩
  | .local _ .vmem, ⟨30, _⟩ => ⟨S128x1024, .f32⟩
  | .local _ .vmem, ⟨31, _⟩ => ⟨S1x4x4x128x256, .f32⟩
  | .local _ .vmem, ⟨32, _⟩ => ⟨S1x4x4x128x256, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30_0 : Ref sig .tc := ⟨.hbm, 50, rfl⟩
abbrev main_v30_1 : Ref sig .tc := ⟨.hbm, 51, rfl⟩
abbrev main_v30_2 : Ref sig .tc := ⟨.hbm, 52, rfl⟩
abbrev main_v30_3 : Ref sig .tc := ⟨.hbm, 53, rfl⟩
abbrev main_v30_4 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg26_1 : Ref sig .tc := ⟨.vmem, 29, rfl⟩
abbrev cc0_stg27_0 : Ref sig .tc := ⟨.vmem, 30, rfl⟩
abbrev cc0_stg28_0 : Ref sig .tc := ⟨.vmem, 31, rfl⟩
abbrev cc0_stg28_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem26_1 : DmaSem sig := 29
abbrev cc0_sem27_0 : DmaSem sig := 30
abbrev cc0_sem28_0 : DmaSem sig := 31
abbrev cc0_sem28_1 : DmaSem sig := 32

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_off1 (i : grid0.Coords) (c0_i32_16 : BitVec 32) : Fin 2 → Nat :=
  let arg0 : BitVec 32 := BitVec.ofNat 32 (i 0).val
  let c4_i32_15 : BitVec 32 := 4#32
  let v30 : BitVec 32 := Scalar.muli arg0 c4_i32_15
  let v31 : BitVec 32 := Scalar.addi v30 c0_i32_16
  let v39 : Index := Scalar.indexCast v31
  let c0_22 : Index := 0#32
  ![v39.toNat, 0]
def k0_off2 (i : grid0.Coords) (c0_i32_16 : BitVec 32) : Fin 2 → Nat :=
  let arg0 : BitVec 32 := BitVec.ofNat 32 (i 0).val
  let c4_i32_15 : BitVec 32 := 4#32
  let v30 : BitVec 32 := Scalar.muli arg0 c4_i32_15
  let v31 : BitVec 32 := Scalar.addi v30 c0_i32_16
  let v65 : Index := Scalar.indexCast v31
  let c256 : Index := 256#32
  ![v65.toNat, 256]
def k0_off3 (i : grid0.Coords) (c0_i32_16 : BitVec 32) : Fin 2 → Nat :=
  let arg0 : BitVec 32 := BitVec.ofNat 32 (i 0).val
  let c4_i32_15 : BitVec 32 := 4#32
  let v30 : BitVec 32 := Scalar.muli arg0 c4_i32_15
  let v31 : BitVec 32 := Scalar.addi v30 c0_i32_16
  let v91 : Index := Scalar.indexCast v31
  let c512 : Index := 512#32
  ![v91.toNat, 512]
def k0_off4 (i : grid0.Coords) (c0_i32_16 : BitVec 32) : Fin 2 → Nat :=
  let arg0 : BitVec 32 := BitVec.ofNat 32 (i 0).val
  let c4_i32_15 : BitVec 32 := 4#32
  let v30 : BitVec 32 := Scalar.muli arg0 c4_i32_15
  let v31 : BitVec 32 := Scalar.addi v30 c0_i32_16
  let v117 : Index := Scalar.indexCast v31
  let c768 : Index := 768#32
  ![v117.toNat, 768]
def k0_off5 (i : grid0.Coords) : Fin 2 → Nat :=
  let arg0 : BitVec 32 := BitVec.ofNat 32 (i 0).val
  let c0_i32_241 : BitVec 32 := 0#32
  let v455 : BitVec 1 := Scalar.cmpi .sgt arg0 c0_i32_241
  let v456 : BitVec 32 := Scalar.extui v455
  let c0_i32_242 : BitVec 32 := 0#32
  let v457 : BitVec 1 := Scalar.cmpi .slt arg0 c0_i32_242
  let v458 : BitVec 32 := Scalar.extui v457
  let v459 : BitVec 32 := Scalar.subi v456 v458
  let c4_i32_240 : BitVec 32 := 4#32
  let c0_i32_243 : BitVec 32 := 0#32
  let v460 : BitVec 1 := Scalar.cmpi .sgt c4_i32_240 c0_i32_243
  let v461 : BitVec 32 := Scalar.extui v460
  let c0_i32_244 : BitVec 32 := 0#32
  let v462 : BitVec 1 := Scalar.cmpi .slt c4_i32_240 c0_i32_244
  let v463 : BitVec 32 := Scalar.extui v462
  let v464 : BitVec 32 := Scalar.subi v461 v463
  let v465 : BitVec 1 := Scalar.cmpi .ne v459 v464
  let v466 : BitVec 32 := Scalar.remsi arg0 c4_i32_240
  let c0_i32_245 : BitVec 32 := 0#32
  let v467 : BitVec 1 := Scalar.cmpi .ne v466 c0_i32_245
  let v468 : BitVec 1 := Scalar.andi v465 v467
  let v454 : BitVec 32 := Scalar.divsi arg0 c4_i32_240
  let c1_i32_246 : BitVec 32 := 1#32
  let v469 : BitVec 32 := Scalar.subi v454 c1_i32_246
  let v470 : BitVec 32 := Scalar.select v468 v469 v454
  let v474 : Index := Scalar.indexCast v470
  let c0_251 : Index := 0#32
  ![v474.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let c3_i32 : BitVec 32 := 3#32
  let c0_i32 : BitVec 32 := 0#32
  ![c16_i32.toNat, c3_i32.toNat]

def cc0_transform_2 (i : grid0.Coords) : Fin 2 → Nat :=
  let arg0 : BitVec 32 := BitVec.ofNat 32 (i 0).val
  let c16_i32 : BitVec 32 := 16#32
  let c4_i32 : BitVec 32 := 4#32
  let c0_i32 : BitVec 32 := 0#32
  ![c16_i32.toNat, c4_i32.toNat]

def cc0_transform_3 (i : grid0.Coords) : Fin 2 → Nat :=
  let arg0 : BitVec 32 := BitVec.ofNat 32 (i 0).val
  let c16_i32 : BitVec 32 := 16#32
  let c5_i32 : BitVec 32 := 5#32
  let c0_i32 : BitVec 32 := 0#32
  ![c16_i32.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 5 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v0.toNat, c0_i32_0.toNat, c0_i32_1.toNat, c0_i32_2.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_15 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_16 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_17 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 5 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v0.toNat, c0_i32_0.toNat, c0_i32_1.toNat, c0_i32_2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x4x4x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x7296 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1024x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1024x1024 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S512x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 1 → Memref sig .tc .vmem S128x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 2 → Memref sig .tc .vmem S1x4x4x128x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== Reference2Ideal.lean ====
abbrev S16384x1024 : Shape := ⟨2, ![16384, 1024]⟩
abbrev S136x6144 : Shape := ⟨2, ![136, 6144]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S3x512x128 : Shape := ⟨3, ![3, 512, 128]⟩
abbrev S128x1024 : Shape := ⟨2, ![128, 1024]⟩
abbrev S1x128x4x128x256 : Shape := ⟨5, ![1, 128, 4, 128, 256]⟩
abbrev S128x7296 : Shape := ⟨2, ![128, 7296]⟩
abbrev S1x4x256 : Shape := ⟨3, ![1, 4, 256]⟩
abbrev S1x1024x1024 : Shape := ⟨3, ![1, 1024, 1024]⟩
abbrev S1x4x128x128 : Shape := ⟨4, ![1, 4, 128, 128]⟩
abbrev S1x4x128 : Shape := ⟨3, ![1, 4, 128]⟩
abbrev S8x2048x1024 : Shape := ⟨3, ![8, 2048, 1024]⟩
abbrev S8x6144 : Shape := ⟨2, ![8, 6144]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S1024x5632 : Shape := ⟨2, ![1024, 5632]⟩
abbrev S2816x1024 : Shape := ⟨2, ![2816, 1024]⟩
abbrev S8x2048x5632 : Shape := ⟨3, ![8, 2048, 5632]⟩
abbrev S8x2048x2816 : Shape := ⟨3, ![8, 2048, 2816]⟩
abbrev S1x512x128 : Shape := ⟨3, ![1, 512, 128]⟩
abbrev S512x128 : Shape := ⟨2, ![512, 128]⟩
abbrev S128x512 : Shape := ⟨2, ![128, 512]⟩
abbrev S128x4x128 : Shape := ⟨3, ![128, 4, 128]⟩
abbrev S128x4x256 : Shape := ⟨3, ![128, 4, 256]⟩
abbrev S128x4x128x1 : Shape := ⟨4, ![128, 4, 128, 1]⟩
abbrev S128x4x128x256 : Shape := ⟨4, ![128, 4, 128, 256]⟩
abbrev S128x4x1x256 : Shape := ⟨4, ![128, 4, 1, 256]⟩

abbrev nBuf : Space → Nat
  | .hbm => 115
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S136x6144, .f32⟩
  | .hbm, ⟨2, _⟩ => ⟨S1x1024, .f32⟩
  | .hbm, ⟨3, _⟩ => ⟨S1x1024x5632, .f32⟩
  | .hbm, ⟨4, _⟩ => ⟨S1x2816x1024, .f32⟩
  | .hbm, ⟨5, _⟩ => ⟨S1024, .f32⟩
  | .hbm, ⟨6, _⟩ => ⟨S3x512x128, .f32⟩
  | .hbm, ⟨7, _⟩ => ⟨S128x1024, .f32⟩
  | .hbm, ⟨8, _⟩ => ⟨S128x1024, .f32⟩
  | .hbm, ⟨9, _⟩ => ⟨S1x128x4x128x256, .f32⟩
  | .hbm, ⟨10, _⟩ => ⟨S128x1024, .f32⟩
  | .hbm, ⟨11, _⟩ => ⟨S128x7296, .f32⟩
  | .hbm, ⟨12, _⟩ => ⟨S1x4x256, .f32⟩
  | .hbm, ⟨13, _⟩ => ⟨S1x1024x1024, .f32⟩
  | .hbm, ⟨14, _⟩ => ⟨S1x1024, .f32⟩
  | .hbm, ⟨15, _⟩ => ⟨S1x1024, .f32⟩
  | .hbm, ⟨16, _⟩ => ⟨S1x4x128x128, .f32⟩
  | .hbm, ⟨17, _⟩ => ⟨S1x4x128, .f32⟩
  | .hbm, ⟨18, _⟩ => ⟨S1x1024x1024, .f32⟩
  | .hbm, ⟨19, _⟩ => ⟨S1x1024x1024, .f32⟩
  | .hbm, ⟨20, _⟩ => ⟨S8x2048x1024, .f32⟩
  | .hbm, ⟨21, _⟩ => ⟨S8x6144, .f32⟩
  | .hbm, ⟨22, _⟩ => ⟨S8x1024, .f32⟩
  | .hbm, ⟨23, _⟩ => ⟨S8x1024, .f32⟩
  | .hbm, ⟨24, _⟩ => ⟨S8x1024, .f32⟩
  | .hbm, ⟨25, _⟩ => ⟨S1024, .f32⟩
  | .hbm, ⟨26, _⟩ => ⟨S8x2048x1024, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x1024, .f32⟩
  | .hbm, ⟨38, _⟩ => ⟨S8x2048x1024, .f32⟩
  | .hbm, ⟨39, _⟩ => ⟨S1x1x1024, .f32⟩
  | .hbm, ⟨40, _⟩ => ⟨S8x2048x1024, .f32⟩
  | .hbm, ⟨41, _⟩ => ⟨S8x2048x1024, .f32⟩
  | .hbm, ⟨42, _⟩ => ⟨S8x1x1024, .f32⟩
  | .hbm, ⟨43, _⟩ => ⟨S_, .f32⟩
  | .hbm, ⟨44, _⟩ => ⟨S8x1x1024, .f32⟩
  | .hbm, ⟨45, _⟩ => ⟨S8x1x1024, .f32⟩
  | .hbm, ⟨46, _⟩ => ⟨S8x2048x1024, .f32⟩
  | .hbm, ⟨47, _⟩ => ⟨S8x2048x1024, .f32⟩
  | .hbm, ⟨48, _⟩ => ⟨S8x1x1024, .f32⟩
  | .hbm, ⟨49, _⟩ => ⟨S8x2048x1024, .f32⟩
  | .hbm, ⟨50, _⟩ => ⟨S8x2048x1024, .f32⟩
  | .hbm, ⟨51, _⟩ => ⟨S8x1x1024, .f32⟩
  | .hbm, ⟨52, _⟩ => ⟨S_, .f32⟩
  | .hbm, ⟨53, _⟩ => ⟨S8x1x1024, .f32⟩
  | .hbm, ⟨54, _⟩ => ⟨S8x1x1024, .f32⟩
  | .hbm, ⟨55, _⟩ => ⟨S1024x5632, .f32⟩
  | .hbm, ⟨56, _⟩ => ⟨S2816x1024, .f32⟩
  | .hbm, ⟨57, _⟩ => ⟨S8x2048x5632, .f32⟩
  | .hbm, ⟨58, _⟩ => ⟨S8x2048x2816, .f32⟩
  | .hbm, ⟨59, _⟩ => ⟨S8x2048x2816, .f32⟩
  | .hbm, ⟨60, _⟩ => ⟨S8x2048x2816, .f32⟩
  | .hbm, ⟨61, _⟩ => ⟨S8x2048x2816, .f32⟩
  | .hbm, ⟨62, _⟩ => ⟨S_, .f32⟩
  | .hbm, ⟨63, _⟩ => ⟨S8x2048x2816, .f32⟩
  | .hbm, ⟨64, _⟩ => ⟨S8x2048x2816, .f32⟩
  | .hbm, ⟨65, _⟩ => ⟨S_, .f32⟩
  | .hbm, ⟨66, _⟩ => ⟨S8x2048x2816, .f32⟩
  | .hbm, ⟨67, _⟩ => ⟨S8x2048x2816, .f32⟩
  | .hbm, ⟨68, _⟩ => ⟨S8x2048x2816, .f32⟩
  | .hbm, ⟨69, _⟩ => ⟨S8x2048x2816, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S8x2048x1024, .f32⟩
  | .hbm, ⟨75, _⟩ => ⟨S_, .f32⟩
  | .hbm, ⟨76, _⟩ => ⟨S8x2048, .f32⟩
  | .hbm, ⟨77, _⟩ => ⟨S8x2048x1, .f32⟩
  | .hbm, ⟨78, _⟩ => ⟨S_, .f32⟩
  | .hbm, ⟨79, _⟩ => ⟨S8x2048x1, .f32⟩
  | .hbm, ⟨80, _⟩ => ⟨S8x2048x1, .f32⟩
  | .hbm, ⟨81, _⟩ => ⟨S_, .f32⟩
  | .hbm, ⟨82, _⟩ => ⟨S8x2048x1, .f32⟩
  | .hbm, ⟨83, _⟩ => ⟨S8x2048x1, .f32⟩
  | .hbm, ⟨84, _⟩ => ⟨S8x2048x1, .f32⟩
  | .hbm, ⟨85, _⟩ => ⟨S8x2048x1024, .f32⟩
  | .hbm, ⟨86, _⟩ => ⟨S8x2048x1024, .f32⟩
  | .hbm, ⟨87, _⟩ => ⟨S1x1x1024, .f32⟩
  | .hbm, ⟨88, _⟩ => ⟨S8x2048x1024, .f32⟩
  | .hbm, ⟨89, _⟩ => ⟨S8x2048x1024, .f32⟩
  | .hbm, ⟨90, _⟩ => ⟨S16384x1024, .f32⟩
  | .hbm, ⟨91, _⟩ => ⟨S1x512x128, .f32⟩
  | .hbm, ⟨92, _⟩ => ⟨S512x128, .f32⟩
  | .hbm, ⟨93, _⟩ => ⟨S128x512, .f32⟩
  | .hbm, ⟨94, _⟩ => ⟨S128x4x128, .f32⟩
  | .hbm, ⟨95, _⟩ => ⟨S1x512x128, .f32⟩
  | .hbm, ⟨96, _⟩ => ⟨S512x128, .f32⟩
  | .hbm, ⟨97, _⟩ => ⟨S128x512, .f32⟩
  | .hbm, ⟨98, _⟩ => ⟨S128x4x128, .f32⟩
  | .hbm, ⟨99, _⟩ => ⟨S1x512x128, .f32⟩
  | .hbm, ⟨100, _⟩ => ⟨S512x128, .f32⟩
  | .hbm, ⟨101, _⟩ => ⟨S128x512, .f32⟩
  | .hbm, ⟨102, _⟩ => ⟨S128x4x128, .f32⟩
  | .hbm, ⟨103, _⟩ => ⟨S128x4x256, .f32⟩
  | .hbm, ⟨104, _⟩ => ⟨S128x4x128x1, .f32⟩
  | .hbm, ⟨105, _⟩ => ⟨S128x4x128x256, .f32⟩
  | .hbm, ⟨106, _⟩ => ⟨S128x4x128x256, .f32⟩
  | .hbm, ⟨107, _⟩ => ⟨S128x4x128x256, .f32⟩
  | .hbm, ⟨108, _⟩ => ⟨S128x4x128x1, .f32⟩
  | .hbm, ⟨109, _⟩ => ⟨S128x4x1x256, .f32⟩
  | .hbm, ⟨110, _⟩ => ⟨S128x4x128x256, .f32⟩
  | .hbm, ⟨111, _⟩ => ⟨S128x4x128x256, .f32⟩
  | .hbm, ⟨112, _⟩ => ⟨S128x4x128x256, .f32⟩
  | .hbm, ⟨113, _⟩ => ⟨S128x4x128x256, .f32⟩
  | .hbm, ⟨114, _⟩ => ⟨S1x128x4x128x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_3 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_4 : Ref sig .tc := ⟨.hbm, 75, rfl⟩
abbrev main_v42 : Ref sig .tc := ⟨.hbm, 76, rfl⟩
abbrev main_v43 : Ref sig .tc := ⟨.hbm, 77, rfl⟩
abbrev main_cst_5 : Ref sig .tc := ⟨.hbm, 78, rfl⟩
abbrev main_v44 : Ref sig .tc := ⟨.hbm, 79, rfl⟩
abbrev main_v45 : Ref sig .tc := ⟨.hbm, 80, rfl⟩
abbrev main_cst_6 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩

abbrev nD : Nat := 1
abbrev τ : Topo := Topo.v7x

variable {F : FTy → Type} [FloatOps F]
-- ==== Proof.Split.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The body's first conditional: whether the grid point is the first. -/
abbrev first (i : grid0.Coords) : BitVec 1 :=
  Scalar.cmpi .ne (Scalar.extui (Scalar.cmpi .eq (BitVec.ofNat 32 (i 0).val) 0#32) : BitVec 32) 0#32

/-- The statements the body runs at the first grid point alone, then `rest`: start the copy of the sample rows, and copy
    both weight matrices piece by piece through two slots each, cast to bf16 into their scratch buffers. -/
def loadThen (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .hbm S128x1x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S1x1024 .f32) (harg9 : arg9.IsWhole) (arg10 : Memref sig .tc .hbm S1024x5632 .f32) (harg10 : arg10.IsWhole) (arg11 : Memref sig .tc .hbm S2816x1024 .f32) (harg11 : arg11.IsWhole) (arg12 : Memref sig .tc .vmem S128x1024 .f32) (harg12 : arg12.IsWhole) (arg13 : Memref sig .tc .vmem S16x1024 .f32) (harg13 : arg13.IsWhole) (arg14 : Memref sig .tc .vmem S128x1024 .f32) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x5632 .f32) (harg18 : arg18.IsWhole) (arg19 : Memref sig .tc .vmem S176x1024 .f32) (harg19 : arg19.IsWhole) (arg20 : Memref sig .tc .vmem S136x1024 .f32) (harg20 : arg20.IsWhole) (arg21 : Memref sig .tc .vmem S1024x256 .f32) (harg21 : arg21.IsWhole) (arg22 : Memref sig .tc .vmem S1x256 .f32) (harg22 : arg22.IsWhole) (arg23 : Memref sig .tc .vmem S512x1024 .f32) (harg23 : arg23.IsWhole) (arg24 : Memref sig .tc .vmem S128x1024 .f32) (harg24 : arg24.IsWhole) (arg25 : Memref sig .tc .vmem S1024x128 .bf16) (harg25 : arg25.IsWhole) (arg26 : Memref sig .tc .vmem S1024x128 .bf16) (harg26 : arg26.IsWhole) (arg27 : Memref sig .tc .vmem S1024x128 .bf16) (harg27 : arg27.IsWhole) (arg28 : Memref sig .tc .vmem S32x1024 .bf16) (harg28 : arg28.IsWhole) (arg29 : Memref sig .tc .vmem S32x1024 .bf16) (harg29 : arg29.IsWhole) (arg30 : Memref sig .tc .vmem S32x1024 .bf16) (harg30 : arg30.IsWhole) (arg31 : Memref sig .tc .vmem S32x5632 .bf16) (harg31 : arg31.IsWhole) (arg32 : Memref sig .tc .vmem S176x1024 .bf16) (harg32 : arg32.IsWhole) (arg33 : Memref sig .tc .vmem S136x256 .f32) (harg33 : arg33.IsWhole) (arg34 : Memref sig .tc .vmem S1024x5632 .bf16) (harg34 : arg34.IsWhole) (arg35 : Memref sig .tc .vmem S2816x1024 .bf16) (harg35 : arg35.IsWhole) (arg36 : Memref sig .tc .vmem S2x128x5632 .f32) (harg36 : arg36.IsWhole) (arg37 : Memref sig .tc .vmem S2x352x1024 .f32) (harg37 : arg37.IsWhole) (arg38 : DmaSems sig S2) (arg39 : DmaSems sig S2) (arg40 : Memref sig .tc .vmem S128x1024 .f32) (harg40 : arg40.IsWhole) (arg41 : DmaSems sig S1) (rest : Prog (TpuEff nD τ sig (Elt F) Λ₀ .tc) PUnit) : Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg39 arg40 harg40 arg41
  let v61 : FVec F S128x5632 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg39 arg40 harg40 arg41
  k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg39 arg40 harg40 arg41 v61
  k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg39 arg40 harg40 arg41
  k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg39 arg40 harg40 arg41
  k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg39 arg40 harg40 arg41
  k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg39 arg40 harg40 arg41
  let v221 : FVec F S352x1024 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg39 arg40 harg40 arg41
  k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg39 arg40 harg40 arg41 v221
  let v249 : Memref sig .tc .vmem S1x352x1024 .f32 := arg37.slice (Rect.unit (s := S2x352x1024) ![0, 0, 0] S1x352x1024.size inb_S2x352x1024_S1x352x1024_0_0_0) (fun _ => rfl)
  let v250 : Memref sig .tc .vmem S352x1024 .f32 := v249.squeeze S352x1024 squeezes_S1x352x1024_S352x1024
  let v251 : Memref sig .tc .hbm S352x1024 .f32 := arg11.slice (Rect.unit (s := S2816x1024) ![2112, 0] S352x1024.size inb_S2816x1024_S352x1024_2112_0) (fun _ => rfl)
  let v247 : DmaSems sig S1 := arg39.slice (Rect.unit (s := S2) ![0] S1.size inb_S2_S1_0)
  let v248 : DmaSems sig S_ := v247.squeeze S_ squeezes_S1_S_
  Prog.lift (.waitDma2 v248.sem v251 v250 (View.wordExact_bits rfl) ((View.wordExact_bits rfl).reshape _ _))
  let v252 : Vec F S1x352x1024 .f32 ← Prog.lift (.load arg37 (Rect.unit (s := S2x352x1024) ![0, 0, 0] S1x352x1024.size inb_S2x352x1024_S1x352x1024_0_0_0).toLoadRect (View.loadsAt_vmem h_S1x352x1024))
  let v255 : Vec F S352x1024 .bf16 ← Prog.lift (.load arg35 (Rect.unit (s := S2816x1024) ![2112, 0] S352x1024.size inb_S2816x1024_S352x1024_2112_0).toLoadRect (View.loadsAt_vmem h_S352x1024))
  Prog.lift (.store arg35 (Rect.unit (s := S2816x1024) ![2112, 0] S352x1024.size inb_S2816x1024_S352x1024_2112_0) (k0_pay1 v252) Finset.univ (View.stores_vmem h_S352x1024 (harg35.storeExact_slice rfl _ packedbf16_S2816x1024_S352x1024_2112_0) (fun _ => rfl)) (.inl rfl))
  let v258 : DmaSems sig S1 := arg39.slice (Rect.unit (s := S2) ![1] S1.size inb_S2_S1_1)
  let v259 : DmaSems sig S_ := v258.squeeze S_ squeezes_S1_S_
  let v260 : Memref sig .tc .vmem S1x352x1024 .f32 := arg37.slice (Rect.unit (s := S2x352x1024) ![1, 0, 0] S1x352x1024.size inb_S2x352x1024_S1x352x1024_1_0_0) (fun _ => rfl)
  let v261 : Memref sig .tc .vmem S352x1024 .f32 := v260.squeeze S352x1024 squeezes_S1x352x1024_S352x1024
  let v262 : Memref sig .tc .hbm S352x1024 .f32 := arg11.slice (Rect.unit (s := S2816x1024) ![2464, 0] S352x1024.size inb_S2816x1024_S352x1024_2464_0) (fun _ => rfl)
  Prog.lift (.waitDma2 v259.sem v262 v261 (View.wordExact_bits rfl) ((View.wordExact_bits rfl).reshape _ _))
  let v263 : Vec F S1x352x1024 .f32 ← Prog.lift (.load arg37 (Rect.unit (s := S2x352x1024) ![1, 0, 0] S1x352x1024.size inb_S2x352x1024_S1x352x1024_1_0_0).toLoadRect (View.loadsAt_vmem h_S1x352x1024))
  let v266 : Vec F S352x1024 .bf16 ← Prog.lift (.load arg35 (Rect.unit (s := S2816x1024) ![2464, 0] S352x1024.size inb_S2816x1024_S352x1024_2464_0).toLoadRect (View.loadsAt_vmem h_S352x1024))
  Prog.lift (.store arg35 (Rect.unit (s := S2816x1024) ![2464, 0] S352x1024.size inb_S2816x1024_S352x1024_2464_0) (k0_pay2 v263) Finset.univ (View.stores_vmem h_S352x1024 (harg35.storeExact_slice rfl _ packedbf16_S2816x1024_S352x1024_2464_0) (fun _ => rfl)) (.inl rfl))
  rest

/-- What the body runs at every point: the block computation before the last point, the sample rows at the last. -/
def midBody (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .hbm S128x1x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S1x1024 .f32) (harg9 : arg9.IsWhole) (arg10 : Memref sig .tc .hbm S1024x5632 .f32) (harg10 : arg10.IsWhole) (arg11 : Memref sig .tc .hbm S2816x1024 .f32) (harg11 : arg11.IsWhole) (arg12 : Memref sig .tc .vmem S128x1024 .f32) (harg12 : arg12.IsWhole) (arg13 : Memref sig .tc .vmem S16x1024 .f32) (harg13 : arg13.IsWhole) (arg14 : Memref sig .tc .vmem S128x1024 .f32) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x5632 .f32) (harg18 : arg18.IsWhole) (arg19 : Memref sig .tc .vmem S176x1024 .f32) (harg19 : arg19.IsWhole) (arg20 : Memref sig .tc .vmem S136x1024 .f32) (harg20 : arg20.IsWhole) (arg21 : Memref sig .tc .vmem S1024x256 .f32) (harg21 : arg21.IsWhole) (arg22 : Memref sig .tc .vmem S1x256 .f32) (harg22 : arg22.IsWhole) (arg23 : Memref sig .tc .vmem S512x1024 .f32) (harg23 : arg23.IsWhole) (arg24 : Memref sig .tc .vmem S128x1024 .f32) (harg24 : arg24.IsWhole) (arg25 : Memref sig .tc .vmem S1024x128 .bf16) (harg25 : arg25.IsWhole) (arg26 : Memref sig .tc .vmem S1024x128 .bf16) (harg26 : arg26.IsWhole) (arg27 : Memref sig .tc .vmem S1024x128 .bf16) (harg27 : arg27.IsWhole) (arg28 : Memref sig .tc .vmem S32x1024 .bf16) (harg28 : arg28.IsWhole) (arg29 : Memref sig .tc .vmem S32x1024 .bf16) (harg29 : arg29.IsWhole) (arg30 : Memref sig .tc .vmem S32x1024 .bf16) (harg30 : arg30.IsWhole) (arg31 : Memref sig .tc .vmem S32x5632 .bf16) (harg31 : arg31.IsWhole) (arg32 : Memref sig .tc .vmem S176x1024 .bf16) (harg32 : arg32.IsWhole) (arg33 : Memref sig .tc .vmem S136x256 .f32) (harg33 : arg33.IsWhole) (arg34 : Memref sig .tc .vmem S1024x5632 .bf16) (harg34 : arg34.IsWhole) (arg35 : Memref sig .tc .vmem S2816x1024 .bf16) (harg35 : arg35.IsWhole) (arg36 : Memref sig .tc .vmem S2x128x5632 .f32) (harg36 : arg36.IsWhole) (arg37 : Memref sig .tc .vmem S2x352x1024 .f32) (harg37 : arg37.IsWhole) (arg38 : DmaSems sig S2) (arg39 : DmaSems sig S2) (arg40 : Memref sig .tc .vmem S128x1024 .f32) (harg40 : arg40.IsWhole) (arg41 : DmaSems sig S1) : Prog (TpuEff nD τ sig (Elt F) Λ₀ .tc) PUnit := do
  let arg0 : BitVec 32 := BitVec.ofNat 32 (i 0).val
  if k0_h2 : k0_cond2 i = 1#1 then do
    let ⟨v25, v27, v51⟩ : Σ' (v25 : BitVec 32) (v27 : FVec F S512x1024 .f32), FVec F S512x1024 .bf16 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg39 arg40 harg40 arg41 arg0 k0_h2
    let v85 : FVec F S128x1024 .f32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg39 arg40 harg40 arg41 k0_h2 v25 v27 v51
    let v114 : FVec F S32x5632 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg39 arg40 harg40 arg41 v85
    let v116 : Vec F S32x5632 .bf16 ← Prog.lift (.load arg31 (Rect.unit (s := S32x5632) ![0, 0] S32x5632.size inb_S32x5632_S32x5632_0_0).toLoadRect (View.loadsAt_vmem h_S32x5632))
    Prog.lift (.store arg31 (Rect.unit (s := S32x5632) ![0, 0] S32x5632.size inb_S32x5632_S32x5632_0_0) (k0_pay3 v114) Finset.univ (View.stores_vmem h_S32x5632 (harg31.storeExact_slice rfl _ packedbf16_S32x5632_S32x5632_0_0) (fun _ => rfl)) (.inl rfl))
    let v117 : Vec F S176x1024 .f32 ← Prog.lift (.load arg19 (Rect.unit (s := S176x1024) ![0, 0] S176x1024.size inb_S176x1024_S176x1024_0_0).toLoadRect (View.loadsAt_vmem h_S176x1024))
    let v120 : Vec F S176x1024 .bf16 ← Prog.lift (.load arg32 (Rect.unit (s := S176x1024) ![0, 0] S176x1024.size inb_S176x1024_S176x1024_0_0).toLoadRect (View.loadsAt_vmem h_S176x1024))
    Prog.lift (.store arg32 (Rect.unit (s := S176x1024) ![0, 0] S176x1024.size inb_S176x1024_S176x1024_0_0) (k0_pay4 v117) Finset.univ (View.stores_vmem h_S176x1024 (harg32.storeExact_slice rfl _ packedbf16_S176x1024_S176x1024_0_0) (fun _ => rfl)) (.inl rfl))
    pure ⟨⟩
  else do
    pure ⟨⟩
  if k0_h3 : k0_cond3 i = 1#1 then do
    let ⟨v13, v42, v43, v44⟩ : Σ' (v13 : Vec F S128x1024 .f32) (v42 : FVec F S128x2816 .bf16) (v43 : Vec F S128x1024 .f32), FVec F S128x1024 .f32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg39 arg40 harg40 arg41
    let v46 : Vec F S2816x1024 .bf16 ← Prog.lift (.load arg35 (Rect.unit (s := S2816x1024) ![0, 0] S2816x1024.size inb_S2816x1024_S2816x1024_0_0).toLoadRect (View.loadsAt_vmem h_S2816x1024))
    let v50 : Vec F S128x1024 .f32 ← Prog.lift (.load arg24 (Rect.unit (s := S128x1024) ![0, 0] S128x1024.size inb_S128x1024_S128x1024_0_0).toLoadRect (View.loadsAt_vmem h_S128x1024))
    Prog.lift (.store arg24 (Rect.unit (s := S128x1024) ![0, 0] S128x1024.size inb_S128x1024_S128x1024_0_0) (k0_pay5 v13 v42 v43 v44 v46) Finset.univ (View.stores_vmem_bits_univ h_S128x1024 rfl) (.inl rfl))
    pure ⟨⟩
  else do
    pure ⟨⟩
  pure ⟨⟩

set_option maxRecDepth 65536 in
/-- The body is its first-point statements, where the point is the first, before the rest. -/
theorem body_split (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .hbm S128x1x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S1x1024 .f32) (harg9 : arg9.IsWhole) (arg10 : Memref sig .tc .hbm S1024x5632 .f32) (harg10 : arg10.IsWhole) (arg11 : Memref sig .tc .hbm S2816x1024 .f32) (harg11 : arg11.IsWhole) (arg12 : Memref sig .tc .vmem S128x1024 .f32) (harg12 : arg12.IsWhole) (arg13 : Memref sig .tc .vmem S16x1024 .f32) (harg13 : arg13.IsWhole) (arg14 : Memref sig .tc .vmem S128x1024 .f32) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x5632 .f32) (harg18 : arg18.IsWhole) (arg19 : Memref sig .tc .vmem S176x1024 .f32) (harg19 : arg19.IsWhole) (arg20 : Memref sig .tc .vmem S136x1024 .f32) (harg20 : arg20.IsWhole) (arg21 : Memref sig .tc .vmem S1024x256 .f32) (harg21 : arg21.IsWhole) (arg22 : Memref sig .tc .vmem S1x256 .f32) (harg22 : arg22.IsWhole) (arg23 : Memref sig .tc .vmem S512x1024 .f32) (harg23 : arg23.IsWhole) (arg24 : Memref sig .tc .vmem S128x1024 .f32) (harg24 : arg24.IsWhole) (arg25 : Memref sig .tc .vmem S1024x128 .bf16) (harg25 : arg25.IsWhole) (arg26 : Memref sig .tc .vmem S1024x128 .bf16) (harg26 : arg26.IsWhole) (arg27 : Memref sig .tc .vmem S1024x128 .bf16) (harg27 : arg27.IsWhole) (arg28 : Memref sig .tc .vmem S32x1024 .bf16) (harg28 : arg28.IsWhole) (arg29 : Memref sig .tc .vmem S32x1024 .bf16) (harg29 : arg29.IsWhole) (arg30 : Memref sig .tc .vmem S32x1024 .bf16) (harg30 : arg30.IsWhole) (arg31 : Memref sig .tc .vmem S32x5632 .bf16) (harg31 : arg31.IsWhole) (arg32 : Memref sig .tc .vmem S176x1024 .bf16) (harg32 : arg32.IsWhole) (arg33 : Memref sig .tc .vmem S136x256 .f32) (harg33 : arg33.IsWhole) (arg34 : Memref sig .tc .vmem S1024x5632 .bf16) (harg34 : arg34.IsWhole) (arg35 : Memref sig .tc .vmem S2816x1024 .bf16) (harg35 : arg35.IsWhole) (arg36 : Memref sig .tc .vmem S2x128x5632 .f32) (harg36 : arg36.IsWhole) (arg37 : Memref sig .tc .vmem S2x352x1024 .f32) (harg37 : arg37.IsWhole) (arg38 : DmaSems sig S2) (arg39 : DmaSems sig S2) (arg40 : Memref sig .tc .vmem S128x1024 .f32) (harg40 : arg40.IsWhole) (arg41 : DmaSems sig S1) : cc0_ffn1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg39 arg40 harg40 arg41
    = if _h : first i = 1#1 then loadThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg39 arg40 harg40 arg41 (midBody i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg39 arg40 harg40 arg41) else midBody i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg39 arg40 harg40 arg41 := by
  rw [cc0_ffn1_eq_skeleton]; rfl

end Cert.KernelIdeal.Hand

end
-- ==== Proof.Slots.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.ReshapeSlab
public import Idealize.ShloMosaic.Lib.Pipeline.Value
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The contents of a buffer of core `c`. -/
abbrev Bf (F : FTy → Type) [FloatOps F] (c : Dev nD) (b : Ref sig .tc) : Type := Buf (Elt F) ((Memref.whole b).view.loc (c : Thread nD τ))

/-- The sample rows in HBM, their middle axis dropped: what the body copies from. -/
abbrev xsM : Memref sig .tc .hbm S128x1024 .f32 :=
  ((Memref.whole main_arg1).slice (Rect.unit ![0, 0, 0] S128x1x1024.size inb_S128x1x1024_S128x1x1024_0_0_0) (fun _ => rfl)).squeeze
    S128x1024 squeezes_S128x1x1024_S128x1024

/-- The two slots the rows of the first weight matrix pass through. -/
abbrev slotA0 : Memref sig .tc .vmem S128x5632 .f32 :=
  ((Memref.whole cc0_scratch2).slice (Rect.unit ![0, 0, 0] S1x128x5632.size inb_S2x128x5632_S1x128x5632_0_0_0) (fun _ => rfl)).squeeze
    S128x5632 squeezes_S1x128x5632_S128x5632
@[inherit_doc slotA0] abbrev slotA1 : Memref sig .tc .vmem S128x5632 .f32 :=
  ((Memref.whole cc0_scratch2).slice (Rect.unit ![1, 0, 0] S1x128x5632.size inb_S2x128x5632_S1x128x5632_1_0_0) (fun _ => rfl)).squeeze
    S128x5632 squeezes_S1x128x5632_S128x5632

/-- The two slots the rows of the second weight matrix pass through. -/
abbrev slotB0 : Memref sig .tc .vmem S352x1024 .f32 :=
  ((Memref.whole cc0_scratch3).slice (Rect.unit ![0, 0, 0] S1x352x1024.size inb_S2x352x1024_S1x352x1024_0_0_0) (fun _ => rfl)).squeeze
    S352x1024 squeezes_S1x352x1024_S352x1024
@[inherit_doc slotB0] abbrev slotB1 : Memref sig .tc .vmem S352x1024 .f32 :=
  ((Memref.whole cc0_scratch3).slice (Rect.unit ![1, 0, 0] S1x352x1024.size inb_S2x352x1024_S1x352x1024_1_0_0) (fun _ => rfl)).squeeze
    S352x1024 squeezes_S1x352x1024_S352x1024

/-- The first weight matrix cast to bf16: what the first weight scratch holds from the first point on. -/
def wB13 (c : Dev nD) (f13 : Bf F c main_v14) : Bf F c cc0_scratch0 :=
  truncf .bf16 (show FVec F S1024x5632 .f32 from f13) bitsLt_bf16_f32

/-- The second weight matrix cast to bf16: what the second weight scratch holds from the first point on. -/
def wB2 (c : Dev nD) (f2 : Bf F c main_v15) : Bf F c cc0_scratch1 :=
  truncf .bf16 (show FVec F S2816x1024 .f32 from f2) bitsLt_bf16_f32

/-- A slot reads through a write to another slot of the same buffer. -/
theorem read_other {κ : Kind} {cs : Space} {s s' s'' : Shape} {e : EltTy} {Val : EltTy → Type} (M : Memref sig κ cs s e)
    (r r' : Rect s) (hr : ∀ a, r.stride a = 1) (hr' : ∀ a, r'.stride a = 1) (hq : r.shape.Squeezes s') (hq' : r'.shape.Squeezes s'')
    (hd : Disjoint (M.view.slice r').set (M.view.slice r).set) (f : M.view.ty.Contents Val) (w : s''.Idx → Val e) :
    ((M.slice r hr).squeeze s' hq).view.read Val (((M.slice r' hr').squeeze s'' hq').view.write Val f w Finset.univ)
      = ((M.slice r hr).squeeze s' hq).view.read Val f := by
  refine View.read_congr fun i hi => View.write_of_not_mem _ _ _ fun hi' => ?_
  have h1 : i ∈ (M.view.slice r').set := by
    have : ((M.slice r' hr').squeeze s'' hq').view.set = (M.view.slice r').set := Memref.set_view_squeeze _ _
    rw [← this]; exact hi'
  have h2 : i ∈ (M.view.slice r).set := by
    have : ((M.slice r hr).squeeze s' hq).view.set = (M.view.slice r).set := Memref.set_view_squeeze _ _
    rw [← this]; exact hi
  exact (Finset.disjoint_left.mp hd) h1 h2

theorem slotA0_own (f : (Memref.whole cc0_scratch2).view.ty.Contents (Elt F)) (w : S128x5632.Idx → Elt F .f32) :
    slotA0.view.read (Elt F) (slotA0.view.write (Elt F) f w Finset.univ) = w := View.read_write_univ _ _

theorem slotA0_other (f : (Memref.whole cc0_scratch2).view.ty.Contents (Elt F)) (w : S128x5632.Idx → Elt F .f32) :
    slotA0.view.read (Elt F) (slotA1.view.write (Elt F) f w Finset.univ) = slotA0.view.read (Elt F) f :=
  read_other _ _ _ _ _ _ _ (View.disjoint_slice_of_sep _ _ _ 0 rfl rfl (by decide)) f w

theorem slotA1_own (f : (Memref.whole cc0_scratch2).view.ty.Contents (Elt F)) (w : S128x5632.Idx → Elt F .f32) :
    slotA1.view.read (Elt F) (slotA1.view.write (Elt F) f w Finset.univ) = w := View.read_write_univ _ _

theorem slotA1_other (f : (Memref.whole cc0_scratch2).view.ty.Contents (Elt F)) (w : S128x5632.Idx → Elt F .f32) :
    slotA1.view.read (Elt F) (slotA0.view.write (Elt F) f w Finset.univ) = slotA1.view.read (Elt F) f :=
  read_other _ _ _ _ _ _ _ (View.disjoint_slice_of_sep _ _ _ 0 rfl rfl (by decide)) f w

theorem slotB0_own (f : (Memref.whole cc0_scratch3).view.ty.Contents (Elt F)) (w : S352x1024.Idx → Elt F .f32) :
    slotB0.view.read (Elt F) (slotB0.view.write (Elt F) f w Finset.univ) = w := View.read_write_univ _ _

theorem slotB0_other (f : (Memref.whole cc0_scratch3).view.ty.Contents (Elt F)) (w : S352x1024.Idx → Elt F .f32) :
    slotB0.view.read (Elt F) (slotB1.view.write (Elt F) f w Finset.univ) = slotB0.view.read (Elt F) f :=
  read_other _ _ _ _ _ _ _ (View.disjoint_slice_of_sep _ _ _ 0 rfl rfl (by decide)) f w

theorem slotB1_own (f : (Memref.whole cc0_scratch3).view.ty.Contents (Elt F)) (w : S352x1024.Idx → Elt F .f32) :
    slotB1.view.read (Elt F) (slotB1.view.write (Elt F) f w Finset.univ) = w := View.read_write_univ _ _

theorem slotB1_other (f : (Memref.whole cc0_scratch3).view.ty.Contents (Elt F)) (w : S352x1024.Idx → Elt F .f32) :
    slotB1.view.read (Elt F) (slotB0.view.write (Elt F) f w Finset.univ) = slotB1.view.read (Elt F) f :=
  read_other _ _ _ _ _ _ _ (View.disjoint_slice_of_sep _ _ _ 0 rfl rfl (by decide)) f w

/-- What the body stores of piece 0 of the first weight matrix is the slot's contents cast to bf16. -/
theorem pieceA0 (X : (Memref.whole cc0_scratch2).view.ty.Contents (Elt F)) :
    k0_pay6 (View.readAt (Elt F) (Memref.whole cc0_scratch2).view (Rect.unit (s := S2x128x5632) ![0, 0, 0] S1x128x5632.size inb_S2x128x5632_S1x128x5632_0_0_0).toLoadRect X)
      = truncf .bf16 (show FVec F S128x5632 .f32 from slotA0.view.read (Elt F) X) bitsLt_bf16_f32 := by
  unfold k0_pay6; dsimp only; rw [shapeCast_self]; rfl

/-- What the body stores of piece 1 of the first weight matrix is the slot's contents cast to bf16. -/
theorem pieceA1 (X : (Memref.whole cc0_scratch2).view.ty.Contents (Elt F)) :
    k0_pay7 (View.readAt (Elt F) (Memref.whole cc0_scratch2).view (Rect.unit (s := S2x128x5632) ![1, 0, 0] S1x128x5632.size inb_S2x128x5632_S1x128x5632_1_0_0).toLoadRect X)
      = truncf .bf16 (show FVec F S128x5632 .f32 from slotA1.view.read (Elt F) X) bitsLt_bf16_f32 := by
  unfold k0_pay7; dsimp only; rw [shapeCast_self]; rfl

/-- What the body stores of piece 2 of the first weight matrix is the slot's contents cast to bf16. -/
theorem pieceA2 (X : (Memref.whole cc0_scratch2).view.ty.Contents (Elt F)) :
    k0_pay9 (k0_pay8 (View.readAt (Elt F) (Memref.whole cc0_scratch2).view (Rect.unit (s := S2x128x5632) ![0, 0, 0] S1x128x5632.size inb_S2x128x5632_S1x128x5632_0_0_0).toLoadRect X))
      = truncf .bf16 (show FVec F S128x5632 .f32 from slotA0.view.read (Elt F) X) bitsLt_bf16_f32 := by
  unfold k0_pay9 k0_pay8; dsimp only; rw [shapeCast_self]; rfl

/-- What the body stores of piece 3 of the first weight matrix is the slot's contents cast to bf16. -/
theorem pieceA3 (X : (Memref.whole cc0_scratch2).view.ty.Contents (Elt F)) :
    k0_pay10 (View.readAt (Elt F) (Memref.whole cc0_scratch2).view (Rect.unit (s := S2x128x5632) ![1, 0, 0] S1x128x5632.size inb_S2x128x5632_S1x128x5632_1_0_0).toLoadRect X)
      = truncf .bf16 (show FVec F S128x5632 .f32 from slotA1.view.read (Elt F) X) bitsLt_bf16_f32 := by
  unfold k0_pay10; dsimp only; rw [shapeCast_self]; rfl

/-- What the body stores of piece 4 of the first weight matrix is the slot's contents cast to bf16. -/
theorem pieceA4 (X : (Memref.whole cc0_scratch2).view.ty.Contents (Elt F)) :
    k0_pay11 (View.readAt (Elt F) (Memref.whole cc0_scratch2).view (Rect.unit (s := S2x128x5632) ![0, 0, 0] S1x128x5632.size inb_S2x128x5632_S1x128x5632_0_0_0).toLoadRect X)
      = truncf .bf16 (show FVec F S128x5632 .f32 from slotA0.view.read (Elt F) X) bitsLt_bf16_f32 := by
  unfold k0_pay11; dsimp only; rw [shapeCast_self]; rfl

/-- What the body stores of piece 5 of the first weight matrix is the slot's contents cast to bf16. -/
theorem pieceA5 (X : (Memref.whole cc0_scratch2).view.ty.Contents (Elt F)) :
    k0_pay12 (View.readAt (Elt F) (Memref.whole cc0_scratch2).view (Rect.unit (s := S2x128x5632) ![1, 0, 0] S1x128x5632.size inb_S2x128x5632_S1x128x5632_1_0_0).toLoadRect X)
      = truncf .bf16 (show FVec F S128x5632 .f32 from slotA1.view.read (Elt F) X) bitsLt_bf16_f32 := by
  unfold k0_pay12; dsimp only; rw [shapeCast_self]; rfl

/-- What the body stores of piece 6 of the first weight matrix is the slot's contents cast to bf16. -/
theorem pieceA6 (X : (Memref.whole cc0_scratch2).view.ty.Contents (Elt F)) :
    k0_pay13 (View.readAt (Elt F) (Memref.whole cc0_scratch2).view (Rect.unit (s := S2x128x5632) ![0, 0, 0] S1x128x5632.size inb_S2x128x5632_S1x128x5632_0_0_0).toLoadRect X)
      = truncf .bf16 (show FVec F S128x5632 .f32 from slotA0.view.read (Elt F) X) bitsLt_bf16_f32 := by
  unfold k0_pay13; dsimp only; rw [shapeCast_self]; rfl

/-- What the body stores of piece 7 of the first weight matrix is the slot's contents cast to bf16. -/
theorem pieceA7 (X : (Memref.whole cc0_scratch2).view.ty.Contents (Elt F)) :
    k0_pay14 (View.readAt (Elt F) (Memref.whole cc0_scratch2).view (Rect.unit (s := S2x128x5632) ![1, 0, 0] S1x128x5632.size inb_S2x128x5632_S1x128x5632_1_0_0).toLoadRect X)
      = truncf .bf16 (show FVec F S128x5632 .f32 from slotA1.view.read (Elt F) X) bitsLt_bf16_f32 := by
  unfold k0_pay14; dsimp only; rw [shapeCast_self]; rfl

/-- What the body stores of piece 0 of the second weight matrix is the slot's contents cast to bf16. -/
theorem pieceB0 (X : (Memref.whole cc0_scratch3).view.ty.Contents (Elt F)) :
    k0_pay15 (View.readAt (Elt F) (Memref.whole cc0_scratch3).view (Rect.unit (s := S2x352x1024) ![0, 0, 0] S1x352x1024.size inb_S2x352x1024_S1x352x1024_0_0_0).toLoadRect X)
      = truncf .bf16 (show FVec F S352x1024 .f32 from slotB0.view.read (Elt F) X) bitsLt_bf16_f32 := by
  unfold k0_pay15; dsimp only; rw [shapeCast_self]; rfl

/-- What the body stores of piece 1 of the second weight matrix is the slot's contents cast to bf16. -/
theorem pieceB1 (X : (Memref.whole cc0_scratch3).view.ty.Contents (Elt F)) :
    k0_pay16 (View.readAt (Elt F) (Memref.whole cc0_scratch3).view (Rect.unit (s := S2x352x1024) ![1, 0, 0] S1x352x1024.size inb_S2x352x1024_S1x352x1024_1_0_0).toLoadRect X)
      = truncf .bf16 (show FVec F S352x1024 .f32 from slotB1.view.read (Elt F) X) bitsLt_bf16_f32 := by
  unfold k0_pay16; dsimp only; rw [shapeCast_self]; rfl

/-- What the body stores of piece 2 of the second weight matrix is the slot's contents cast to bf16. -/
theorem pieceB2 (X : (Memref.whole cc0_scratch3).view.ty.Contents (Elt F)) :
    k0_pay17 (View.readAt (Elt F) (Memref.whole cc0_scratch3).view (Rect.unit (s := S2x352x1024) ![0, 0, 0] S1x352x1024.size inb_S2x352x1024_S1x352x1024_0_0_0).toLoadRect X)
      = truncf .bf16 (show FVec F S352x1024 .f32 from slotB0.view.read (Elt F) X) bitsLt_bf16_f32 := by
  unfold k0_pay17; dsimp only; rw [shapeCast_self]; rfl

/-- What the body stores of piece 3 of the second weight matrix is the slot's contents cast to bf16. -/
theorem pieceB3 (X : (Memref.whole cc0_scratch3).view.ty.Contents (Elt F)) :
    k0_pay18 (View.readAt (Elt F) (Memref.whole cc0_scratch3).view (Rect.unit (s := S2x352x1024) ![1, 0, 0] S1x352x1024.size inb_S2x352x1024_S1x352x1024_1_0_0).toLoadRect X)
      = truncf .bf16 (show FVec F S352x1024 .f32 from slotB1.view.read (Elt F) X) bitsLt_bf16_f32 := by
  unfold k0_pay18; dsimp only; rw [shapeCast_self]; rfl

/-- What the body stores of piece 4 of the second weight matrix is the slot's contents cast to bf16. -/
theorem pieceB4 (X : (Memref.whole cc0_scratch3).view.ty.Contents (Elt F)) :
    k0_pay20 (k0_pay19 (View.readAt (Elt F) (Memref.whole cc0_scratch3).view (Rect.unit (s := S2x352x1024) ![0, 0, 0] S1x352x1024.size inb_S2x352x1024_S1x352x1024_0_0_0).toLoadRect X))
      = truncf .bf16 (show FVec F S352x1024 .f32 from slotB0.view.read (Elt F) X) bitsLt_bf16_f32 := by
  unfold k0_pay20 k0_pay19; dsimp only; rw [shapeCast_self]; rfl

/-- What the body stores of piece 5 of the second weight matrix is the slot's contents cast to bf16. -/
theorem pieceB5 (X : (Memref.whole cc0_scratch3).view.ty.Contents (Elt F)) :
    k0_pay21 (View.readAt (Elt F) (Memref.whole cc0_scratch3).view (Rect.unit (s := S2x352x1024) ![1, 0, 0] S1x352x1024.size inb_S2x352x1024_S1x352x1024_1_0_0).toLoadRect X)
      = truncf .bf16 (show FVec F S352x1024 .f32 from slotB1.view.read (Elt F) X) bitsLt_bf16_f32 := by
  unfold k0_pay21; dsimp only; rw [shapeCast_self]; rfl

/-- What the body stores of piece 6 of the second weight matrix is the slot's contents cast to bf16. -/
theorem pieceB6 (X : (Memref.whole cc0_scratch3).view.ty.Contents (Elt F)) :
    k0_pay1 (View.readAt (Elt F) (Memref.whole cc0_scratch3).view (Rect.unit (s := S2x352x1024) ![0, 0, 0] S1x352x1024.size inb_S2x352x1024_S1x352x1024_0_0_0).toLoadRect X)
      = truncf .bf16 (show FVec F S352x1024 .f32 from slotB0.view.read (Elt F) X) bitsLt_bf16_f32 := by
  unfold k0_pay1; dsimp only; rw [shapeCast_self]; rfl

/-- What the body stores of piece 7 of the second weight matrix is the slot's contents cast to bf16. -/
theorem pieceB7 (X : (Memref.whole cc0_scratch3).view.ty.Contents (Elt F)) :
    k0_pay2 (View.readAt (Elt F) (Memref.whole cc0_scratch3).view (Rect.unit (s := S2x352x1024) ![1, 0, 0] S1x352x1024.size inb_S2x352x1024_S1x352x1024_1_0_0).toLoadRect X)
      = truncf .bf16 (show FVec F S352x1024 .f32 from slotB1.view.read (Elt F) X) bitsLt_bf16_f32 := by
  unfold k0_pay2; dsimp only; rw [shapeCast_self]; rfl

/-- Contents written piece by piece, each piece what one array has at the piece's places, read as that array wherever some
    piece covers. -/
theorem read_writes_of_agree {κ : Kind} {sp : Space} {s : Shape} {e : EltTy} {Val : EltTy → Type} (v : View sig κ sp s e)
    (f : v.ty.Contents Val) (g : s.Idx → Val e) (y : s.Idx) :
    ∀ L : List (View.Piece Val s e), (∀ p ∈ L, ∀ x, p.2 x = g (p.1.emb x)) → (∃ p ∈ L, y ∈ p.1.set) → v.read Val (v.writes Val f L) y = g y
  | [], _, h => by obtain ⟨_, hm, _⟩ := h; exact absurd hm List.not_mem_nil
  | p :: L, hL, h => by
    by_cases hy : y ∈ p.1.set
    · obtain ⟨x, rfl⟩ : ∃ x, p.1.emb x = y := p.1.exists_idx_of_mem hy
      obtain ⟨r, w⟩ := p
      rw [View.read_writes_cons_emb]
      exact hL _ List.mem_cons_self x
    · rw [View.writes_cons, View.read_slice_write_of_not_mem p.1 _ _ _ (by rw [Rect.map_emb_univ]; exact hy)]
      refine read_writes_of_agree v f g y L (fun q hq => hL q (List.mem_cons_of_mem _ hq)) ?_
      obtain ⟨q, hq, hyq⟩ := h
      rcases List.mem_cons.mp hq with rfl | hq
      · exact absurd hyq hy
      · exact ⟨q, hq, hyq⟩

end Cert.KernelIdeal.Hand

end
-- ==== Proof.Load.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import proofs.«01_k».proof.Proof.Split
public import Idealize.ShloMosaic.Lib.Ring
public import proofs.«01_k».proof.Proof.Slots
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The copy of the sample rows, started and not yet waited for, with what is left of the rows' array meanwhile. -/
def xsFlying (c : Dev nD) (fx : Bf F c main_arg1) : sProp 𝕄 :=
  iprop((∃ s6 : Bf F c cc0_scratch6, Transfers.Flight (countersEmb (U := Pipeline.UD sig nD τ)) (c : Thread nD τ) (SemLoc.dma 53) default 16384
        iprop(((Memref.whole cc0_scratch6).view.loc (c : Thread nD τ) ↦{fullShare} View.write (Elt F) (Memref.whole cc0_scratch6).view s6 (ReadAs.same.apply (xsM.view.read (Elt F) fx)) Finset.univ)
          ∗ ((Memref.whole main_arg1).view.loc (c : Thread nD τ) ↦[xsM.view.set]{fullShare} fx)))
    ∗ ((Memref.whole main_arg1).view.loc (c : Thread nD τ) ↦[Finset.univ \ xsM.view.set]{fullShare} fx))

/-- A buffer held at contents equal to others is held at those. -/
theorem held_eq (c : Dev nD) (b : Ref sig .tc) (h : Bf F c b) :
    iprop(∃ g : Bf F c b, ((Memref.whole b).view.loc (c : Thread nD τ) ↦{fullShare} g) ∗ ⌜g = h⌝) ⊢ (((Memref.whole b).view.loc (c : Thread nD τ) ↦{fullShare} h) : sProp 𝕄) := by
  iintro ⟨%g, H, %e⟩
  subst e
  iexact H

/-- A whole buffer written piece by piece, each piece what one array has at the piece's places, holds that array. -/
theorem writes_eq_of_agree (c : Dev nD) (b : Ref sig .tc) (f g : Bf F c b) (L : List (View.Piece (Elt F) b.ty.shape b.ty.elt))
    (hL : ∀ p ∈ L, ∀ x, p.2 x = g (p.1.emb x)) (hc : ∀ y, ∃ p ∈ L, y ∈ p.1.set) :
    (Memref.whole b).view.writes (Elt F) f L = g :=
  funext fun y => read_writes_of_agree (Memref.whole b).view f g y L hL (hc y)

set_option maxHeartbeats 4000000 in
set_option sl_exec.dmaWindow true in
/-- The statements of the first point, from any scratch contents: afterwards both weight matrices lie in scratch cast to
    bf16, the copy of the sample rows is under way, and all else is as it was. -/
theorem load (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S1x1024 .f32) (harg9 : arg9.IsWhole) (arg12 : Memref sig .tc .vmem S128x1024 .f32) (harg12 : arg12.IsWhole) (arg13 : Memref sig .tc .vmem S16x1024 .f32) (harg13 : arg13.IsWhole) (arg14 : Memref sig .tc .vmem S128x1024 .f32) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x5632 .f32) (harg18 : arg18.IsWhole) (arg19 : Memref sig .tc .vmem S176x1024 .f32) (harg19 : arg19.IsWhole) (arg20 : Memref sig .tc .vmem S136x1024 .f32) (harg20 : arg20.IsWhole) (arg21 : Memref sig .tc .vmem S1024x256 .f32) (harg21 : arg21.IsWhole) (arg22 : Memref sig .tc .vmem S1x256 .f32) (harg22 : arg22.IsWhole) (arg23 : Memref sig .tc .vmem S512x1024 .f32) (harg23 : arg23.IsWhole) (arg24 : Memref sig .tc .vmem S128x1024 .f32) (harg24 : arg24.IsWhole) (arg25 : Memref sig .tc .vmem S1024x128 .bf16) (harg25 : arg25.IsWhole) (arg26 : Memref sig .tc .vmem S1024x128 .bf16) (harg26 : arg26.IsWhole) (arg27 : Memref sig .tc .vmem S1024x128 .bf16) (harg27 : arg27.IsWhole) (arg28 : Memref sig .tc .vmem S32x1024 .bf16) (harg28 : arg28.IsWhole) (arg29 : Memref sig .tc .vmem S32x1024 .bf16) (harg29 : arg29.IsWhole) (arg30 : Memref sig .tc .vmem S32x1024 .bf16) (harg30 : arg30.IsWhole) (arg31 : Memref sig .tc .vmem S32x5632 .bf16) (harg31 : arg31.IsWhole) (arg32 : Memref sig .tc .vmem S176x1024 .bf16) (harg32 : arg32.IsWhole) (arg33 : Memref sig .tc .vmem S136x256 .f32) (harg33 : arg33.IsWhole)
    (fx : Bf F c main_arg1) (f13 : Bf F c main_v14) (f2 : Bf F c main_v15) (s0 : Bf F c cc0_scratch0) (s1 : Bf F c cc0_scratch1) (s2 : Bf F c cc0_scratch2) (s3 : Bf F c cc0_scratch3) (s6 : Bf F c cc0_scratch6)
    (W : Waits sig Unit) (rest : Prog (TpuEff nD τ sig (Elt F) Λ₀ .tc) PUnit) (K : PUnit → sProp 𝕄) :
    iprop(((Memref.whole main_arg1).view.loc (c : Thread nD τ) ↦{fullShare} fx) ∗ ((Memref.whole main_v14).view.loc (c : Thread nD τ) ↦{fullShare} f13) ∗ ((Memref.whole main_v15).view.loc (c : Thread nD τ) ↦{fullShare} f2) ∗ ((Memref.whole cc0_scratch0).view.loc (c : Thread nD τ) ↦{fullShare} s0) ∗ ((Memref.whole cc0_scratch1).view.loc (c : Thread nD τ) ↦{fullShare} s1) ∗ ((Memref.whole cc0_scratch2).view.loc (c : Thread nD τ) ↦{fullShare} s2) ∗ ((Memref.whole cc0_scratch3).view.loc (c : Thread nD τ) ↦{fullShare} s3) ∗ ((Memref.whole cc0_scratch6).view.loc (c : Thread nD τ) ↦{fullShare} s6)
      ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0
      ∗ owes (c : Thread nD τ) 0 W
      ∗ ((((Memref.whole main_v14).view.loc (c : Thread nD τ) ↦{fullShare} f13) ∗ ((Memref.whole main_v15).view.loc (c : Thread nD τ) ↦{fullShare} f2) ∗ ((Memref.whole cc0_scratch0).view.loc (c : Thread nD τ) ↦{fullShare} (wB13 c f13)) ∗ ((Memref.whole cc0_scratch1).view.loc (c : Thread nD τ) ↦{fullShare} (wB2 c f2))
          ∗ (∃ g2 : Bf F c cc0_scratch2, ((Memref.whole cc0_scratch2).view.loc (c : Thread nD τ) ↦{fullShare} g2)) ∗ (∃ g3 : Bf F c cc0_scratch3, ((Memref.whole cc0_scratch3).view.loc (c : Thread nD τ) ↦{fullShare} g3))
          ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ xsFlying c fx ∗ ∃ W', owes (c : Thread nD τ) 0 W')
        -∗ wp frame (wpE (defs₀ (F := F)) Variants.none c none) Set.univ rest K))
    ⊢ wp frame (wpE (defs₀ (F := F)) Variants.none c none) Set.univ
        (loadThen i arg1 harg1 arg2 harg2 arg3 harg3 arg4 harg4 (Memref.whole main_arg1) (Memref.isWhole_whole _) arg6 harg6 arg7 harg7 arg8 harg8 arg9 harg9 (Memref.whole main_v14) (Memref.isWhole_whole _) (Memref.whole main_v15) (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (Memref.whole cc0_scratch6) (Memref.isWhole_whole _) cc0_scratch7 rest) K := by
  iintro ⟨Hx, H13, H2, HS0, HS1, HS2, HS3, HS6, Q0, Q1, Q2, Q3, Q4, HW, HK⟩
  unfold loadThen
  sl_exec
  iapply HK
  isplitl [H13]; · iexact H13
  isplitl [H2]; · iexact H2
  isplitl [HS0]
  · iapply held_eq
    iexists _; isplitl [HS0]; iexact HS0
    ipureintro
    refine writes_eq_of_agree c cc0_scratch0 _ (wB13 c f13) _ (fun p hp x => ?_) (View.cover_of_tiledL _ S128x5632.size (by sl_kernel_rfl))
    simp only [List.mem_cons, List.not_mem_nil, _root_.or_false] at hp
    rcases hp with rfl | rfl | rfl | rfl | rfl | rfl | rfl | rfl
    · show k0_pay14 (load.sl.v135 c f13 s2) x = _
      unfold load.sl.v135
      rw [pieceA7, slotA1_own]; rfl
    · show k0_pay13 (load.sl.v124 c f13 s2) x = _
      unfold load.sl.v124
      rw [pieceA6, slotA0_other, slotA0_own]; rfl
    · show k0_pay12 (load.sl.v108 c f13 s2) x = _
      unfold load.sl.v108
      rw [pieceA5, slotA1_other, slotA1_own]; rfl
    · show k0_pay11 (load.sl.v92 c f13 s2) x = _
      unfold load.sl.v92
      rw [pieceA4, slotA0_other, slotA0_own]; rfl
    · show k0_pay10 (load.sl.v76 c f13 s2) x = _
      unfold load.sl.v76
      rw [pieceA3, slotA1_other, slotA1_own]; rfl
    · show k0_pay9 (load.sl.r c f13 s2) x = _
      unfold load.sl.r load.sl.v60
      rw [pieceA2, slotA0_other, slotA0_own]; rfl
    · show k0_pay7 (load.sl.v44 c f13 s2) x = _
      unfold load.sl.v44
      rw [pieceA1, slotA1_other, slotA1_own]; rfl
    · show k0_pay6 (load.sl.v28 c f13 s2) x = _
      unfold load.sl.v28
      rw [pieceA0, slotA0_other, slotA0_own]; rfl

  isplitl [HS1]
  · iapply held_eq
    iexists _; isplitl [HS1]; iexact HS1
    ipureintro
    refine writes_eq_of_agree c cc0_scratch1 _ (wB2 c f2) _ (fun p hp x => ?_) (View.cover_of_tiledL _ S352x1024.size (by sl_kernel_rfl))
    simp only [List.mem_cons, List.not_mem_nil, _root_.or_false] at hp
    rcases hp with rfl | rfl | rfl | rfl | rfl | rfl | rfl | rfl
    · show k0_pay2 (load.sl.v263 c f2 s3) x = _
      unfold load.sl.v263
      rw [pieceB7, slotB1_own]; rfl
    · show k0_pay1 (load.sl.v252 c f2 s3) x = _
      unfold load.sl.v252
      rw [pieceB6, slotB0_other, slotB0_own]; rfl
    · show k0_pay21 (load.sl.v236 c f2 s3) x = _
      unfold load.sl.v236
      rw [pieceB5, slotB1_other, slotB1_own]; rfl
    · show k0_pay20 (load.sl.r_1 c f2 s3) x = _
      unfold load.sl.r_1 load.sl.v220
      rw [pieceB4, slotB0_other, slotB0_own]; rfl
    · show k0_pay18 (load.sl.v204 c f2 s3) x = _
      unfold load.sl.v204
      rw [pieceB3, slotB1_other, slotB1_own]; rfl
    · show k0_pay17 (load.sl.v188 c f2 s3) x = _
      unfold load.sl.v188
      rw [pieceB2, slotB0_other, slotB0_own]; rfl
    · show k0_pay16 (load.sl.v172 c f2 s3) x = _
      unfold load.sl.v172
      rw [pieceB1, slotB1_other, slotB1_own]; rfl
    · show k0_pay15 (load.sl.v156 c f2 s3) x = _
      unfold load.sl.v156
      rw [pieceB0, slotB0_other, slotB0_own]; rfl

  isplitl [HS2]; · iexists _; iexact HS2
  isplitl [HS3]; · iexists _; iexact HS3
  isplitl [Q0]; · iexact Q0
  isplitl [Q1]; · iexact Q1
  isplitl [Q2]; · iexact Q2
  isplitl [Q3]; · iexact Q3
  isplitl [Q4 Hx]
  · unfold xsFlying
    isplitl [Q4]; · iexists _; iexact Q4
    iexact Hx
  iexists _; iexact HW

end Cert.KernelIdeal.Hand

end
-- ==== Proof.Comp.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import proofs.«01_k».proof.Proof.Split
public import proofs.«01_k».proof.Proof.Slots
public import Idealize.ShloMosaic.Lib.VecWindow
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- A load of the whole of a view reads it. -/
theorem readAt_full {κ : Kind} {sp : Space} {s : Shape} {e : EltTy} (v : View sig κ sp s e) (f : v.ty.Contents (Elt F)) {off : Fin s.rank → ℕ}
    (inb : ∀ a, off a + s.size a ≤ s.size a) :
    v.readAt (Elt F) (Rect.unit off (no_index s.size) inb).toLoadRect f = v.read (Elt F) f :=
  View.ld_unit_zero (funext fun a => by have := inb a; omega) inb (v.read (Elt F) f)

/-- The row of a block of eight that the grid point reads: the sequence its rows belong to. -/
def rowAt (i : grid0.Coords) (h2 : k0_cond2 i = 1#1) (X : Vec F S8x1024 .f32) : Vec F S1x1024 .f32 :=
  View.ld X (Rect.unit (s := S8x1024) (k0_off1 i) S1x1024.size (k0_off1_inb i h2))

/-- The first half of the columns of the first weight matrix. -/
def gateHalf (w : Vec F S1024x5632 .bf16) : Vec F S1024x2816 .bf16 :=
  View.ld w (Rect.unit (s := S1024x5632) ![0, 0] S1024x2816.size inb_S1024x5632_S1024x2816_0_0)

/-- The second half of the columns of the first weight matrix. -/
def upHalf (w : Vec F S1024x5632 .bf16) : Vec F S1024x2816 .bf16 :=
  View.ld w (Rect.unit (s := S1024x5632) ![0, 2816] S1024x2816.size inb_S1024x5632_S1024x2816_0_2816)

/-- What a point before the last stores of the prompt rows: the block after the feed-forward step. -/
def oRows (i : grid0.Coords) (h2 : k0_cond2 i = 1#1) (X1 : Vec F S512x1024 .f32) (X2 X3 X4 : Vec F S8x1024 .f32) (X9 : Vec F S1x1024 .f32)
    (w13 : Vec F S1024x5632 .bf16) (w2 : Vec F S2816x1024 .bf16) : Vec F S512x1024 .f32 :=
  k0_pay24 (k0_pay22 X1) (k0_pay23 X1 X9 (rowAt i h2 X3) (rowAt i h2 X2)) (gateHalf w13) (upHalf w13) (rowAt i h2 X4) w2

/-- What the last point stores of the sample rows. -/
def oSample (x : Vec F S128x1024 .f32) (X9 : Vec F S1x1024 .f32) (X6 X7 X8 : Vec F S128x1024 .f32)
    (w13 : Vec F S1024x5632 .bf16) (w2 : Vec F S2816x1024 .bf16) : Vec F S128x1024 .f32 :=
  k0_pay5 x (k0_pay34 x X9 X7 X6 (gateHalf w13) (upHalf w13)) X8 k0_pay35 w2

set_option maxHeartbeats 4000000 in
/-- A point before the last: each output buffer is left at its closed form in the blocks the inputs hold; the rest stays. -/
theorem comp (c : Dev nD) (i : grid0.Coords) (h2 : k0_cond2 i = 1#1) (h3 : ¬ k0_cond3 i = 1#1) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S1x1024 .f32) (harg9 : arg9.IsWhole) (arg12 : Memref sig .tc .vmem S128x1024 .f32) (harg12 : arg12.IsWhole) (arg13 : Memref sig .tc .vmem S16x1024 .f32) (harg13 : arg13.IsWhole) (arg14 : Memref sig .tc .vmem S128x1024 .f32) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x5632 .f32) (harg18 : arg18.IsWhole) (arg19 : Memref sig .tc .vmem S176x1024 .f32) (harg19 : arg19.IsWhole) (arg20 : Memref sig .tc .vmem S136x1024 .f32) (harg20 : arg20.IsWhole) (arg21 : Memref sig .tc .vmem S1024x256 .f32) (harg21 : arg21.IsWhole) (arg22 : Memref sig .tc .vmem S1x256 .f32) (harg22 : arg22.IsWhole) (arg23 : Memref sig .tc .vmem S512x1024 .f32) (harg23 : arg23.IsWhole) (arg24 : Memref sig .tc .vmem S128x1024 .f32) (harg24 : arg24.IsWhole) (arg25 : Memref sig .tc .vmem S1024x128 .bf16) (harg25 : arg25.IsWhole) (arg26 : Memref sig .tc .vmem S1024x128 .bf16) (harg26 : arg26.IsWhole) (arg27 : Memref sig .tc .vmem S1024x128 .bf16) (harg27 : arg27.IsWhole) (arg28 : Memref sig .tc .vmem S32x1024 .bf16) (harg28 : arg28.IsWhole) (arg29 : Memref sig .tc .vmem S32x1024 .bf16) (harg29 : arg29.IsWhole) (arg30 : Memref sig .tc .vmem S32x1024 .bf16) (harg30 : arg30.IsWhole) (arg31 : Memref sig .tc .vmem S32x5632 .bf16) (harg31 : arg31.IsWhole) (arg32 : Memref sig .tc .vmem S176x1024 .bf16) (harg32 : arg32.IsWhole) (arg33 : Memref sig .tc .vmem S136x256 .f32) (harg33 : arg33.IsWhole)
    (X1 : Vec F S512x1024 .f32) (X2 : Vec F S8x1024 .f32) (X3 : Vec F S8x1024 .f32) (X4 : Vec F S8x1024 .f32) (X9 : Vec F S1x1024 .f32) (X12 : Vec F S128x1024 .f32) (X13 : Vec F S16x1024 .f32) (X14 : Vec F S128x1024 .f32) (X15 : Vec F S32x1024 .f32) (X16 : Vec F S32x1024 .f32) (X17 : Vec F S32x1024 .f32) (X18 : Vec F S32x5632 .f32) (X19 : Vec F S176x1024 .f32) (X20 : Vec F S136x1024 .f32) (X21 : Vec F S1024x256 .f32) (X22 : Vec F S1x256 .f32)
    (Y23 : Vec F S512x1024 .f32) (Y25 : Vec F S1024x128 .bf16) (Y26 : Vec F S1024x128 .bf16) (Y27 : Vec F S1024x128 .bf16) (Y28 : Vec F S32x1024 .bf16) (Y29 : Vec F S32x1024 .bf16) (Y30 : Vec F S32x1024 .bf16) (Y31 : Vec F S32x5632 .bf16) (Y32 : Vec F S176x1024 .bf16) (Y33 : Vec F S136x256 .f32)
    (w13 : Bf F c cc0_scratch0) (w2 : Bf F c cc0_scratch1) (K : PUnit → sProp 𝕄) :
    iprop(((Memref.whole cc0_scratch0).view.loc (c : Thread nD τ) ↦{fullShare} w13) ∗ ((Memref.whole cc0_scratch1).view.loc (c : Thread nD τ) ↦{fullShare} w2)
      ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg9 fullShare X9 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare X19 ∗ owns (c : Thread nD τ) arg20 fullShare X20 ∗ owns (c : Thread nD τ) arg21 fullShare X21 ∗ owns (c : Thread nD τ) arg22 fullShare X22
      ∗ owns (c : Thread nD τ) arg23 fullShare Y23 ∗ owns (c : Thread nD τ) arg25 fullShare Y25 ∗ owns (c : Thread nD τ) arg26 fullShare Y26 ∗ owns (c : Thread nD τ) arg27 fullShare Y27 ∗ owns (c : Thread nD τ) arg28 fullShare Y28 ∗ owns (c : Thread nD τ) arg29 fullShare Y29 ∗ owns (c : Thread nD τ) arg30 fullShare Y30 ∗ owns (c : Thread nD τ) arg31 fullShare Y31 ∗ owns (c : Thread nD τ) arg32 fullShare Y32 ∗ owns (c : Thread nD τ) arg33 fullShare Y33
      ∗ ((((Memref.whole cc0_scratch0).view.loc (c : Thread nD τ) ↦{fullShare} w13) ∗ ((Memref.whole cc0_scratch1).view.loc (c : Thread nD τ) ↦{fullShare} w2)
          ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg9 fullShare X9 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare X19 ∗ owns (c : Thread nD τ) arg20 fullShare X20 ∗ owns (c : Thread nD τ) arg21 fullShare X21 ∗ owns (c : Thread nD τ) arg22 fullShare X22
          ∗ owns (c : Thread nD τ) arg23 fullShare (oRows i h2 X1 X2 X3 X4 X9 w13 w2) ∗ owns (c : Thread nD τ) arg25 fullShare (k0_pay27 (k0_pay26 X12)) ∗ owns (c : Thread nD τ) arg26 fullShare (k0_pay29 X13) ∗ owns (c : Thread nD τ) arg27 fullShare (k0_pay28 X14) ∗ owns (c : Thread nD τ) arg28 fullShare (k0_pay30 X15) ∗ owns (c : Thread nD τ) arg29 fullShare (k0_pay31 X16) ∗ owns (c : Thread nD τ) arg30 fullShare (k0_pay32 X17) ∗ owns (c : Thread nD τ) arg31 fullShare (k0_pay3 (k0_pay33 X18)) ∗ owns (c : Thread nD τ) arg32 fullShare (k0_pay4 X19) ∗ owns (c : Thread nD τ) arg33 fullShare (k0_pay25 X20 X21 X22)) -∗ K ⟨⟩))
    ⊢ wp frame (wpE (defs₀ (F := F)) Variants.none c none) Set.univ (midBody i arg1 harg1 arg2 harg2 arg3 harg3 arg4 harg4 (Memref.whole main_arg1) (Memref.isWhole_whole _) arg6 harg6 arg7 harg7 arg8 harg8 arg9 harg9 (Memref.whole main_v14) (Memref.isWhole_whole _) (Memref.whole main_v15) (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (Memref.whole cc0_scratch6) (Memref.isWhole_whole _) cc0_scratch7) K := by
  unfold owns
  iintro ⟨HS0, HS1, ⟨%f1, %e1, H1⟩, ⟨%f2, %e2, H2⟩, ⟨%f3, %e3, H3⟩, ⟨%f4, %e4, H4⟩, ⟨%f9, %e9, H9⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f25, %e25, H25⟩, ⟨%f26, %e26, H26⟩, ⟨%f27, %e27, H27⟩, ⟨%f28, %e28, H28⟩, ⟨%f29, %e29, H29⟩, ⟨%f30, %e30, H30⟩, ⟨%f31, %e31, H31⟩, ⟨%f32, %e32, H32⟩, ⟨%f33, %e33, H33⟩, HK⟩
  subst e1
  subst e2
  subst e3
  subst e4
  subst e9
  subst e12
  subst e13
  subst e14
  subst e15
  subst e16
  subst e17
  subst e18
  subst e19
  subst e20
  subst e21
  subst e22
  subst e23
  subst e25
  subst e26
  subst e27
  subst e28
  subst e29
  subst e30
  subst e31
  subst e32
  subst e33
  unfold midBody
  sl_exec
  sl_step
  iapply HK
  isplitl [HS0]; · iexact HS0
  isplitl [HS1]; · iexact HS1
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H9]
  · iexists _; isplitr; swap; · iexact H9
    ipureintro; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H18]
  · iexists _; isplitr; swap; · iexact H18
    ipureintro; rfl
  isplitl [H19]
  · iexists _; isplitr; swap; · iexact H19
    ipureintro; rfl
  isplitl [H20]
  · iexists _; isplitr; swap; · iexact H20
    ipureintro; rfl
  isplitl [H21]
  · iexists _; isplitr; swap; · iexact H21
    ipureintro; rfl
  isplitl [H22]
  · iexists _; isplitr; swap; · iexact H22
    ipureintro; rfl
  isplitl [H23]
  · iexists _; isplitr; swap; · iexact H23
    ipureintro
    rw [View.read_writes_full]
    sl_unfold_words
    simp only [readAt_full]
    exact congrArg (k0_pay24 _ _ _ _ _) (readAt_full (View.whole cc0_scratch1) w2 inb_S2816x1024_S2816x1024_0_0)
  isplitl [H25]
  · iexists _; isplitr; swap; · iexact H25
    ipureintro
    rw [View.read_writes_full]
    sl_unfold_words
    simp only [readAt_full]
  isplitl [H26]
  · iexists _; isplitr; swap; · iexact H26
    ipureintro
    rw [View.read_writes_full]
    sl_unfold_words
    simp only [readAt_full]
  isplitl [H27]
  · iexists _; isplitr; swap; · iexact H27
    ipureintro
    rw [View.read_writes_full]
    sl_unfold_words
    simp only [readAt_full]
  isplitl [H28]
  · iexists _; isplitr; swap; · iexact H28
    ipureintro
    rw [View.read_writes_full]
    sl_unfold_words
    simp only [readAt_full]
  isplitl [H29]
  · iexists _; isplitr; swap; · iexact H29
    ipureintro
    rw [View.read_writes_full]
    sl_unfold_words
    simp only [readAt_full]
  isplitl [H30]
  · iexists _; isplitr; swap; · iexact H30
    ipureintro
    rw [View.read_writes_full]
    sl_unfold_words
    simp only [readAt_full]
  isplitl [H31]
  · iexists _; isplitr; swap; · iexact H31
    ipureintro
    rw [View.read_writes_full]
    sl_unfold_words
    simp only [readAt_full]
  isplitl [H32]
  · iexists _; isplitr; swap; · iexact H32
    ipureintro
    rw [View.read_writes_full]
    sl_unfold_words
    simp only [readAt_full]
  · iexists _; isplitr; swap; · iexact H33
    ipureintro
    rw [View.read_writes_full]
    sl_unfold_words
    simp only [readAt_full]

end Cert.KernelIdeal.Hand

end
-- ==== Proof.Sample.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import proofs.«01_k».proof.Proof.Load
public import proofs.«01_k».proof.Proof.Comp
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The sample rows, read with their middle axis dropped. -/
def xsRows (c : Dev nD) (fx : Bf F c main_arg1) : Vec F S128x1024 .f32 := xsM.view.read (Elt F) fx

set_option maxHeartbeats 4000000 in
set_option sl_exec.dmaWindow true in
/-- The last point: the copy of the sample rows is waited for and their output buffer is left at its closed form. -/
theorem sample (c : Dev nD) (i : grid0.Coords) (h2 : ¬ k0_cond2 i = 1#1) (h3 : k0_cond3 i = 1#1) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S1x1024 .f32) (harg9 : arg9.IsWhole) (arg12 : Memref sig .tc .vmem S128x1024 .f32) (harg12 : arg12.IsWhole) (arg13 : Memref sig .tc .vmem S16x1024 .f32) (harg13 : arg13.IsWhole) (arg14 : Memref sig .tc .vmem S128x1024 .f32) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x5632 .f32) (harg18 : arg18.IsWhole) (arg19 : Memref sig .tc .vmem S176x1024 .f32) (harg19 : arg19.IsWhole) (arg20 : Memref sig .tc .vmem S136x1024 .f32) (harg20 : arg20.IsWhole) (arg21 : Memref sig .tc .vmem S1024x256 .f32) (harg21 : arg21.IsWhole) (arg22 : Memref sig .tc .vmem S1x256 .f32) (harg22 : arg22.IsWhole) (arg23 : Memref sig .tc .vmem S512x1024 .f32) (harg23 : arg23.IsWhole) (arg24 : Memref sig .tc .vmem S128x1024 .f32) (harg24 : arg24.IsWhole) (arg25 : Memref sig .tc .vmem S1024x128 .bf16) (harg25 : arg25.IsWhole) (arg26 : Memref sig .tc .vmem S1024x128 .bf16) (harg26 : arg26.IsWhole) (arg27 : Memref sig .tc .vmem S1024x128 .bf16) (harg27 : arg27.IsWhole) (arg28 : Memref sig .tc .vmem S32x1024 .bf16) (harg28 : arg28.IsWhole) (arg29 : Memref sig .tc .vmem S32x1024 .bf16) (harg29 : arg29.IsWhole) (arg30 : Memref sig .tc .vmem S32x1024 .bf16) (harg30 : arg30.IsWhole) (arg31 : Memref sig .tc .vmem S32x5632 .bf16) (harg31 : arg31.IsWhole) (arg32 : Memref sig .tc .vmem S176x1024 .bf16) (harg32 : arg32.IsWhole) (arg33 : Memref sig .tc .vmem S136x256 .f32) (harg33 : arg33.IsWhole)
    (X6 : Vec F S128x1024 .f32) (X7 : Vec F S128x1024 .f32) (X8 : Vec F S128x1024 .f32) (X9 : Vec F S1x1024 .f32)
    (Y24 : Vec F S128x1024 .f32)
    (fx : Bf F c main_arg1) (w13 : Bf F c cc0_scratch0) (w2 : Bf F c cc0_scratch1) (W : Waits sig Unit) (K : PUnit → sProp 𝕄) :
    iprop(((Memref.whole cc0_scratch0).view.loc (c : Thread nD τ) ↦{fullShare} w13) ∗ ((Memref.whole cc0_scratch1).view.loc (c : Thread nD τ) ↦{fullShare} w2) ∗ xsFlying c fx
      ∗ owns (c : Thread nD τ) arg6 fullShare X6 ∗ owns (c : Thread nD τ) arg7 fullShare X7 ∗ owns (c : Thread nD τ) arg8 fullShare X8 ∗ owns (c : Thread nD τ) arg9 fullShare X9
      ∗ owns (c : Thread nD τ) arg24 fullShare Y24 ∗ owes (c : Thread nD τ) 0 W
      ∗ ((((Memref.whole cc0_scratch0).view.loc (c : Thread nD τ) ↦{fullShare} w13) ∗ ((Memref.whole cc0_scratch1).view.loc (c : Thread nD τ) ↦{fullShare} w2) ∗ ((Memref.whole main_arg1).view.loc (c : Thread nD τ) ↦{fullShare} fx)
          ∗ (∃ s6 : Bf F c cc0_scratch6, ((Memref.whole cc0_scratch6).view.loc (c : Thread nD τ) ↦{fullShare} s6)) ∗ semVal ((c : Thread nD τ), SemLoc.dma 53) 0
          ∗ owns (c : Thread nD τ) arg6 fullShare X6 ∗ owns (c : Thread nD τ) arg7 fullShare X7 ∗ owns (c : Thread nD τ) arg8 fullShare X8 ∗ owns (c : Thread nD τ) arg9 fullShare X9
          ∗ owns (c : Thread nD τ) arg24 fullShare (oSample (xsRows c fx) X9 X6 X7 X8 w13 w2) ∗ ∃ W', owes (c : Thread nD τ) 0 W') -∗ K ⟨⟩))
    ⊢ wp frame (wpE (defs₀ (F := F)) Variants.none c none) Set.univ (midBody i arg1 harg1 arg2 harg2 arg3 harg3 arg4 harg4 (Memref.whole main_arg1) (Memref.isWhole_whole _) arg6 harg6 arg7 harg7 arg8 harg8 arg9 harg9 (Memref.whole main_v14) (Memref.isWhole_whole _) (Memref.whole main_v15) (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (Memref.whole cc0_scratch6) (Memref.isWhole_whole _) cc0_scratch7) K := by
  unfold owns xsFlying
  iintro ⟨HS0, HS1, ⟨⟨%s6, Q4⟩, Hx⟩, ⟨%f6, %e6, H6⟩, ⟨%f7, %e7, H7⟩, ⟨%f8, %e8, H8⟩, ⟨%f9, %e9, H9⟩, ⟨%f24, %e24, H24⟩, HW, HK⟩
  subst e6
  subst e7
  subst e8
  subst e9
  subst e24
  unfold midBody
  sl_exec
  sl_step
  iapply HK
  isplitl [HS0]; · iexact HS0
  isplitl [HS1]; · iexact HS1
  isplitl [Hx]; · iexact Hx
  isplitl [Q4_dst]; · iexists _; iexact Q4_dst
  isplitl [Q4]; · iexact Q4
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H24]
  · iexists _; isplitr; swap; · iexact H24
    ipureintro
    rw [View.read_writes_full]
    have hv : sample.sl.v13 c fx s6 = xsRows c fx := by
      unfold sample.sl.v13
      exact (readAt_full (View.whole cc0_scratch6) _ inb_S128x1024_S128x1024_0_0).trans (View.read_write_univ (v := View.whole cc0_scratch6) _ _)
    unfold sample.sl.r sample.sl.r_1
    simp only [hv, readAt_full]
    exact congrArg (k0_pay5 _ _ _ _) (readAt_full (View.whole cc0_scratch1) w2 inb_S2816x1024_S2816x1024_0_0)
  iexists _; iexact HW

end Cert.KernelIdeal.Hand

end
-- ==== Proof.Dats.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import proofs.«01_k».proof.Proof.Sample
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ)

/-! ## What each point of the grid leaves in the windows -/

/-- The last point that stores into the windows other than the sample rows', from `t` on: `t` itself but for the last point. -/
abbrev lastRow (t : Fin cfg0.N) : Fin cfg0.N := ⟨min t.val 31, lt_of_le_of_lt (min_le_left _ _) t.isLt⟩

theorem lastRow_of_lt (t : Fin cfg0.N) (h : t.val < 32) : lastRow t = t := Fin.ext (min_eq_left (by omega))

/-- The points before the last compute a block of prompt rows, -/
theorem cond2_of_lt : ∀ t : Fin cfg0.N, t.val < 32 → k0_cond2 (grid0.coords t) = 1#1 := by decide +kernel
theorem not_cond2 : ∀ t : Fin cfg0.N, ¬ t.val < 32 → ¬ k0_cond2 (grid0.coords t) = 1#1 := by decide +kernel
/-- the last computes the sample rows, -/
theorem not_cond3 : ∀ t : Fin cfg0.N, t.val < 32 → ¬ k0_cond3 (grid0.coords t) = 1#1 := by decide +kernel
theorem cond3_of_not_lt : ∀ t : Fin cfg0.N, ¬ t.val < 32 → k0_cond3 (grid0.coords t) = 1#1 := by decide +kernel
/-- and the first fills the scratch. -/
theorem first_of_zero : ∀ t : Fin cfg0.N, t.val = 0 → first (grid0.coords t) = 1#1 := by decide +kernel
theorem not_first : ∀ t : Fin cfg0.N, ¬ t.val = 0 → ¬ first (grid0.coords t) = 1#1 := by decide +kernel

theorem cond2_lastRow (t : Fin cfg0.N) : k0_cond2 (grid0.coords (lastRow t)) = 1#1 :=
  cond2_of_lt _ (lt_of_le_of_lt (min_le_right _ _) (by decide))

/-- The weights in scratch once the first point has run. -/
abbrev w13 (c : Dev nD) : Bf F c cc0_scratch0 := wB13 c (V m c main_v14)
abbrev w2 (c : Dev nD) : Bf F c cc0_scratch1 := wB2 c (V m c main_v15)

/-- The block of prompt rows point `t` stores. -/
abbrev out19 (c : Dev nD) (t : Fin cfg0.N) (h : k0_cond2 (grid0.coords t) = 1#1) : Vec F S512x1024 .f32 :=
  oRows (grid0.coords t) h (iblk m c 0 t) (iblk m c 1 t) (iblk m c 2 t) (iblk m c 3 t) (iblk m c 7 t) (w13 m c) (w2 m c)
/-- The sample rows the last point stores. -/
abbrev out20 (c : Dev nD) (t : Fin cfg0.N) : Vec F S128x1024 .f32 :=
  oSample (xsRows c (V m c main_arg1)) (iblk m c 7 t) (X0_4 m c t) (X0_5 m c t) (X0_6 m c t) (w13 m c) (w2 m c)
/-- The block point `t` stores into window 21: columns of the first projection, transposed. -/
abbrev out21 (c : Dev nD) (t : Fin cfg0.N) : Vec F S1024x128 .bf16 := k0_pay27 (k0_pay26 (iblk m c 8 t))
/-- The block point `t` stores into window 22: low-rank columns, transposed and padded. -/
abbrev out22 (c : Dev nD) (t : Fin cfg0.N) : Vec F S1024x128 .bf16 := k0_pay29 (iblk m c 9 t)
/-- The block point `t` stores into window 23: columns of the gate projection, transposed. -/
abbrev out23 (c : Dev nD) (t : Fin cfg0.N) : Vec F S1024x128 .bf16 := k0_pay28 (iblk m c 10 t)
/-- The block point `t` stores into window 24: rows of the first product weight. -/
abbrev out24 (c : Dev nD) (t : Fin cfg0.N) : Vec F S32x1024 .bf16 := k0_pay30 (iblk m c 11 t)
/-- The block point `t` stores into window 25: rows of the second product weight. -/
abbrev out25 (c : Dev nD) (t : Fin cfg0.N) : Vec F S32x1024 .bf16 := k0_pay31 (iblk m c 12 t)
/-- The block point `t` stores into window 26: rows of the output weight. -/
abbrev out26 (c : Dev nD) (t : Fin cfg0.N) : Vec F S32x1024 .bf16 := k0_pay32 (iblk m c 13 t)
/-- The block point `t` stores into window 27: rows of the next layer's first weight. -/
abbrev out27 (c : Dev nD) (t : Fin cfg0.N) : Vec F S32x5632 .bf16 := k0_pay3 (k0_pay33 (iblk m c 14 t))
/-- The block point `t` stores into window 28: rows of the next layer's second weight. -/
abbrev out28 (c : Dev nD) (t : Fin cfg0.N) : Vec F S176x1024 .bf16 := k0_pay4 (iblk m c 15 t)
/-- The block point `t` stores into window 29: columns of the modulation. -/
abbrev out29 (c : Dev nD) (t : Fin cfg0.N) : Vec F S136x256 .f32 := k0_pay25 (iblk m c 16 t) (iblk m c 17 t) (iblk m c 18 t)

/-! ## The invariant between points -/

/-- The kernel's own semaphores. -/
abbrev osem0 : Fin 5 → SemLoc sig := fun j => (![SemLoc.dma 49, SemLoc.dma 50, SemLoc.dma 51, SemLoc.dma 52, SemLoc.dma 53]) j
theorem ownSemFacts0 : Pipeline.OwnSemFacts spec0 osem0 := by decide
/-- The arrays the body reads by its own copies. -/
abbrev H0 : Finset (Ref sig .tc) := {main_arg1, main_v14, main_v15}
theorem H0_sub : H0 ⊆ Pipeline.restRefs sig spec0 := by decide

/-- What is held before the first point and after the last: everything of the body's own at rest. -/
abbrev atRest (c : Dev nD) : sProp 𝕄 := Pipeline.ΦD osem0 spec0 H0 (V m) c

set_option maxHeartbeats 2000000 in
/-- The same, part by part. -/
theorem atRest_eq (c : Dev nD) : atRest m c = iprop(
    ((∃ f : Bf F c cc0_scratch0, ((Memref.whole cc0_scratch0).view.loc (c : Thread nD τ) ↦{fullShare} f)) ∗ (∃ f : Bf F c cc0_scratch1, ((Memref.whole cc0_scratch1).view.loc (c : Thread nD τ) ↦{fullShare} f)) ∗ (∃ f : Bf F c cc0_scratch2, ((Memref.whole cc0_scratch2).view.loc (c : Thread nD τ) ↦{fullShare} f)) ∗ (∃ f : Bf F c cc0_scratch3, ((Memref.whole cc0_scratch3).view.loc (c : Thread nD τ) ↦{fullShare} f)) ∗ (∃ f : Bf F c cc0_scratch6, ((Memref.whole cc0_scratch6).view.loc (c : Thread nD τ) ↦{fullShare} f)))
    ∗ (∃ r, prngReg c r)
    ∗ (semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0)
    ∗ (((Memref.whole main_arg1).view.loc (c : Thread nD τ) ↦{fullShare} V m c main_arg1) ∗ ((Memref.whole main_v14).view.loc (c : Thread nD τ) ↦{fullShare} V m c main_v14) ∗ ((Memref.whole main_v15).view.loc (c : Thread nD τ) ↦{fullShare} V m c main_v15))) := by
  unfold atRest
  rw [Pipeline.ΦD_eq, scopedRest0_eq, Pipeline.ownSems0_eq_of_list c osem0 [0, 1, 2, 3, 4] (by decide) (by decide),
    BI.bigSep_eq_bigSepL_of_eq [main_arg1, main_v14, main_v15] (by decide) (by decide)]
  rfl

/-- What is held between two points: the weights cast and in scratch, the sample rows' copy under way. -/
def between (c : Dev nD) : sProp 𝕄 :=
  iprop(((Memref.whole cc0_scratch0).view.loc (c : Thread nD τ) ↦{fullShare} w13 m c) ∗ ((Memref.whole cc0_scratch1).view.loc (c : Thread nD τ) ↦{fullShare} w2 m c) ∗ (∃ f : Bf F c cc0_scratch2, ((Memref.whole cc0_scratch2).view.loc (c : Thread nD τ) ↦{fullShare} f)) ∗ (∃ f : Bf F c cc0_scratch3, ((Memref.whole cc0_scratch3).view.loc (c : Thread nD τ) ↦{fullShare} f)) ∗ (∃ r, prngReg c r) ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ ((Memref.whole main_v14).view.loc (c : Thread nD τ) ↦{fullShare} V m c main_v14) ∗ ((Memref.whole main_v15).view.loc (c : Thread nD τ) ↦{fullShare} V m c main_v15) ∗ xsFlying c (V m c main_arg1))

/-- The proof data: each input window left as found, each output window at its point's block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => X0_5 m c t
    | ⟨6, _⟩ => X0_6 m c t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => out19 m c (lastRow t) (cond2_lastRow t)
    | ⟨20, _⟩ => out20 m c t
    | ⟨21, _⟩ => out21 m c (lastRow t)
    | ⟨22, _⟩ => out22 m c (lastRow t)
    | ⟨23, _⟩ => out23 m c (lastRow t)
    | ⟨24, _⟩ => out24 m c (lastRow t)
    | ⟨25, _⟩ => out25 m c (lastRow t)
    | ⟨26, _⟩ => out26 m c (lastRow t)
    | ⟨27, _⟩ => out27 m c (lastRow t)
    | ⟨28, _⟩ => out28 m c (lastRow t)
    | ⟨29, _⟩ => out29 m c (lastRow t)
    | ⟨_ + 30, h⟩ => absurd h (Nat.not_lt.2 (Nat.le_add_left _ _))
  Φ t := if 1 ≤ t.val ∧ t.val ≤ 32 then between m c else atRest m c
  q w := Pipeline.shareOf spec0 w
  owed _ := 0

theorem dats_A (c : Dev nD) (w : Fin cfg0.W) : (dats m 0 c).A w = V m c (Pipeline.arrRef spec0 w) := by dsimp only [dats]

/-! ## What the body finds -/

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem after_4 (c : Dev nD) (t : Fin cfg0.N) : (dats m 0 c).after 4 t = X0_4 m c t := by dsimp only [dats]
theorem before_4 (c : Dev nD) (t : Fin cfg0.N) (d) : (dats m 0 c).before 4 t d = X0_4 m c t :=
  ((dats m 0 c).before_in_eq_fetched 4 rfl (fun _ => rfl)
      (fun t t' h => funext fun a => congrArg (fun n => Pipeline.Clip.of n ((cfg0.win 4).size a) (S136x3072.size a)) (congrFun h a))
      (fun t => by rw [after_4]; unfold X0_4; rw [Pipeline.Window.cut_fill]; unfold Dat.blockOf iblk; rw [dats_A]) t d).trans
    (by unfold Dat.fetched X0_4; rw [fill0_4 t d dflt0_4]; unfold Dat.blockOf iblk; rw [dats_A])
theorem after_5 (c : Dev nD) (t : Fin cfg0.N) : (dats m 0 c).after 5 t = X0_5 m c t := by dsimp only [dats]
theorem before_5 (c : Dev nD) (t : Fin cfg0.N) (d) : (dats m 0 c).before 5 t d = X0_5 m c t :=
  ((dats m 0 c).before_in_eq_fetched 5 rfl (fun _ => rfl)
      (fun t t' h => funext fun a => congrArg (fun n => Pipeline.Clip.of n ((cfg0.win 5).size a) (S136x3072.size a)) (congrFun h a))
      (fun t => by rw [after_5]; unfold X0_5; rw [Pipeline.Window.cut_fill]; unfold Dat.blockOf iblk; rw [dats_A]) t d).trans
    (by unfold Dat.fetched X0_5; rw [fill0_5 t d dflt0_5]; unfold Dat.blockOf iblk; rw [dats_A])
theorem after_6 (c : Dev nD) (t : Fin cfg0.N) : (dats m 0 c).after 6 t = X0_6 m c t := by dsimp only [dats]
theorem before_6 (c : Dev nD) (t : Fin cfg0.N) (d) : (dats m 0 c).before 6 t d = X0_6 m c t :=
  ((dats m 0 c).before_in_eq_fetched 6 rfl (fun _ => rfl)
      (fun t t' h => funext fun a => congrArg (fun n => Pipeline.Clip.of n ((cfg0.win 6).size a) (S136x3072.size a)) (congrFun h a))
      (fun t => by rw [after_6]; unfold X0_6; rw [Pipeline.Window.cut_fill]; unfold Dat.blockOf iblk; rw [dats_A]) t d).trans
    (by unfold Dat.fetched X0_6; rw [fill0_6 t d dflt0_6]; unfold Dat.blockOf iblk; rw [dats_A])
theorem before_7 (c : Dev nD) (t : Fin cfg0.N) (d) : (dats m 0 c).before 7 t d = iblk m c 7 t :=
  ((dats m 0 c).before_in_eq_fetched 7 rfl (fun _ => rfl) (fun _ _ _ => rfl) (fun _ => rfl) t d).trans rfl
theorem before_8 (c : Dev nD) (t : Fin cfg0.N) (d) : (dats m 0 c).before 8 t d = iblk m c 8 t :=
  ((dats m 0 c).before_in_eq_fetched 8 rfl (fun _ => rfl) (fun _ _ _ => rfl) (fun _ => rfl) t d).trans rfl
theorem before_9 (c : Dev nD) (t : Fin cfg0.N) (d) : (dats m 0 c).before 9 t d = iblk m c 9 t :=
  ((dats m 0 c).before_in_eq_fetched 9 rfl (fun _ => rfl) (fun _ _ _ => rfl) (fun _ => rfl) t d).trans rfl
theorem before_10 (c : Dev nD) (t : Fin cfg0.N) (d) : (dats m 0 c).before 10 t d = iblk m c 10 t :=
  ((dats m 0 c).before_in_eq_fetched 10 rfl (fun _ => rfl) (fun _ _ _ => rfl) (fun _ => rfl) t d).trans rfl
theorem before_11 (c : Dev nD) (t : Fin cfg0.N) (d) : (dats m 0 c).before 11 t d = iblk m c 11 t :=
  ((dats m 0 c).before_in_eq_fetched 11 rfl (fun _ => rfl) (fun _ _ _ => rfl) (fun _ => rfl) t d).trans rfl
theorem before_12 (c : Dev nD) (t : Fin cfg0.N) (d) : (dats m 0 c).before 12 t d = iblk m c 12 t :=
  ((dats m 0 c).before_in_eq_fetched 12 rfl (fun _ => rfl) (fun _ _ _ => rfl) (fun _ => rfl) t d).trans rfl
theorem before_13 (c : Dev nD) (t : Fin cfg0.N) (d) : (dats m 0 c).before 13 t d = iblk m c 13 t :=
  ((dats m 0 c).before_in_eq_fetched 13 rfl (fun _ => rfl) (fun _ _ _ => rfl) (fun _ => rfl) t d).trans rfl
theorem before_14 (c : Dev nD) (t : Fin cfg0.N) (d) : (dats m 0 c).before 14 t d = iblk m c 14 t :=
  ((dats m 0 c).before_in_eq_fetched 14 rfl (fun _ => rfl) (fun _ _ _ => rfl) (fun _ => rfl) t d).trans rfl
theorem before_15 (c : Dev nD) (t : Fin cfg0.N) (d) : (dats m 0 c).before 15 t d = iblk m c 15 t :=
  ((dats m 0 c).before_in_eq_fetched 15 rfl (fun _ => rfl) (fun _ _ _ => rfl) (fun _ => rfl) t d).trans rfl
theorem before_16 (c : Dev nD) (t : Fin cfg0.N) (d) : (dats m 0 c).before 16 t d = iblk m c 16 t :=
  ((dats m 0 c).before_in_eq_fetched 16 rfl (fun _ => rfl) (fun _ _ _ => rfl) (fun _ => rfl) t d).trans rfl
theorem before_17 (c : Dev nD) (t : Fin cfg0.N) (d) : (dats m 0 c).before 17 t d = iblk m c 17 t :=
  ((dats m 0 c).before_in_eq_fetched 17 rfl (fun _ => rfl) (fun _ _ _ => rfl) (fun _ => rfl) t d).trans rfl
theorem before_18 (c : Dev nD) (t : Fin cfg0.N) (d) : (dats m 0 c).before 18 t d = iblk m c 18 t :=
  ((dats m 0 c).before_in_eq_fetched 18 rfl (fun _ => rfl) (fun _ _ _ => rfl) (fun _ => rfl) t d).trans rfl

/-- None of these windows is written back between the last two points, -/
theorem flush_of_31 : ∀ (w : Fin 30) (t : Fin cfg0.N), t.val = 31 → 19 ≤ w.val → w.val ≠ 20 → (cfg0.win w).flush t = false := by decide +kernel
/-- each is stored into at the last but one, -/
theorem idle_of_31 : ∀ (w : Fin 30) (t : Fin cfg0.N), t.val = 31 → 19 ≤ w.val → w.val ≠ 20 → cfg0.idle w (cfg0.grid.coords t) = false := by decide +kernel
/-- and none is fetched. -/
theorem fetch_of_out : ∀ (w : Fin 30) (t : Fin cfg0.N), 19 ≤ w.val → (cfg0.win w).fetch t = false := by decide +kernel

/-- No output block is cut. -/
theorem clip_of_out (w : Fin 30) (hw : 19 ≤ w.val) : ∀ i a, (cfg0.win w).clip i a = none := by
  revert hw
  fin_cases w <;> intro hw <;> first | exact absurd hw (by decide) | exact fun _ _ => rfl

theorem lastRow_congr (t t' : Fin cfg0.N) (h : 31 ≤ t.val) (h' : 31 ≤ t'.val) : lastRow t = lastRow t' :=
  Fin.ext ((min_eq_right h).trans (min_eq_right h').symm)

theorem out19_congr (c : Dev nD) (t t' : Fin cfg0.N) (e : t = t') (h h') : out19 m c t h = out19 m c t' h' := by subst e; rfl

/-- From the last but one point on these windows' blocks do not change. -/
theorem after_congr (c : Dev nD) (t t' : Fin cfg0.N) (h : 31 ≤ t.val) (h' : 31 ≤ t'.val) :
    ∀ w : Fin 30, 19 ≤ w.val → w.val ≠ 20 → (dats m 0 c).after w t = (dats m 0 c).after w t' := by
  have e := lastRow_congr t t' h h'
  intro w hw h20
  dsimp only [dats]
  split <;> first | (exfalso; simp_all; done) | exact out19_congr m c _ _ e _ _ | simp only [e]

/-- An output window other than the sample rows' is found by the last point as the point before left it. -/
theorem before_last (c : Dev nD) (w : Fin 30) (t : Fin cfg0.N) (ht : ¬ t.val < 32) (hw : 19 ≤ w.val) (h20 : w.val ≠ 20)
    (d) : (dats m 0 c).before w t d = (dats m 0 c).after w t := by
  have e : t.val = 32 := by have h : t.val < 33 := lt_of_lt_of_eq t.isLt N_0; omega
  refine ((dats m 0 c).before_of_pos w t (by omega) (fetch_of_out w t hw) d).trans ?_
  refine (if_neg (by rw [flush_of_31 w _ (by simp only [e]) hw h20]; decide)).trans ?_
  unfold Dat.left
  rw [idle_of_31 w _ (by simp only [e]) hw h20]
  show (dats m 0 c).kept w _ d = _
  unfold Dat.kept
  refine (Pipeline.fill_of_clip_none (cfg := cfg0) w _ (clip_of_out w hw _) d ((dats m 0 c).after w ⟨t.val - 1, lt_of_le_of_lt (Nat.sub_le _ _) t.isLt⟩) _).trans ?_
  refine ((cfg0.win w).fill_cut _ _).trans ?_
  exact after_congr m c ⟨t.val - 1, lt_of_le_of_lt (Nat.sub_le _ _) t.isLt⟩ t (show 31 ≤ t.val - 1 by omega) (by omega) w hw h20

end Cert.KernelIdeal.Hand

end
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import proofs.«01_k».proof.Proof.Dats

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ)

/-- Window `w`'s staging buffer at point `t` holding what the point leaves there. -/
abbrev held (c : Dev nD) (w : Fin cfg0.W) (t : Fin cfg0.N) : sProp 𝕄 :=
  owns (c : Thread nD τ) ((cfg0.win w).stage (cfg0.slots t w)) fullShare ((dats m 0 c).after w t)
/-- Window `w`'s staging buffer at point `t` as the point finds it. -/
abbrev found (c : Dev nD) (w : Fin cfg0.W) (t : Fin cfg0.N) : sProp 𝕄 :=
  iprop(∃ d, owns (c : Thread nD τ) ((cfg0.win w).stage (cfg0.slots t w)) fullShare ((dats m 0 c).before w t d))

theorem held_of_found (c : Dev nD) (w : Fin cfg0.W) (t : Fin cfg0.N) (h : ∀ d, (dats m 0 c).before w t d = (dats m 0 c).after w t) :
    found m c w t ⊢ (held m c w t : sProp 𝕄) := by
  unfold found held
  iintro ⟨%d, H⟩
  rw [h d]
  iexact H

/-- What is left in a window is what its obligation asks, at a point that stores into it or writes it back; -/
theorem leaves_of_held (c : Dev nD) (w : Fin cfg0.W) (t : Fin cfg0.N)
    (h : cfg0.idle w (cfg0.grid.coords t) = false ∨ (cfg0.win w).flush t = true) :
    held m c w t ⊢ ((dats m 0 c).leaves w t : sProp 𝕄) := by
  refine BIBase.Entails.trans ?_ ((dats m 0 c).leaves_intro w t)
  unfold Dat.leavesExact
  rcases h with h | h
  · rw [h]
  · cases cfg0.idle w (cfg0.grid.coords t) <;> simp only [h] <;> exact .rfl
/-- at another point it is what was found. -/
theorem leaves_of_found (c : Dev nD) (w : Fin cfg0.W) (t : Fin cfg0.N)
    (hi : cfg0.idle w (cfg0.grid.coords t) = true) (hf : (cfg0.win w).flush t = false) :
    found m c w t ⊢ ((dats m 0 c).leaves w t : sProp 𝕄) := by
  refine BIBase.Entails.trans ?_ ((dats m 0 c).leaves_intro w t)
  rw [Dat.leavesExact_idle _ w t hi hf]

theorem live_or_flush : ∀ (w : Fin 30) (t : Fin cfg0.N), (w.val = 20 → ¬ t.val < 32) →
    cfg0.idle w (cfg0.grid.coords t) = false ∨ (cfg0.win w).flush t = true := by decide +kernel
theorem idle_20 : ∀ t : Fin cfg0.N, t.val < 32 → cfg0.idle 20 (cfg0.grid.coords t) = true := by decide +kernel
theorem flush_20 : ∀ t : Fin cfg0.N, t.val < 32 → (cfg0.win 20).flush t = false := by decide +kernel

/-- The input windows at point `t`. -/
abbrev ins (c : Dev nD) (t : Fin cfg0.N) : sProp 𝕄 := iprop(held m c 0 t ∗ held m c 1 t ∗ held m c 2 t ∗ held m c 3 t ∗ held m c 4 t ∗ held m c 5 t ∗ held m c 6 t ∗ held m c 7 t ∗ held m c 8 t ∗ held m c 9 t ∗ held m c 10 t ∗ held m c 11 t ∗ held m c 12 t ∗ held m c 13 t ∗ held m c 14 t ∗ held m c 15 t ∗ held m c 16 t ∗ held m c 17 t ∗ held m c 18 t)
/-- The output windows other than the sample rows', each at what the point leaves. -/
abbrev outs (c : Dev nD) (t : Fin cfg0.N) : sProp 𝕄 := iprop(held m c 19 t ∗ held m c 21 t ∗ held m c 22 t ∗ held m c 23 t ∗ held m c 24 t ∗ held m c 25 t ∗ held m c 26 t ∗ held m c 27 t ∗ held m c 28 t ∗ held m c 29 t)
/-- The same windows as found. -/
abbrev outsFound (c : Dev nD) (t : Fin cfg0.N) : sProp 𝕄 := iprop(found m c 19 t ∗ found m c 21 t ∗ found m c 22 t ∗ found m c 23 t ∗ found m c 24 t ∗ found m c 25 t ∗ found m c 26 t ∗ found m c 27 t ∗ found m c 28 t ∗ found m c 29 t)
theorem held_0 (c : Dev nD) (t : Fin cfg0.N) : held m c 0 t = owns (c : Thread nD τ) (st0_0 t) fullShare (iblk m c 0 t) := rfl
theorem held_1 (c : Dev nD) (t : Fin cfg0.N) : held m c 1 t = owns (c : Thread nD τ) (st0_1 t) fullShare (iblk m c 1 t) := rfl
theorem held_2 (c : Dev nD) (t : Fin cfg0.N) : held m c 2 t = owns (c : Thread nD τ) (st0_2 t) fullShare (iblk m c 2 t) := rfl
theorem held_3 (c : Dev nD) (t : Fin cfg0.N) : held m c 3 t = owns (c : Thread nD τ) (st0_3 t) fullShare (iblk m c 3 t) := rfl
theorem held_4 (c : Dev nD) (t : Fin cfg0.N) : held m c 4 t = owns (c : Thread nD τ) (st0_4 t) fullShare (X0_4 m c t) := rfl
theorem held_5 (c : Dev nD) (t : Fin cfg0.N) : held m c 5 t = owns (c : Thread nD τ) (st0_5 t) fullShare (X0_5 m c t) := rfl
theorem held_6 (c : Dev nD) (t : Fin cfg0.N) : held m c 6 t = owns (c : Thread nD τ) (st0_6 t) fullShare (X0_6 m c t) := rfl
theorem held_7 (c : Dev nD) (t : Fin cfg0.N) : held m c 7 t = owns (c : Thread nD τ) (st0_7 t) fullShare (iblk m c 7 t) := rfl
theorem held_8 (c : Dev nD) (t : Fin cfg0.N) : held m c 8 t = owns (c : Thread nD τ) (st0_8 t) fullShare (iblk m c 8 t) := rfl
theorem held_9 (c : Dev nD) (t : Fin cfg0.N) : held m c 9 t = owns (c : Thread nD τ) (st0_9 t) fullShare (iblk m c 9 t) := rfl
theorem held_10 (c : Dev nD) (t : Fin cfg0.N) : held m c 10 t = owns (c : Thread nD τ) (st0_10 t) fullShare (iblk m c 10 t) := rfl
theorem held_11 (c : Dev nD) (t : Fin cfg0.N) : held m c 11 t = owns (c : Thread nD τ) (st0_11 t) fullShare (iblk m c 11 t) := rfl
theorem held_12 (c : Dev nD) (t : Fin cfg0.N) : held m c 12 t = owns (c : Thread nD τ) (st0_12 t) fullShare (iblk m c 12 t) := rfl
theorem held_13 (c : Dev nD) (t : Fin cfg0.N) : held m c 13 t = owns (c : Thread nD τ) (st0_13 t) fullShare (iblk m c 13 t) := rfl
theorem held_14 (c : Dev nD) (t : Fin cfg0.N) : held m c 14 t = owns (c : Thread nD τ) (st0_14 t) fullShare (iblk m c 14 t) := rfl
theorem held_15 (c : Dev nD) (t : Fin cfg0.N) : held m c 15 t = owns (c : Thread nD τ) (st0_15 t) fullShare (iblk m c 15 t) := rfl
theorem held_16 (c : Dev nD) (t : Fin cfg0.N) : held m c 16 t = owns (c : Thread nD τ) (st0_16 t) fullShare (iblk m c 16 t) := rfl
theorem held_17 (c : Dev nD) (t : Fin cfg0.N) : held m c 17 t = owns (c : Thread nD τ) (st0_17 t) fullShare (iblk m c 17 t) := rfl
theorem held_18 (c : Dev nD) (t : Fin cfg0.N) : held m c 18 t = owns (c : Thread nD τ) (st0_18 t) fullShare (iblk m c 18 t) := rfl
theorem held_19 (c : Dev nD) (t : Fin cfg0.N) (h : t.val < 32) (h2) : held m c 19 t = owns (c : Thread nD τ) (st0_19 t) fullShare (out19 m c t h2) :=
  congrArg (owns (c : Thread nD τ) (st0_19 t) fullShare) (out19_congr m c _ _ (lastRow_of_lt t h) _ _)
theorem held_20 (c : Dev nD) (t : Fin cfg0.N) : held m c 20 t = owns (c : Thread nD τ) (st0_20 t) fullShare (out20 m c t) := rfl
theorem held_21 (c : Dev nD) (t : Fin cfg0.N) (h : t.val < 32) : held m c 21 t = owns (c : Thread nD τ) (st0_21 t) fullShare (out21 m c t) :=
  congrArg (fun t' => owns (c : Thread nD τ) (st0_21 t) fullShare (out21 m c t')) (lastRow_of_lt t h)
theorem held_22 (c : Dev nD) (t : Fin cfg0.N) (h : t.val < 32) : held m c 22 t = owns (c : Thread nD τ) (st0_22 t) fullShare (out22 m c t) :=
  congrArg (fun t' => owns (c : Thread nD τ) (st0_22 t) fullShare (out22 m c t')) (lastRow_of_lt t h)
theorem held_23 (c : Dev nD) (t : Fin cfg0.N) (h : t.val < 32) : held m c 23 t = owns (c : Thread nD τ) (st0_23 t) fullShare (out23 m c t) :=
  congrArg (fun t' => owns (c : Thread nD τ) (st0_23 t) fullShare (out23 m c t')) (lastRow_of_lt t h)
theorem held_24 (c : Dev nD) (t : Fin cfg0.N) (h : t.val < 32) : held m c 24 t = owns (c : Thread nD τ) (st0_24 t) fullShare (out24 m c t) :=
  congrArg (fun t' => owns (c : Thread nD τ) (st0_24 t) fullShare (out24 m c t')) (lastRow_of_lt t h)
theorem held_25 (c : Dev nD) (t : Fin cfg0.N) (h : t.val < 32) : held m c 25 t = owns (c : Thread nD τ) (st0_25 t) fullShare (out25 m c t) :=
  congrArg (fun t' => owns (c : Thread nD τ) (st0_25 t) fullShare (out25 m c t')) (lastRow_of_lt t h)
theorem held_26 (c : Dev nD) (t : Fin cfg0.N) (h : t.val < 32) : held m c 26 t = owns (c : Thread nD τ) (st0_26 t) fullShare (out26 m c t) :=
  congrArg (fun t' => owns (c : Thread nD τ) (st0_26 t) fullShare (out26 m c t')) (lastRow_of_lt t h)
theorem held_27 (c : Dev nD) (t : Fin cfg0.N) (h : t.val < 32) : held m c 27 t = owns (c : Thread nD τ) (st0_27 t) fullShare (out27 m c t) :=
  congrArg (fun t' => owns (c : Thread nD τ) (st0_27 t) fullShare (out27 m c t')) (lastRow_of_lt t h)
theorem held_28 (c : Dev nD) (t : Fin cfg0.N) (h : t.val < 32) : held m c 28 t = owns (c : Thread nD τ) (st0_28 t) fullShare (out28 m c t) :=
  congrArg (fun t' => owns (c : Thread nD τ) (st0_28 t) fullShare (out28 m c t')) (lastRow_of_lt t h)
theorem held_29 (c : Dev nD) (t : Fin cfg0.N) (h : t.val < 32) : held m c 29 t = owns (c : Thread nD τ) (st0_29 t) fullShare (out29 m c t) :=
  congrArg (fun t' => owns (c : Thread nD τ) (st0_29 t) fullShare (out29 m c t')) (lastRow_of_lt t h)

/-- What a point before the last does after the scratch is filled. -/
abbrev midAt (t : Fin cfg0.N) : Prog (TpuEff nD τ sig (Elt F) Λ₀ .tc) PUnit := midBody (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole main_arg1) (Memref.isWhole_whole _) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole main_v14) (Memref.isWhole_whole _) (Memref.whole main_v15) (Memref.isWhole_whole _) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (Memref.whole cc0_scratch6) (Memref.isWhole_whole _) cc0_scratch7
/-- The first point's filling of the scratch, before what it does else. -/
abbrev loadAt (t : Fin cfg0.N) : Prog (TpuEff nD τ sig (Elt F) Λ₀ .tc) PUnit := loadThen (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole main_arg1) (Memref.isWhole_whole _) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole main_v14) (Memref.isWhole_whole _) (Memref.whole main_v15) (Memref.isWhole_whole _) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (Memref.whole cc0_scratch6) (Memref.isWhole_whole _) cc0_scratch7 (midAt t)

theorem bodyAt0_first (t : Fin cfg0.N) (h : t.val = 0) : (bodyAt0 t : Prog (TpuEff nD τ sig (Elt F) Λ₀ .tc) PUnit) = loadAt t :=
  (body_split ..).trans (dif_pos (first_of_zero t h))
theorem bodyAt0_later (t : Fin cfg0.N) (h : ¬ t.val = 0) : (bodyAt0 t : Prog (TpuEff nD τ sig (Elt F) Λ₀ .tc) PUnit) = midAt t :=
  (body_split ..).trans (dif_neg (not_first t h))

set_option maxHeartbeats 4000000 in
/-- A point before the last, its scratch filled: it leaves in every window what the proof data says. -/
theorem mid_rows (c : Dev nD) (t : Fin cfg0.N) (ht : t.val < 32) (K : PUnit → sProp 𝕄) :
    iprop(((Memref.whole cc0_scratch0).view.loc (c : Thread nD τ) ↦{fullShare} w13 m c) ∗ ((Memref.whole cc0_scratch1).view.loc (c : Thread nD τ) ↦{fullShare} w2 m c) ∗ ins m c t ∗ outsFound m c t
      ∗ ((((Memref.whole cc0_scratch0).view.loc (c : Thread nD τ) ↦{fullShare} w13 m c) ∗ ((Memref.whole cc0_scratch1).view.loc (c : Thread nD τ) ↦{fullShare} w2 m c) ∗ ins m c t ∗ outs m c t) -∗ K ⟨⟩))
    ⊢ wp frame (wpE (defs₀ (F := F)) Variants.none c none) Set.univ (midAt t) K := by
  unfold ins outs outsFound
  simp only [held_0 m c t, held_1 m c t, held_2 m c t, held_3 m c t, held_4 m c t, held_5 m c t, held_6 m c t, held_7 m c t, held_8 m c t, held_9 m c t, held_10 m c t, held_11 m c t, held_12 m c t, held_13 m c t, held_14 m c t, held_15 m c t, held_16 m c t, held_17 m c t, held_18 m c t, held_19 m c t ht (cond2_of_lt t ht), held_21 m c t ht, held_22 m c t ht, held_23 m c t ht, held_24 m c t ht, held_25 m c t ht, held_26 m c t ht, held_27 m c t ht, held_28 m c t ht, held_29 m c t ht]
  unfold found
  iintro ⟨S0, S1, ⟨H0, H1, H2, H3, H4, H5, H6, H7, H8, H9, H10, H11, H12, H13, H14, H15, H16, H17, H18⟩, ⟨⟨%d19, H19⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩, Hk⟩
  iapply (comp c (grid0.coords t) (cond2_of_lt t ht) (not_cond3 t ht) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ K)
  isplitl [S0]
  · iexact S0
  isplitl [S1]
  · iexact S1
  isplitl [H0]
  · iexact H0
  isplitl [H1]
  · iexact H1
  isplitl [H2]
  · iexact H2
  isplitl [H3]
  · iexact H3
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H21]
  · iexact H21
  isplitl [H22]
  · iexact H22
  isplitl [H23]
  · iexact H23
  isplitl [H24]
  · iexact H24
  isplitl [H25]
  · iexact H25
  isplitl [H26]
  · iexact H26
  isplitl [H27]
  · iexact H27
  isplitl [H28]
  · iexact H28
  isplitl [H29]
  · iexact H29
  iintro ⟨S0, S1, H0, H1, H2, H3, H7, H8, H9, H10, H11, H12, H13, H14, H15, H16, H17, H18, H19, H21, H22, H23, H24, H25, H26, H27, H28, H29⟩
  iapply Hk
  isplitl [S0]
  · iexact S0
  isplitl [S1]
  · iexact S1
  isplitl [H0 H1 H2 H3 H4 H5 H6 H7 H8 H9 H10 H11 H12 H13 H14 H15 H16 H17 H18]
  · isplitl [H0]; iexact H0
    isplitl [H1]; iexact H1
    isplitl [H2]; iexact H2
    isplitl [H3]; iexact H3
    isplitl [H4]; iexact H4
    isplitl [H5]; iexact H5
    isplitl [H6]; iexact H6
    isplitl [H7]; iexact H7
    isplitl [H8]; iexact H8
    isplitl [H9]; iexact H9
    isplitl [H10]; iexact H10
    isplitl [H11]; iexact H11
    isplitl [H12]; iexact H12
    isplitl [H13]; iexact H13
    isplitl [H14]; iexact H14
    isplitl [H15]; iexact H15
    isplitl [H16]; iexact H16
    isplitl [H17]; iexact H17
    iexact H18
  isplitl [H19]
  · iexact H19
  isplitl [H21]
  · iexact H21
  isplitl [H22]
  · iexact H22
  isplitl [H23]
  · iexact H23
  isplitl [H24]
  · iexact H24
  isplitl [H25]
  · iexact H25
  isplitl [H26]
  · iexact H26
  isplitl [H27]
  · iexact H27
  isplitl [H28]
  · iexact H28
  iexact H29

set_option maxHeartbeats 4000000 in
/-- The last point: it finishes the sample rows' copy and leaves the sample rows in their window. -/
theorem mid_sample (c : Dev nD) (t : Fin cfg0.N) (ht : ¬ t.val < 32) (W : Waits sig Unit) (K : PUnit → sProp 𝕄) :
    iprop(((Memref.whole cc0_scratch0).view.loc (c : Thread nD τ) ↦{fullShare} w13 m c) ∗ ((Memref.whole cc0_scratch1).view.loc (c : Thread nD τ) ↦{fullShare} w2 m c) ∗ xsFlying c (V m c main_arg1) ∗ held m c 4 t ∗ held m c 5 t ∗ held m c 6 t ∗ held m c 7 t ∗ found m c 20 t
      ∗ owes (c : Thread nD τ) 0 W
      ∗ ((((Memref.whole cc0_scratch0).view.loc (c : Thread nD τ) ↦{fullShare} w13 m c) ∗ ((Memref.whole cc0_scratch1).view.loc (c : Thread nD τ) ↦{fullShare} w2 m c) ∗ ((Memref.whole main_arg1).view.loc (c : Thread nD τ) ↦{fullShare} V m c main_arg1) ∗ (∃ s6 : Bf F c cc0_scratch6, ((Memref.whole cc0_scratch6).view.loc (c : Thread nD τ) ↦{fullShare} s6)) ∗ semVal ((c : Thread nD τ), SemLoc.dma 53) 0
          ∗ held m c 4 t ∗ held m c 5 t ∗ held m c 6 t ∗ held m c 7 t ∗ held m c 20 t ∗ ∃ W', owes (c : Thread nD τ) 0 W') -∗ K ⟨⟩))
    ⊢ wp frame (wpE (defs₀ (F := F)) Variants.none c none) Set.univ (midAt t) K := by
  rw [held_4, held_5, held_6, held_7, held_20]
  unfold found
  iintro ⟨S0, S1, Fx, H4, H5, H6, H7, ⟨%d20, H20⟩, HW, Hk⟩
  iapply (sample c (grid0.coords t) (not_cond2 t ht) (cond3_of_not_lt t ht) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (V m c main_arg1) _ _ W K)
  isplitl [S0]
  · iexact S0
  isplitl [S1]
  · iexact S1
  isplitl [Fx]
  · iexact Fx
  isplitl [H4]
  · iexact H4
  isplitl [H5]
  · iexact H5
  isplitl [H6]
  · iexact H6
  isplitl [H7]
  · iexact H7
  isplitl [H20]
  · iexact H20
  isplitl [HW]
  · iexact HW
  iexact Hk

end Cert.KernelIdeal.Hand

end
-- ==== Proof.Run.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The windows in and out of the body -/

set_option maxHeartbeats 4000000 in
/-- The input windows are found at their blocks. -/
theorem enter_rows (c : Dev nD) (t : Fin cfg0.N) :
    iprop(found m c 0 t ∗ found m c 1 t ∗ found m c 2 t ∗ found m c 3 t ∗ found m c 4 t ∗ found m c 5 t ∗ found m c 6 t ∗ found m c 7 t ∗ found m c 8 t ∗ found m c 9 t ∗ found m c 10 t ∗ found m c 11 t ∗ found m c 12 t ∗ found m c 13 t ∗ found m c 14 t ∗ found m c 15 t ∗ found m c 16 t ∗ found m c 17 t ∗ found m c 18 t ∗ found m c 19 t ∗ found m c 20 t ∗ found m c 21 t ∗ found m c 22 t ∗ found m c 23 t ∗ found m c 24 t ∗ found m c 25 t ∗ found m c 26 t ∗ found m c 27 t ∗ found m c 28 t ∗ found m c 29 t) ⊢ (iprop(ins m c t ∗ outsFound m c t ∗ found m c 20 t) : sProp 𝕄) := by
  unfold ins outsFound
  iintro ⟨H0, H1, H2, H3, H4, H5, H6, H7, H8, H9, H10, H11, H12, H13, H14, H15, H16, H17, H18, H19, H20, H21, H22, H23, H24, H25, H26, H27, H28, H29⟩
  isplitl [H0 H1 H2 H3 H4 H5 H6 H7 H8 H9 H10 H11 H12 H13 H14 H15 H16 H17 H18]
  · isplitl [H0]
    · iapply (held_of_found m c 0 t fun d => before_0 m c t d); iexact H0
    isplitl [H1]
    · iapply (held_of_found m c 1 t fun d => before_1 m c t d); iexact H1
    isplitl [H2]
    · iapply (held_of_found m c 2 t fun d => before_2 m c t d); iexact H2
    isplitl [H3]
    · iapply (held_of_found m c 3 t fun d => before_3 m c t d); iexact H3
    isplitl [H4]
    · iapply (held_of_found m c 4 t fun d => before_4 m c t d); iexact H4
    isplitl [H5]
    · iapply (held_of_found m c 5 t fun d => before_5 m c t d); iexact H5
    isplitl [H6]
    · iapply (held_of_found m c 6 t fun d => before_6 m c t d); iexact H6
    isplitl [H7]
    · iapply (held_of_found m c 7 t fun d => before_7 m c t d); iexact H7
    isplitl [H8]
    · iapply (held_of_found m c 8 t fun d => before_8 m c t d); iexact H8
    isplitl [H9]
    · iapply (held_of_found m c 9 t fun d => before_9 m c t d); iexact H9
    isplitl [H10]
    · iapply (held_of_found m c 10 t fun d => before_10 m c t d); iexact H10
    isplitl [H11]
    · iapply (held_of_found m c 11 t fun d => before_11 m c t d); iexact H11
    isplitl [H12]
    · iapply (held_of_found m c 12 t fun d => before_12 m c t d); iexact H12
    isplitl [H13]
    · iapply (held_of_found m c 13 t fun d => before_13 m c t d); iexact H13
    isplitl [H14]
    · iapply (held_of_found m c 14 t fun d => before_14 m c t d); iexact H14
    isplitl [H15]
    · iapply (held_of_found m c 15 t fun d => before_15 m c t d); iexact H15
    isplitl [H16]
    · iapply (held_of_found m c 16 t fun d => before_16 m c t d); iexact H16
    isplitl [H17]
    · iapply (held_of_found m c 17 t fun d => before_17 m c t d); iexact H17
    iapply (held_of_found m c 18 t fun d => before_18 m c t d); iexact H18
  isplitl [H19 H21 H22 H23 H24 H25 H26 H27 H28 H29]
  · isplitl [H19]
    · iexact H19
    isplitl [H21]
    · iexact H21
    isplitl [H22]
    · iexact H22
    isplitl [H23]
    · iexact H23
    isplitl [H24]
    · iexact H24
    isplitl [H25]
    · iexact H25
    isplitl [H26]
    · iexact H26
    isplitl [H27]
    · iexact H27
    isplitl [H28]
    · iexact H28
    iexact H29
  iexact H20

set_option maxHeartbeats 4000000 in
/-- At the last point the output windows other than the sample rows' are found as they are to be left. -/
theorem enter_last (c : Dev nD) (t : Fin cfg0.N) (ht : ¬ t.val < 32) :
    iprop(found m c 0 t ∗ found m c 1 t ∗ found m c 2 t ∗ found m c 3 t ∗ found m c 4 t ∗ found m c 5 t ∗ found m c 6 t ∗ found m c 7 t ∗ found m c 8 t ∗ found m c 9 t ∗ found m c 10 t ∗ found m c 11 t ∗ found m c 12 t ∗ found m c 13 t ∗ found m c 14 t ∗ found m c 15 t ∗ found m c 16 t ∗ found m c 17 t ∗ found m c 18 t ∗ found m c 19 t ∗ found m c 20 t ∗ found m c 21 t ∗ found m c 22 t ∗ found m c 23 t ∗ found m c 24 t ∗ found m c 25 t ∗ found m c 26 t ∗ found m c 27 t ∗ found m c 28 t ∗ found m c 29 t) ⊢ (iprop(ins m c t ∗ outs m c t ∗ found m c 20 t) : sProp 𝕄) := by
  refine (enter_rows m c t).trans ?_
  unfold outsFound outs
  iintro ⟨Hi, ⟨H19, H21, H22, H23, H24, H25, H26, H27, H28, H29⟩, H20⟩
  isplitl [Hi]
  · iexact Hi
  isplitl [H19 H21 H22 H23 H24 H25 H26 H27 H28 H29]
  · isplitl [H19]
    · iapply (held_of_found m c 19 t fun d => before_last m c 19 t ht (by decide) (by decide) d); iexact H19
    isplitl [H21]
    · iapply (held_of_found m c 21 t fun d => before_last m c 21 t ht (by decide) (by decide) d); iexact H21
    isplitl [H22]
    · iapply (held_of_found m c 22 t fun d => before_last m c 22 t ht (by decide) (by decide) d); iexact H22
    isplitl [H23]
    · iapply (held_of_found m c 23 t fun d => before_last m c 23 t ht (by decide) (by decide) d); iexact H23
    isplitl [H24]
    · iapply (held_of_found m c 24 t fun d => before_last m c 24 t ht (by decide) (by decide) d); iexact H24
    isplitl [H25]
    · iapply (held_of_found m c 25 t fun d => before_last m c 25 t ht (by decide) (by decide) d); iexact H25
    isplitl [H26]
    · iapply (held_of_found m c 26 t fun d => before_last m c 26 t ht (by decide) (by decide) d); iexact H26
    isplitl [H27]
    · iapply (held_of_found m c 27 t fun d => before_last m c 27 t ht (by decide) (by decide) d); iexact H27
    isplitl [H28]
    · iapply (held_of_found m c 28 t fun d => before_last m c 28 t ht (by decide) (by decide) d); iexact H28
    iapply (held_of_found m c 29 t fun d => before_last m c 29 t ht (by decide) (by decide) d); iexact H29
  iexact H20

set_option maxHeartbeats 4000000 in
/-- What a point before the last leaves is what is asked of it. -/
theorem leave_rows (c : Dev nD) (t : Fin cfg0.N) (ht : t.val < 32) :
    iprop(ins m c t ∗ outs m c t ∗ found m c 20 t) ⊢ (iprop((dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t ∗ (dats m 0 c).leaves 7 t ∗ (dats m 0 c).leaves 8 t ∗ (dats m 0 c).leaves 9 t ∗ (dats m 0 c).leaves 10 t ∗ (dats m 0 c).leaves 11 t ∗ (dats m 0 c).leaves 12 t ∗ (dats m 0 c).leaves 13 t ∗ (dats m 0 c).leaves 14 t ∗ (dats m 0 c).leaves 15 t ∗ (dats m 0 c).leaves 16 t ∗ (dats m 0 c).leaves 17 t ∗ (dats m 0 c).leaves 18 t ∗ (dats m 0 c).leaves 19 t ∗ (dats m 0 c).leaves 20 t ∗ (dats m 0 c).leaves 21 t ∗ (dats m 0 c).leaves 22 t ∗ (dats m 0 c).leaves 23 t ∗ (dats m 0 c).leaves 24 t ∗ (dats m 0 c).leaves 25 t ∗ (dats m 0 c).leaves 26 t ∗ (dats m 0 c).leaves 27 t ∗ (dats m 0 c).leaves 28 t ∗ (dats m 0 c).leaves 29 t) : sProp 𝕄) := by
  unfold ins outs
  iintro ⟨⟨H0, H1, H2, H3, H4, H5, H6, H7, H8, H9, H10, H11, H12, H13, H14, H15, H16, H17, H18⟩, ⟨H19, H21, H22, H23, H24, H25, H26, H27, H28, H29⟩, H20⟩
  isplitl [H0]
  · iapply (leaves_of_held m c 0 t (live_or_flush 0 t (fun h => absurd h (by decide)))); iexact H0
  isplitl [H1]
  · iapply (leaves_of_held m c 1 t (live_or_flush 1 t (fun h => absurd h (by decide)))); iexact H1
  isplitl [H2]
  · iapply (leaves_of_held m c 2 t (live_or_flush 2 t (fun h => absurd h (by decide)))); iexact H2
  isplitl [H3]
  · iapply (leaves_of_held m c 3 t (live_or_flush 3 t (fun h => absurd h (by decide)))); iexact H3
  isplitl [H4]
  · iapply (leaves_of_held m c 4 t (live_or_flush 4 t (fun h => absurd h (by decide)))); iexact H4
  isplitl [H5]
  · iapply (leaves_of_held m c 5 t (live_or_flush 5 t (fun h => absurd h (by decide)))); iexact H5
  isplitl [H6]
  · iapply (leaves_of_held m c 6 t (live_or_flush 6 t (fun h => absurd h (by decide)))); iexact H6
  isplitl [H7]
  · iapply (leaves_of_held m c 7 t (live_or_flush 7 t (fun h => absurd h (by decide)))); iexact H7
  isplitl [H8]
  · iapply (leaves_of_held m c 8 t (live_or_flush 8 t (fun h => absurd h (by decide)))); iexact H8
  isplitl [H9]
  · iapply (leaves_of_held m c 9 t (live_or_flush 9 t (fun h => absurd h (by decide)))); iexact H9
  isplitl [H10]
  · iapply (leaves_of_held m c 10 t (live_or_flush 10 t (fun h => absurd h (by decide)))); iexact H10
  isplitl [H11]
  · iapply (leaves_of_held m c 11 t (live_or_flush 11 t (fun h => absurd h (by decide)))); iexact H11
  isplitl [H12]
  · iapply (leaves_of_held m c 12 t (live_or_flush 12 t (fun h => absurd h (by decide)))); iexact H12
  isplitl [H13]
  · iapply (leaves_of_held m c 13 t (live_or_flush 13 t (fun h => absurd h (by decide)))); iexact H13
  isplitl [H14]
  · iapply (leaves_of_held m c 14 t (live_or_flush 14 t (fun h => absurd h (by decide)))); iexact H14
  isplitl [H15]
  · iapply (leaves_of_held m c 15 t (live_or_flush 15 t (fun h => absurd h (by decide)))); iexact H15
  isplitl [H16]
  · iapply (leaves_of_held m c 16 t (live_or_flush 16 t (fun h => absurd h (by decide)))); iexact H16
  isplitl [H17]
  · iapply (leaves_of_held m c 17 t (live_or_flush 17 t (fun h => absurd h (by decide)))); iexact H17
  isplitl [H18]
  · iapply (leaves_of_held m c 18 t (live_or_flush 18 t (fun h => absurd h (by decide)))); iexact H18
  isplitl [H19]
  · iapply (leaves_of_held m c 19 t (live_or_flush 19 t (fun h => absurd h (by decide)))); iexact H19
  isplitl [H20]
  · iapply (leaves_of_found m c 20 t (idle_20 t ht) (flush_20 t ht)); iexact H20
  isplitl [H21]
  · iapply (leaves_of_held m c 21 t (live_or_flush 21 t (fun h => absurd h (by decide)))); iexact H21
  isplitl [H22]
  · iapply (leaves_of_held m c 22 t (live_or_flush 22 t (fun h => absurd h (by decide)))); iexact H22
  isplitl [H23]
  · iapply (leaves_of_held m c 23 t (live_or_flush 23 t (fun h => absurd h (by decide)))); iexact H23
  isplitl [H24]
  · iapply (leaves_of_held m c 24 t (live_or_flush 24 t (fun h => absurd h (by decide)))); iexact H24
  isplitl [H25]
  · iapply (leaves_of_held m c 25 t (live_or_flush 25 t (fun h => absurd h (by decide)))); iexact H25
  isplitl [H26]
  · iapply (leaves_of_held m c 26 t (live_or_flush 26 t (fun h => absurd h (by decide)))); iexact H26
  isplitl [H27]
  · iapply (leaves_of_held m c 27 t (live_or_flush 27 t (fun h => absurd h (by decide)))); iexact H27
  isplitl [H28]
  · iapply (leaves_of_held m c 28 t (live_or_flush 28 t (fun h => absurd h (by decide)))); iexact H28
  iapply (leaves_of_held m c 29 t (live_or_flush 29 t (fun h => absurd h (by decide)))); iexact H29

set_option maxHeartbeats 4000000 in
/-- So is what the last point leaves. -/
theorem leave_last (c : Dev nD) (t : Fin cfg0.N) (ht : ¬ t.val < 32) :
    iprop(ins m c t ∗ outs m c t ∗ held m c 20 t) ⊢ (iprop((dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t ∗ (dats m 0 c).leaves 7 t ∗ (dats m 0 c).leaves 8 t ∗ (dats m 0 c).leaves 9 t ∗ (dats m 0 c).leaves 10 t ∗ (dats m 0 c).leaves 11 t ∗ (dats m 0 c).leaves 12 t ∗ (dats m 0 c).leaves 13 t ∗ (dats m 0 c).leaves 14 t ∗ (dats m 0 c).leaves 15 t ∗ (dats m 0 c).leaves 16 t ∗ (dats m 0 c).leaves 17 t ∗ (dats m 0 c).leaves 18 t ∗ (dats m 0 c).leaves 19 t ∗ (dats m 0 c).leaves 20 t ∗ (dats m 0 c).leaves 21 t ∗ (dats m 0 c).leaves 22 t ∗ (dats m 0 c).leaves 23 t ∗ (dats m 0 c).leaves 24 t ∗ (dats m 0 c).leaves 25 t ∗ (dats m 0 c).leaves 26 t ∗ (dats m 0 c).leaves 27 t ∗ (dats m 0 c).leaves 28 t ∗ (dats m 0 c).leaves 29 t) : sProp 𝕄) := by
  unfold ins outs
  iintro ⟨⟨H0, H1, H2, H3, H4, H5, H6, H7, H8, H9, H10, H11, H12, H13, H14, H15, H16, H17, H18⟩, ⟨H19, H21, H22, H23, H24, H25, H26, H27, H28, H29⟩, H20⟩
  isplitl [H0]
  · iapply (leaves_of_held m c 0 t (live_or_flush 0 t (fun h => absurd h (by decide)))); iexact H0
  isplitl [H1]
  · iapply (leaves_of_held m c 1 t (live_or_flush 1 t (fun h => absurd h (by decide)))); iexact H1
  isplitl [H2]
  · iapply (leaves_of_held m c 2 t (live_or_flush 2 t (fun h => absurd h (by decide)))); iexact H2
  isplitl [H3]
  · iapply (leaves_of_held m c 3 t (live_or_flush 3 t (fun h => absurd h (by decide)))); iexact H3
  isplitl [H4]
  · iapply (leaves_of_held m c 4 t (live_or_flush 4 t (fun h => absurd h (by decide)))); iexact H4
  isplitl [H5]
  · iapply (leaves_of_held m c 5 t (live_or_flush 5 t (fun h => absurd h (by decide)))); iexact H5
  isplitl [H6]
  · iapply (leaves_of_held m c 6 t (live_or_flush 6 t (fun h => absurd h (by decide)))); iexact H6
  isplitl [H7]
  · iapply (leaves_of_held m c 7 t (live_or_flush 7 t (fun h => absurd h (by decide)))); iexact H7
  isplitl [H8]
  · iapply (leaves_of_held m c 8 t (live_or_flush 8 t (fun h => absurd h (by decide)))); iexact H8
  isplitl [H9]
  · iapply (leaves_of_held m c 9 t (live_or_flush 9 t (fun h => absurd h (by decide)))); iexact H9
  isplitl [H10]
  · iapply (leaves_of_held m c 10 t (live_or_flush 10 t (fun h => absurd h (by decide)))); iexact H10
  isplitl [H11]
  · iapply (leaves_of_held m c 11 t (live_or_flush 11 t (fun h => absurd h (by decide)))); iexact H11
  isplitl [H12]
  · iapply (leaves_of_held m c 12 t (live_or_flush 12 t (fun h => absurd h (by decide)))); iexact H12
  isplitl [H13]
  · iapply (leaves_of_held m c 13 t (live_or_flush 13 t (fun h => absurd h (by decide)))); iexact H13
  isplitl [H14]
  · iapply (leaves_of_held m c 14 t (live_or_flush 14 t (fun h => absurd h (by decide)))); iexact H14
  isplitl [H15]
  · iapply (leaves_of_held m c 15 t (live_or_flush 15 t (fun h => absurd h (by decide)))); iexact H15
  isplitl [H16]
  · iapply (leaves_of_held m c 16 t (live_or_flush 16 t (fun h => absurd h (by decide)))); iexact H16
  isplitl [H17]
  · iapply (leaves_of_held m c 17 t (live_or_flush 17 t (fun h => absurd h (by decide)))); iexact H17
  isplitl [H18]
  · iapply (leaves_of_held m c 18 t (live_or_flush 18 t (fun h => absurd h (by decide)))); iexact H18
  isplitl [H19]
  · iapply (leaves_of_held m c 19 t (live_or_flush 19 t (fun h => absurd h (by decide)))); iexact H19
  isplitl [H20]
  · iapply (leaves_of_held m c 20 t (live_or_flush 20 t (fun _ => ht))); iexact H20
  isplitl [H21]
  · iapply (leaves_of_held m c 21 t (live_or_flush 21 t (fun h => absurd h (by decide)))); iexact H21
  isplitl [H22]
  · iapply (leaves_of_held m c 22 t (live_or_flush 22 t (fun h => absurd h (by decide)))); iexact H22
  isplitl [H23]
  · iapply (leaves_of_held m c 23 t (live_or_flush 23 t (fun h => absurd h (by decide)))); iexact H23
  isplitl [H24]
  · iapply (leaves_of_held m c 24 t (live_or_flush 24 t (fun h => absurd h (by decide)))); iexact H24
  isplitl [H25]
  · iapply (leaves_of_held m c 25 t (live_or_flush 25 t (fun h => absurd h (by decide)))); iexact H25
  isplitl [H26]
  · iapply (leaves_of_held m c 26 t (live_or_flush 26 t (fun h => absurd h (by decide)))); iexact H26
  isplitl [H27]
  · iapply (leaves_of_held m c 27 t (live_or_flush 27 t (fun h => absurd h (by decide)))); iexact H27
  isplitl [H28]
  · iapply (leaves_of_held m c 28 t (live_or_flush 28 t (fun h => absurd h (by decide)))); iexact H28
  iapply (leaves_of_held m c 29 t (live_or_flush 29 t (fun h => absurd h (by decide)))); iexact H29

/-! ## The invariant -/

theorem inv_between (c : Dev nD) (t : Fin (cfg0.N + 1)) (h : 1 ≤ t.val ∧ t.val ≤ 32) : (dats m 0 c).Φ t = between m c := by
  dsimp only [dats]; exact if_pos h
theorem inv_atRest (c : Dev nD) (t : Fin (cfg0.N + 1)) (h : ¬ (1 ≤ t.val ∧ t.val ≤ 32)) : (dats m 0 c).Φ t = atRest m c := by
  dsimp only [dats]; exact if_neg h

/-- Nothing is owed at any point, so what waits are outstanding does not matter. -/
theorem owes_open (c : Dev nD) (t : Fin (cfg0.N + 1)) :
    (dats m 0 c).owesAt () t ⊢ (iprop(∃ W, owes (c : Thread nD τ) 0 W) : sProp 𝕄) := by
  unfold Dat.owesAt Pipeline.owesWithin
  rw [show (dats m 0 c).owed t = 0 from rfl]
  iintro ⟨%W, -, HW⟩
  iexists W
  iexact HW
theorem owes_close (c : Dev nD) (t : Fin (cfg0.N + 1)) (W : Waits sig Unit) :
    owes (c : Thread nD τ) 0 W ⊢ ((dats m 0 c).owesAt () t : sProp 𝕄) := by
  unfold Dat.owesAt Pipeline.owesWithin
  rw [show (dats m 0 c).owed t = 0 from rfl]
  iintro HW
  iexists W
  isplitr
  · ipureintro
    exact fun _ _ => Or.inl trivial
  iexact HW

/-- What the body is given at point `t`, -/
abbrev pre (c : Dev nD) (t : Fin cfg0.N) : sProp 𝕄 :=
  iprop((dats m 0 c).Φ t.castSucc ∗ (dats m 0 c).owesAt () t.castSucc ∗ found m c 0 t ∗ found m c 1 t ∗ found m c 2 t ∗ found m c 3 t ∗ found m c 4 t ∗ found m c 5 t ∗ found m c 6 t ∗ found m c 7 t ∗ found m c 8 t ∗ found m c 9 t ∗ found m c 10 t ∗ found m c 11 t ∗ found m c 12 t ∗ found m c 13 t ∗ found m c 14 t ∗ found m c 15 t ∗ found m c 16 t ∗ found m c 17 t ∗ found m c 18 t ∗ found m c 19 t ∗ found m c 20 t ∗ found m c 21 t ∗ found m c 22 t ∗ found m c 23 t ∗ found m c 24 t ∗ found m c 25 t ∗ found m c 26 t ∗ found m c 27 t ∗ found m c 28 t ∗ found m c 29 t)
/-- and what it is to give back. -/
abbrev post (c : Dev nD) (t : Fin cfg0.N) : sProp 𝕄 :=
  iprop((dats m 0 c).Φ t.succ ∗ (dats m 0 c).owesAt () t.succ ∗ (dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t ∗ (dats m 0 c).leaves 7 t ∗ (dats m 0 c).leaves 8 t ∗ (dats m 0 c).leaves 9 t ∗ (dats m 0 c).leaves 10 t ∗ (dats m 0 c).leaves 11 t ∗ (dats m 0 c).leaves 12 t ∗ (dats m 0 c).leaves 13 t ∗ (dats m 0 c).leaves 14 t ∗ (dats m 0 c).leaves 15 t ∗ (dats m 0 c).leaves 16 t ∗ (dats m 0 c).leaves 17 t ∗ (dats m 0 c).leaves 18 t ∗ (dats m 0 c).leaves 19 t ∗ (dats m 0 c).leaves 20 t ∗ (dats m 0 c).leaves 21 t ∗ (dats m 0 c).leaves 22 t ∗ (dats m 0 c).leaves 23 t ∗ (dats m 0 c).leaves 24 t ∗ (dats m 0 c).leaves 25 t ∗ (dats m 0 c).leaves 26 t ∗ (dats m 0 c).leaves 27 t ∗ (dats m 0 c).leaves 28 t ∗ (dats m 0 c).leaves 29 t)

set_option maxHeartbeats 4000000 in
/-- A point between the first and the last. -/
theorem body_rows (c : Dev nD) (t : Fin cfg0.N) (h0 : ¬ t.val = 0) (ht : t.val < 32) :
    pre m c t ⊢ wp frame (wpE (defs₀ (F := F)) Variants.none c none) Set.univ (bodyAt0 t) (fun _ => post m c t) := by
  rw [bodyAt0_later t h0]
  unfold pre post
  rw [inv_between m c t.castSucc ⟨Nat.one_le_iff_ne_zero.mpr h0, le_of_lt ht⟩, inv_between m c t.succ ⟨Nat.le_add_left _ _, ht⟩]
  unfold between
  iintro ⟨⟨S0, S1, G2, G3, G, C0, C1, C2, C3, V14, V15, Fx⟩, HW, Hw⟩
  icases (owes_open m c t.castSucc) $$ HW with ⟨%W, HW⟩
  icases (enter_rows m c t) $$ Hw with ⟨Hi, Ho, H20⟩
  iapply (mid_rows m c t ht (fun _ => _))
  isplitl [S0]
  · iexact S0
  isplitl [S1]
  · iexact S1
  isplitl [Hi]
  · iexact Hi
  isplitl [Ho]
  · iexact Ho
  iintro ⟨S0, S1, Hi, Ho⟩
  isplitl [S0 S1 G2 G3 G C0 C1 C2 C3 V14 V15 Fx]
  · isplitl [S0]
    · iexact S0
    isplitl [S1]
    · iexact S1
    isplitl [G2]
    · iexact G2
    isplitl [G3]
    · iexact G3
    isplitl [G]
    · iexact G
    isplitl [C0]
    · iexact C0
    isplitl [C1]
    · iexact C1
    isplitl [C2]
    · iexact C2
    isplitl [C3]
    · iexact C3
    isplitl [V14]
    · iexact V14
    isplitl [V15]
    · iexact V15
    iexact Fx
  isplitl [HW]
  · iapply (owes_close m c t.succ W); iexact HW
  iapply (leave_rows m c t ht)
  isplitl [Hi]
  · iexact Hi
  isplitl [Ho]
  · iexact Ho
  iexact H20

set_option maxHeartbeats 4000000 in
/-- The first point: the scratch is filled, then as at the others. -/
theorem body_first (c : Dev nD) (t : Fin cfg0.N) (h0 : t.val = 0) :
    pre m c t ⊢ wp frame (wpE (defs₀ (F := F)) Variants.none c none) Set.univ (bodyAt0 t) (fun _ => post m c t) := by
  have ht : t.val < 32 := by omega
  rw [bodyAt0_first t h0]
  unfold pre post
  rw [inv_atRest m c t.castSucc (fun h => absurd (show 1 ≤ t.val from h.1) (by omega)), inv_between m c t.succ ⟨Nat.le_add_left _ _, ht⟩, atRest_eq]
  unfold between
  iintro ⟨⟨⟨⟨%s0, S0⟩, ⟨%s1, S1⟩, ⟨%s2, S2⟩, ⟨%s3, S3⟩, ⟨%s6, S6⟩⟩, G, ⟨C0, C1, C2, C3, C4⟩, X1, V14, V15⟩, HW, Hw⟩
  icases (owes_open m c t.castSucc) $$ HW with ⟨%W, HW⟩
  icases (enter_rows m c t) $$ Hw with ⟨Hi, Ho, H20⟩
  iapply (load c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (V m c main_arg1) (V m c main_v14) (V m c main_v15) s0 s1 s2 s3 s6 W (midAt t) _)
  isplitl [X1]
  · iexact X1
  isplitl [V14]
  · iexact V14
  isplitl [V15]
  · iexact V15
  isplitl [S0]
  · iexact S0
  isplitl [S1]
  · iexact S1
  isplitl [S2]
  · iexact S2
  isplitl [S3]
  · iexact S3
  isplitl [S6]
  · iexact S6
  isplitl [C0]
  · iexact C0
  isplitl [C1]
  · iexact C1
  isplitl [C2]
  · iexact C2
  isplitl [C3]
  · iexact C3
  isplitl [C4]
  · iexact C4
  isplitl [HW]
  · iexact HW
  iintro ⟨V14, V15, S0, S1, G2, G3, C0, C1, C2, C3, Fx, ⟨%W', HW⟩⟩
  iapply (mid_rows m c t ht (fun _ => _))
  isplitl [S0]
  · iexact S0
  isplitl [S1]
  · iexact S1
  isplitl [Hi]
  · iexact Hi
  isplitl [Ho]
  · iexact Ho
  iintro ⟨S0, S1, Hi, Ho⟩
  isplitl [S0 S1 G2 G3 G C0 C1 C2 C3 V14 V15 Fx]
  · isplitl [S0]
    · iexact S0
    isplitl [S1]
    · iexact S1
    isplitl [G2]
    · iexact G2
    isplitl [G3]
    · iexact G3
    isplitl [G]
    · iexact G
    isplitl [C0]
    · iexact C0
    isplitl [C1]
    · iexact C1
    isplitl [C2]
    · iexact C2
    isplitl [C3]
    · iexact C3
    isplitl [V14]
    · iexact V14
    isplitl [V15]
    · iexact V15
    iexact Fx
  isplitl [HW]
  · iapply (owes_close m c t.succ W'); iexact HW
  iapply (leave_rows m c t ht)
  isplitl [Hi]
  · iexact Hi
  isplitl [Ho]
  · iexact Ho
  iexact H20

set_option maxHeartbeats 4000000 in
/-- The last point: the sample rows, and everything at rest again. -/
theorem body_last (c : Dev nD) (t : Fin cfg0.N) (ht : ¬ t.val < 32) :
    pre m c t ⊢ wp frame (wpE (defs₀ (F := F)) Variants.none c none) Set.univ (bodyAt0 t) (fun _ => post m c t) := by
  have e : t.val = 32 := by have h : t.val < 33 := lt_of_lt_of_eq t.isLt N_0; omega
  rw [bodyAt0_later t (by omega)]
  unfold pre post
  rw [inv_between m c t.castSucc ⟨show 1 ≤ t.val by omega, show t.val ≤ 32 by omega⟩,
    inv_atRest m c t.succ (fun h => absurd (show t.val + 1 ≤ 32 from h.2) (by omega)), atRest_eq]
  unfold between
  iintro ⟨⟨S0, S1, ⟨%s2, S2⟩, ⟨%s3, S3⟩, G, C0, C1, C2, C3, V14, V15, Fx⟩, HW, Hw⟩
  icases (owes_open m c t.castSucc) $$ HW with ⟨%W, HW⟩
  icases (enter_last m c t ht) $$ Hw with ⟨⟨H0, H1, H2, H3, H4, H5, H6, H7, H8, H9, H10, H11, H12, H13, H14, H15, H16, H17, H18⟩, Ho, H20⟩
  iapply (mid_sample m c t ht W (fun _ => _))
  isplitl [S0]
  · iexact S0
  isplitl [S1]
  · iexact S1
  isplitl [Fx]
  · iexact Fx
  isplitl [H4]
  · iexact H4
  isplitl [H5]
  · iexact H5
  isplitl [H6]
  · iexact H6
  isplitl [H7]
  · iexact H7
  isplitl [H20]
  · iexact H20
  isplitl [HW]
  · iexact HW
  iintro ⟨S0, S1, X1, ⟨%s6, S6⟩, C4, H4, H5, H6, H7, H20, ⟨%W', HW⟩⟩
  isplitl [S0 S1 S2 S3 S6 G C0 C1 C2 C3 C4 X1 V14 V15]
  · isplitl [S0 S1 S2 S3 S6]
    · isplitl [S0]
      · iexists _; iexact S0
      isplitl [S1]
      · iexists _; iexact S1
      isplitl [S2]
      · iexists _; iexact S2
      isplitl [S3]
      · iexists _; iexact S3
      iexists _; iexact S6
    isplitl [G]
    · iexact G
    isplitl [C0 C1 C2 C3 C4]
    · isplitl [C0]
      · iexact C0
      isplitl [C1]
      · iexact C1
      isplitl [C2]
      · iexact C2
      isplitl [C3]
      · iexact C3
      iexact C4
    isplitl [X1]
    · iexact X1
    isplitl [V14]
    · iexact V14
    iexact V15
  isplitl [HW]
  · iapply (owes_close m c t.succ W'); iexact HW
  iapply (leave_last m c t ht)
  isplitl [H0 H1 H2 H3 H4 H5 H6 H7 H8 H9 H10 H11 H12 H13 H14 H15 H16 H17 H18]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    iexact H18
  isplitl [Ho]
  · iexact Ho
  iexact H20

theorem defs₀_row (t : Fin cfg0.N) : defs₀ (F := F) .tc cfg0.body (cfg0.bodyArgs t (cfg0.slots t)) = bodyAt0 t := by
  unfold defs₀; rw [Defs.onTc_tc]

set_option maxHeartbeats 2000000 in
/-- The body, at every point, takes what the pipeline gives it to what the proof data says it leaves. -/
theorem body_obligation (c : Dev nD) : Pipeline.BodyObligationLoose (dats m 0 c) (defs₀ (F := F)) Variants.none () Set.univ := by
  intro t
  rw [bigSep_W0, bigSep_W0, defs₀_row]
  by_cases h0 : t.val = 0
  · exact triple_restated (body_first m c t h0) rfl .rfl fun _ => .rfl
  by_cases ht : t.val < 32
  · exact triple_restated (body_rows m c t h0 ht) rfl .rfl fun _ => .rfl
  · exact triple_restated (body_last m c t ht) rfl .rfl fun _ => .rfl

/-! ## The whole run -/

set_option maxHeartbeats 800000 in
/-- @main up to the region. -/
theorem hmain' : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
set_option maxHeartbeats 2000000 in
/-- The program runs to the end: no wait is left open, every array is as the proof data says, every other buffer as at
    the region's entry. -/
theorem run_main : θ_run defs (onTc (τ := τ) (main (F := F))) (s₀ m ρ)
    (fun r => Pipeline.FramePost cfgs (dats m) 0 (V m) r ∧ r.2.sem = fun _ => 0) :=
  Pipeline.θ_run_frame_dma_shared cfgs (dats m) 0 launch₀0 osem0 defs₀ Variants.none ownSemFacts0 H0 H0_sub m ρ main
    (fun c => body_obligation m c) (fun _ _ _ => rfl) (fun _ _ => rfl) (V m) (hmain' m) (fun c w => dats_A m c w)
    (fun c => (show atRest m c ⊢ (dats m 0 c).Φ 0 from by rw [inv_atRest m c 0 (fun h => absurd h.1 (by decide))]))
    (fun c => (show (dats m 0 c).Φ (Fin.last cfg0.N) ⊢ atRest m c from by
      rw [inv_atRest m c (Fin.last cfg0.N) (fun h => absurd (show cfg0.N ≤ 32 from h.2) (by rw [show cfg0.N = 33 from N_0]; decide))]))
    (Q' := fun r => Pipeline.FramePost cfgs (dats m) 0 (V m) r ∧ r.2.sem = fun _ => 0) (hQ' := fun _ h => h)

set_option maxHeartbeats 2000000 in
/-- After the run every argument array of a device is left as it was launched. -/
theorem args_kept (r : PUnit × MemSt nD τ sig (Elt F)) (hr : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  have h := hr c
  ⟨(h.2 main_arg0 (Pipeline.mem_restRefs_of main_arg0 (by decide) (by decide))).trans (V_main_arg0 m c),
      (h.2 main_arg1 (Pipeline.mem_restRefs_of main_arg1 (by decide) (by decide))).trans (V_main_arg1 m c),
      (h.1 6).trans (((dats m 0 c).arrAt_in 6 rfl _).trans ((dats_A m c 6).trans (V_main_arg2 m c))),
      (h.2 main_arg3 (Pipeline.mem_restRefs_of main_arg3 (by decide) (by decide))).trans (V_main_arg3 m c),
      (h.2 main_arg4 (Pipeline.mem_restRefs_of main_arg4 (by decide) (by decide))).trans (V_main_arg4 m c),
      (h.2 main_arg5 (Pipeline.mem_restRefs_of main_arg5 (by decide) (by decide))).trans (V_main_arg5 m c),
      (h.2 main_arg6 (Pipeline.mem_restRefs_of main_arg6 (by decide) (by decide))).trans (V_main_arg6 m c),
      (h.2 main_arg7 (Pipeline.mem_restRefs_of main_arg7 (by decide) (by decide))).trans (V_main_arg7 m c),
      (h.2 main_arg8 (Pipeline.mem_restRefs_of main_arg8 (by decide) (by decide))).trans (V_main_arg8 m c),
      (h.2 main_arg9 (Pipeline.mem_restRefs_of main_arg9 (by decide) (by decide))).trans (V_main_arg9 m c),
      (h.2 main_arg10 (Pipeline.mem_restRefs_of main_arg10 (by decide) (by decide))).trans (V_main_arg10 m c),
      (h.2 main_arg11 (Pipeline.mem_restRefs_of main_arg11 (by decide) (by decide))).trans (V_main_arg11 m c),
      (h.2 main_arg12 (Pipeline.mem_restRefs_of main_arg12 (by decide) (by decide))).trans (V_main_arg12 m c),
      (h.2 main_arg13 (Pipeline.mem_restRefs_of main_arg13 (by decide) (by decide))).trans (V_main_arg13 m c),
      (h.2 main_arg14 (Pipeline.mem_restRefs_of main_arg14 (by decide) (by decide))).trans (V_main_arg14 m c),
      (h.2 main_arg15 (Pipeline.mem_restRefs_of main_arg15 (by decide) (by decide))).trans (V_main_arg15 m c)⟩

/-- Every argument array is left as it was launched, and no wait is left open. -/
theorem frame_main : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) ∧ r.2.sem = fun _ => 0) :=
  (θ_run defs _ _).mono (fun r h => ⟨fun c => args_kept m r h.1 c, h.2⟩) (run_main m ρ)

end Cert.KernelIdeal.Hand

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run

@[expose] public section

set_option maxRecDepth 16384

noncomputable section

namespace Cert.KernelIdeal.Hand

open Cert.KernelIdeal Cert.KernelIdeal.Gen Idealize.ShloMosaic Idealize.ShloMosaic.TcCoe Idealize.SL.Sem

/-- The frame of this text at the machine's own floats. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0)

theorem frameBits : FrameBits := fun m ρ _ => frame_main (F := Bits) m ρ

/-- The kernel as printed and the kernel read at the extended reals are one text, so their frames are one statement. -/
theorem frameBits_eq : Cert.quiescent_Kernel = FrameBits := by sl_kernel_rfl

/-- The kernel read at the machine's own floats runs, leaves its arguments as launched and ends with no wait open. -/
theorem frame_kernel : Cert.quiescent_Kernel := frameBits_eq.mpr frameBits

/-- So does the kernel read at the extended reals. -/
theorem frame_ideal : Cert.quiescent_KernelIdeal := fun m ρ _ => frame_main (F := Ideal) m ρ

end Cert.KernelIdeal.Hand

end
-- ==== Proof.Index.lean ====
module

public import proofs.«01_k».proof.Proof.Dats
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## Where each window's block sits, as a function of the point -/

theorem at_0 : ∀ t : Fin cfg0.N, win0_0.index t = ![min t.val 31, 0] := (by decide +kernel : ∀ t : Fin grid0.N, _)
theorem at_1 : ∀ t : Fin cfg0.N, win0_1.index t = ![16, 0] := (by decide +kernel : ∀ t : Fin grid0.N, _)
theorem at_2 : ∀ t : Fin cfg0.N, win0_2.index t = ![16, 1] := (by decide +kernel : ∀ t : Fin grid0.N, _)
theorem at_3 : ∀ t : Fin cfg0.N, win0_3.index t = ![16, 2] := (by decide +kernel : ∀ t : Fin grid0.N, _)
theorem at_4 : ∀ t : Fin cfg0.N, win0_4.index t = ![0, 0] := (by decide +kernel : ∀ t : Fin grid0.N, _)
theorem at_5 : ∀ t : Fin cfg0.N, win0_5.index t = ![0, 1] := (by decide +kernel : ∀ t : Fin grid0.N, _)
theorem at_6 : ∀ t : Fin cfg0.N, win0_6.index t = ![0, 2] := (by decide +kernel : ∀ t : Fin grid0.N, _)
theorem at_7 : ∀ t : Fin cfg0.N, win0_7.index t = ![0, 0] := (by decide +kernel : ∀ t : Fin grid0.N, _)
theorem at_8 : ∀ t : Fin cfg0.N, win0_8.index t = ![128 * min t.val 23, 0] := (by decide +kernel : ∀ t : Fin grid0.N, _)
theorem at_9 : ∀ t : Fin cfg0.N, win0_9.index t = ![3072, 0] := (by decide +kernel : ∀ t : Fin grid0.N, _)
theorem at_10 : ∀ t : Fin cfg0.N, win0_10.index t = ![3088 + 128 * min t.val 31, 0] := (by decide +kernel : ∀ t : Fin grid0.N, _)
theorem at_11 : ∀ t : Fin cfg0.N, win0_11.index t = ![min t.val 31, 0] := (by decide +kernel : ∀ t : Fin grid0.N, _)
theorem at_12 : ∀ t : Fin cfg0.N, win0_12.index t = ![min t.val 31, 0] := (by decide +kernel : ∀ t : Fin grid0.N, _)
theorem at_13 : ∀ t : Fin cfg0.N, win0_13.index t = ![min t.val 31, 0] := (by decide +kernel : ∀ t : Fin grid0.N, _)
theorem at_14 : ∀ t : Fin cfg0.N, win0_14.index t = ![min t.val 31, 0] := (by decide +kernel : ∀ t : Fin grid0.N, _)
theorem at_15 : ∀ t : Fin cfg0.N, win0_15.index t = ![min t.val 31 / 2, 0] := (by decide +kernel : ∀ t : Fin grid0.N, _)
theorem at_16 : ∀ t : Fin cfg0.N, win0_16.index t = ![0, 0] := (by decide +kernel : ∀ t : Fin grid0.N, _)
theorem at_17 : ∀ t : Fin cfg0.N, win0_17.index t = ![0, 12 + min t.val 23] := (by decide +kernel : ∀ t : Fin grid0.N, _)
theorem at_18 : ∀ t : Fin cfg0.N, win0_18.index t = ![0, 12 + min t.val 23] := (by decide +kernel : ∀ t : Fin grid0.N, _)
theorem at_19 : ∀ t : Fin cfg0.N, win0_19.index t = ![min t.val 31, 0] := (by decide +kernel : ∀ t : Fin grid0.N, _)
theorem at_20 : ∀ t : Fin cfg0.N, win0_20.index t = ![0, 0] := (by decide +kernel : ∀ t : Fin grid0.N, _)
theorem at_21 : ∀ t : Fin cfg0.N, win0_21.index t = ![0, min t.val 23] := (by decide +kernel : ∀ t : Fin grid0.N, _)
theorem at_22 : ∀ t : Fin cfg0.N, win0_22.index t = ![0, 0] := (by decide +kernel : ∀ t : Fin grid0.N, _)
theorem at_23 : ∀ t : Fin cfg0.N, win0_23.index t = ![0, min t.val 31] := (by decide +kernel : ∀ t : Fin grid0.N, _)
theorem at_24 : ∀ t : Fin cfg0.N, win0_24.index t = ![min t.val 31, 0] := (by decide +kernel : ∀ t : Fin grid0.N, _)
theorem at_25 : ∀ t : Fin cfg0.N, win0_25.index t = ![min t.val 31, 0] := (by decide +kernel : ∀ t : Fin grid0.N, _)
theorem at_26 : ∀ t : Fin cfg0.N, win0_26.index t = ![min t.val 31, 0] := (by decide +kernel : ∀ t : Fin grid0.N, _)
theorem at_27 : ∀ t : Fin cfg0.N, win0_27.index t = ![min t.val 31, 0] := (by decide +kernel : ∀ t : Fin grid0.N, _)
theorem at_28 : ∀ t : Fin cfg0.N, win0_28.index t = ![min t.val 31 / 2, 0] := (by decide +kernel : ∀ t : Fin grid0.N, _)
theorem at_29 : ∀ t : Fin cfg0.N, win0_29.index t = ![0, min t.val 23] := (by decide +kernel : ∀ t : Fin grid0.N, _)

/-! ## What the body leaves in the output windows -/

theorem after_19 (c : Dev nD) (t : Fin cfg0.N) : (dats m 0 c).after 19 t = out19 m c (lastRow t) (cond2_lastRow t) := by dsimp only [dats]
theorem after_20 (c : Dev nD) (t : Fin cfg0.N) : (dats m 0 c).after 20 t = out20 m c t := by dsimp only [dats]
theorem after_21 (c : Dev nD) (t : Fin cfg0.N) : (dats m 0 c).after 21 t = out21 m c (lastRow t) := by dsimp only [dats]
theorem after_22 (c : Dev nD) (t : Fin cfg0.N) : (dats m 0 c).after 22 t = out22 m c (lastRow t) := by dsimp only [dats]
theorem after_23 (c : Dev nD) (t : Fin cfg0.N) : (dats m 0 c).after 23 t = out23 m c (lastRow t) := by dsimp only [dats]
theorem after_24 (c : Dev nD) (t : Fin cfg0.N) : (dats m 0 c).after 24 t = out24 m c (lastRow t) := by dsimp only [dats]
theorem after_25 (c : Dev nD) (t : Fin cfg0.N) : (dats m 0 c).after 25 t = out25 m c (lastRow t) := by dsimp only [dats]
theorem after_26 (c : Dev nD) (t : Fin cfg0.N) : (dats m 0 c).after 26 t = out26 m c (lastRow t) := by dsimp only [dats]
theorem after_27 (c : Dev nD) (t : Fin cfg0.N) : (dats m 0 c).after 27 t = out27 m c (lastRow t) := by dsimp only [dats]
theorem after_28 (c : Dev nD) (t : Fin cfg0.N) : (dats m 0 c).after 28 t = out28 m c (lastRow t) := by dsimp only [dats]
theorem after_29 (c : Dev nD) (t : Fin cfg0.N) : (dats m 0 c).after 29 t = out29 m c (lastRow t) := by dsimp only [dats]

end Cert.KernelIdeal.Hand

end
-- ==== Proof.Weights.lean ====
module

public import proofs.«01_k».proof.Proof.Index
public import proofs.«01_k».proof.Proof.Gen.ReferenceIdeal.Read
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## The element-indexed windows: rows of the transposed projection, columns of the projection -/

/-- The array those windows read is the projection transposed. -/
theorem V_main_v5 (c : Dev nD) (r : Fin 7184) (k : Fin 1024) :
    V m c main_v5 (ix2 r k) = m ((c : Thread nD τ).loc main_arg6) (ix3 0 k r) := by
  entry_read
  pointwise

theorem blk_8 (c : Dev nD) (t : Fin cfg0.N) (r : Fin 128) (k : Fin 1024) :
    iblk m c 8 t (ix2 r k) = m ((c : Thread nD τ).loc main_arg6) (ix3 0 k ⟨128 * min t.val 23 + ↑r, by omega⟩) := by
  refine Eq.trans (congrArg (V m c main_v5) (?_ : (win0_8.rect t).emb (ix2 r k) = ix2 ⟨128 * min t.val 23 + ↑r, by omega⟩ k)) (V_main_v5 m c _ k)
  funext a
  refine Fin.ext ((win0_8.rect_emb_val_off t (ix2 r k) a).trans ?_)
  rw [at_8 t]
  match a with
  | ⟨0, _⟩ => rfl
  | ⟨1, _⟩ => exact Nat.zero_add _

theorem blk_9 (c : Dev nD) (t : Fin cfg0.N) (r : Fin 16) (k : Fin 1024) :
    iblk m c 9 t (ix2 r k) = m ((c : Thread nD τ).loc main_arg6) (ix3 0 k ⟨3072 + ↑r, by omega⟩) := by
  refine Eq.trans (congrArg (V m c main_v5) (?_ : (win0_9.rect t).emb (ix2 r k) = ix2 ⟨3072 + ↑r, by omega⟩ k)) (V_main_v5 m c _ k)
  funext a
  refine Fin.ext ((win0_9.rect_emb_val_off t (ix2 r k) a).trans ?_)
  rw [at_9 t]
  match a with
  | ⟨0, _⟩ => rfl
  | ⟨1, _⟩ => exact Nat.zero_add _

theorem blk_10 (c : Dev nD) (t : Fin cfg0.N) (r : Fin 128) (k : Fin 1024) :
    iblk m c 10 t (ix2 r k) = m ((c : Thread nD τ).loc main_arg6) (ix3 0 k ⟨3088 + 128 * min t.val 31 + ↑r, by omega⟩) := by
  refine Eq.trans (congrArg (V m c main_v5) (?_ : (win0_10.rect t).emb (ix2 r k) = ix2 ⟨3088 + 128 * min t.val 31 + ↑r, by omega⟩ k)) (V_main_v5 m c _ k)
  funext a
  refine Fin.ext ((win0_10.rect_emb_val_off t (ix2 r k) a).trans ?_)
  rw [at_10 t]
  match a with
  | ⟨0, _⟩ => rfl
  | ⟨1, _⟩ => exact Nat.zero_add _

/-! ## Window 21: the first projection's columns -/

set_option maxHeartbeats 1000000 in
/-- The block the body leaves is the reference's array at the block's place, -/
theorem point_21 (c : Dev nD) (t : Fin cfg0.N) (y) : out21 m c (lastRow t) y
    = Cert.ReferenceIdeal.Read.val_main_v94 (F := Ideal) (m ((c : Thread nD τ).loc main_arg6)) (((cfg0.win 21).blk t).view.emb y) := by
  unfold out21 Cert.ReferenceIdeal.Read.val_main_v94 Cert.ReferenceIdeal.Read.val_main_v93 Cert.ReferenceIdeal.Read.val_main_v79
  pointwise [k0_pay27, k0_pay26]
  refine (blk_8 m c (lastRow t) (y 1) (y 0)).trans ?_
  blk_ext [at_21 t]

set_option maxHeartbeats 1000000 in
/-- and the blocks cover the array. -/
theorem final_21 (c : Dev nD) : (dats m 0 c).arrAt 21 (cfgs 0).N
    = Cert.ReferenceIdeal.Read.val_main_v94 (F := Ideal) (m ((c : Thread nD τ).loc main_arg6)) := by
  refine (dats m 0 c).arrAt_eq_of_covers 21 _ (by decide +kernel) fun t hf y => ?_
  blk_simp
  rw [after_21]
  exact point_21 m c t y

/-! ## Window 22: the low-rank columns, padded -/

set_option maxHeartbeats 1000000 in
/-- The block the body leaves is the reference's array at the block's place, -/
theorem point_22 (c : Dev nD) (t : Fin cfg0.N) (y) : out22 m c (lastRow t) y
    = Cert.ReferenceIdeal.Read.val_main_v95 (F := Ideal) (m ((c : Thread nD τ).loc main_arg6)) (((cfg0.win 22).blk t).view.emb y) := by
  unfold out22 Cert.ReferenceIdeal.Read.val_main_v95 Cert.ReferenceIdeal.Read.val_main_v82 Cert.ReferenceIdeal.Read.val_main_v81 Cert.ReferenceIdeal.Read.val_main_v80 Cert.ReferenceIdeal.Read.val_main_v79 Cert.ReferenceIdeal.Read.val_main_cst_9
  pointwise [k0_pay29]
  have e : ((((View.whole main_v16_3).slice ((win0 22).rect t)).emb y 1 : Fin _) : ℕ) = ↑(y 1) :=
    ((cfg0.win 22).rect_emb_val_of_index_zero t 1 (by rw [show (cfg0.win 22).index t = ![0, 0] from at_22 t]; rfl) y)
  by_cases h : ((y 1 : Fin _) : ℕ) < 16
  · rw [dif_pos h, dif_pos (by rw [e]; exact h)]
    refine (blk_9 m c (lastRow t) ⟨_, h⟩ (y 0)).trans ?_
    blk_ext [at_22 t]
  · rw [dif_neg h, dif_neg (by rw [e]; exact h)]

set_option maxHeartbeats 1000000 in
/-- and the blocks cover the array. -/
theorem final_22 (c : Dev nD) : (dats m 0 c).arrAt 22 (cfgs 0).N
    = Cert.ReferenceIdeal.Read.val_main_v95 (F := Ideal) (m ((c : Thread nD τ).loc main_arg6)) := by
  refine (dats m 0 c).arrAt_eq_of_covers 22 _ (by decide +kernel) fun t hf y => ?_
  blk_simp
  rw [after_22]
  exact point_22 m c t y

/-! ## Window 23: the gate projection's columns -/

set_option maxHeartbeats 1000000 in
/-- The block the body leaves is the reference's array at the block's place, -/
theorem point_23 (c : Dev nD) (t : Fin cfg0.N) (y) : out23 m c (lastRow t) y
    = Cert.ReferenceIdeal.Read.val_main_v97 (F := Ideal) (m ((c : Thread nD τ).loc main_arg6)) (((cfg0.win 23).blk t).view.emb y) := by
  unfold out23 Cert.ReferenceIdeal.Read.val_main_v97 Cert.ReferenceIdeal.Read.val_main_v96 Cert.ReferenceIdeal.Read.val_main_v79
  pointwise [k0_pay28]
  refine (blk_10 m c (lastRow t) (y 1) (y 0)).trans ?_
  blk_ext [at_23 t]

set_option maxHeartbeats 1000000 in
/-- and the blocks cover the array. -/
theorem final_23 (c : Dev nD) : (dats m 0 c).arrAt 23 (cfgs 0).N
    = Cert.ReferenceIdeal.Read.val_main_v97 (F := Ideal) (m ((c : Thread nD τ).loc main_arg6)) := by
  refine (dats m 0 c).arrAt_eq_of_covers 23 _ (by decide +kernel) fun t hf y => ?_
  blk_simp
  rw [after_23]
  exact point_23 m c t y

/-! ## Window 24: the first product weight -/

set_option maxHeartbeats 1000000 in
/-- The block the body leaves is the reference's array at the block's place, -/
theorem point_24 (c : Dev nD) (t : Fin cfg0.N) (y) : out24 m c (lastRow t) y
    = Cert.ReferenceIdeal.Read.val_main_v99 (F := Ideal) (m ((c : Thread nD τ).loc main_arg7)) (((cfg0.win 24).blk t).view.emb y) := by
  unfold out24 Cert.ReferenceIdeal.Read.val_main_v99 Cert.ReferenceIdeal.Read.val_main_v98
  pointwise [k0_pay30]
  blk_point [iblk, V, at_11 (lastRow t), at_24 t]

set_option maxHeartbeats 1000000 in
/-- and the blocks cover the array. -/
theorem final_24 (c : Dev nD) : (dats m 0 c).arrAt 24 (cfgs 0).N
    = Cert.ReferenceIdeal.Read.val_main_v99 (F := Ideal) (m ((c : Thread nD τ).loc main_arg7)) := by
  refine (dats m 0 c).arrAt_eq_of_covers 24 _ (by decide +kernel) fun t hf y => ?_
  blk_simp
  rw [after_24]
  exact point_24 m c t y

/-! ## Window 25: the second product weight -/

set_option maxHeartbeats 1000000 in
/-- The block the body leaves is the reference's array at the block's place, -/
theorem point_25 (c : Dev nD) (t : Fin cfg0.N) (y) : out25 m c (lastRow t) y
    = Cert.ReferenceIdeal.Read.val_main_v101 (F := Ideal) (m ((c : Thread nD τ).loc main_arg8)) (((cfg0.win 25).blk t).view.emb y) := by
  unfold out25 Cert.ReferenceIdeal.Read.val_main_v101 Cert.ReferenceIdeal.Read.val_main_v100
  pointwise [k0_pay31]
  blk_point [iblk, V, at_12 (lastRow t), at_25 t]

set_option maxHeartbeats 1000000 in
/-- and the blocks cover the array. -/
theorem final_25 (c : Dev nD) : (dats m 0 c).arrAt 25 (cfgs 0).N
    = Cert.ReferenceIdeal.Read.val_main_v101 (F := Ideal) (m ((c : Thread nD τ).loc main_arg8)) := by
  refine (dats m 0 c).arrAt_eq_of_covers 25 _ (by decide +kernel) fun t hf y => ?_
  blk_simp
  rw [after_25]
  exact point_25 m c t y

/-! ## Window 26: the output weight -/

set_option maxHeartbeats 1000000 in
/-- The block the body leaves is the reference's array at the block's place, -/
theorem point_26 (c : Dev nD) (t : Fin cfg0.N) (y) : out26 m c (lastRow t) y
    = Cert.ReferenceIdeal.Read.val_main_v103 (F := Ideal) (m ((c : Thread nD τ).loc main_arg9)) (((cfg0.win 26).blk t).view.emb y) := by
  unfold out26 Cert.ReferenceIdeal.Read.val_main_v103 Cert.ReferenceIdeal.Read.val_main_v102
  pointwise [k0_pay32]
  blk_point [iblk, V, at_13 (lastRow t), at_26 t]

set_option maxHeartbeats 1000000 in
/-- and the blocks cover the array. -/
theorem final_26 (c : Dev nD) : (dats m 0 c).arrAt 26 (cfgs 0).N
    = Cert.ReferenceIdeal.Read.val_main_v103 (F := Ideal) (m ((c : Thread nD τ).loc main_arg9)) := by
  refine (dats m 0 c).arrAt_eq_of_covers 26 _ (by decide +kernel) fun t hf y => ?_
  blk_simp
  rw [after_26]
  exact point_26 m c t y

/-! ## Window 27: the next layer's first weight -/

set_option maxHeartbeats 1000000 in
/-- The block the body leaves is the reference's array at the block's place, -/
theorem point_27 (c : Dev nD) (t : Fin cfg0.N) (y) : out27 m c (lastRow t) y
    = Cert.ReferenceIdeal.Read.val_main_v105 (F := Ideal) (m ((c : Thread nD τ).loc main_arg10)) (((cfg0.win 27).blk t).view.emb y) := by
  unfold out27 Cert.ReferenceIdeal.Read.val_main_v105 Cert.ReferenceIdeal.Read.val_main_v104
  pointwise [k0_pay3, k0_pay33]
  blk_point [iblk, V, at_14 (lastRow t), at_27 t]

set_option maxHeartbeats 1000000 in
/-- and the blocks cover the array. -/
theorem final_27 (c : Dev nD) : (dats m 0 c).arrAt 27 (cfgs 0).N
    = Cert.ReferenceIdeal.Read.val_main_v105 (F := Ideal) (m ((c : Thread nD τ).loc main_arg10)) := by
  refine (dats m 0 c).arrAt_eq_of_covers 27 _ (by decide +kernel) fun t hf y => ?_
  blk_simp
  rw [after_27]
  exact point_27 m c t y

/-! ## Window 28: the next layer's second weight -/

set_option maxHeartbeats 1000000 in
/-- The block the body leaves is the reference's array at the block's place, -/
theorem point_28 (c : Dev nD) (t : Fin cfg0.N) (y) : out28 m c (lastRow t) y
    = Cert.ReferenceIdeal.Read.val_main_v107 (F := Ideal) (m ((c : Thread nD τ).loc main_arg11)) (((cfg0.win 28).blk t).view.emb y) := by
  unfold out28 Cert.ReferenceIdeal.Read.val_main_v107 Cert.ReferenceIdeal.Read.val_main_v106
  pointwise [k0_pay4]
  blk_point [iblk, V, at_15 (lastRow t), at_28 t]

set_option maxHeartbeats 1000000 in
/-- and the blocks cover the array. -/
theorem final_28 (c : Dev nD) : (dats m 0 c).arrAt 28 (cfgs 0).N
    = Cert.ReferenceIdeal.Read.val_main_v107 (F := Ideal) (m ((c : Thread nD τ).loc main_arg11)) := by
  refine (dats m 0 c).arrAt_eq_of_covers 28 _ (by decide +kernel) fun t hf y => ?_
  blk_simp
  rw [after_28]
  exact point_28 m c t y

end Cert.KernelIdeal.Hand

end
-- ==== Proof.Entry.lean ====
module

public import proofs.«01_k».proof.Proof.Index
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## The arrays the call reads, entry by entry -/

/-- The prompt rows flattened. -/
theorem V_main_v0 (c : Dev nD) (r : Fin 16384) (k : Fin 1024) :
    V m c main_v0 (ix2 r k) = m ((c : Thread nD τ).loc main_arg0) (ix3 ⟨↑r / 2048, by omega⟩ ⟨↑r % 2048, by omega⟩ k) := by
  entry_read
  pointwise

/-- The first norm's weight as a row. -/
theorem V_main_v13 (c : Dev nD) (k : Fin 1024) : V m c main_v13 (ix2 0 k) = m ((c : Thread nD τ).loc main_arg3) (ix2 0 k) := by
  entry_read
  pointwise

/-- The two feed-forward weights of the one layer. -/
theorem V_main_v14 (c : Dev nD) (k : Fin 1024) (j : Fin 5632) : V m c main_v14 (ix2 k j) = m ((c : Thread nD τ).loc main_arg4) (ix3 0 k j) := by
  entry_read
  pointwise
theorem V_main_v15 (c : Dev nD) (j : Fin 2816) (k : Fin 1024) : V m c main_v15 (ix2 j k) = m ((c : Thread nD τ).loc main_arg5) (ix3 0 j k) := by
  entry_read
  pointwise

/-! ## The blocks, entry by entry -/

/-- Window 0: 512 prompt rows. -/
theorem blk_0 (c : Dev nD) (t : Fin cfg0.N) (r : Fin 512) (k : Fin 1024) :
    iblk m c 0 t (ix2 r k) = V m c main_v0 (ix2 ⟨min t.val 31 * 512 + r.val, by omega⟩ ⟨0 * 1024 + k.val, by omega⟩) := by
  refine congrArg (V m c main_v0) (?_ : (win0_0.rect t).emb (ix2 r k) = _)
  funext a
  refine Fin.ext ((win0_0.rect_emb_val_off t (ix2 r k) a).trans ?_)
  rw [at_0 t]
  match a with
  | ⟨0, _⟩ => exact rfl
  | ⟨1, _⟩ => exact rfl

/-- Window 1: the prompts' shift rows. -/
theorem blk_1 (c : Dev nD) (t : Fin cfg0.N) (r : Fin 8) (k : Fin 1024) :
    iblk m c 1 t (ix2 r k) = V m c main_arg2 (ix2 ⟨16 * 8 + r.val, by omega⟩ ⟨0 * 1024 + k.val, by omega⟩) := by
  refine congrArg (V m c main_arg2) (?_ : (win0_1.rect t).emb (ix2 r k) = _)
  funext a
  refine Fin.ext ((win0_1.rect_emb_val_off t (ix2 r k) a).trans ?_)
  rw [at_1 t]
  match a with
  | ⟨0, _⟩ => exact rfl
  | ⟨1, _⟩ => exact rfl

/-- Window 2: the prompts' scale rows. -/
theorem blk_2 (c : Dev nD) (t : Fin cfg0.N) (r : Fin 8) (k : Fin 1024) :
    iblk m c 2 t (ix2 r k) = V m c main_arg2 (ix2 ⟨16 * 8 + r.val, by omega⟩ ⟨1 * 1024 + k.val, by omega⟩) := by
  refine congrArg (V m c main_arg2) (?_ : (win0_2.rect t).emb (ix2 r k) = _)
  funext a
  refine Fin.ext ((win0_2.rect_emb_val_off t (ix2 r k) a).trans ?_)
  rw [at_2 t]
  match a with
  | ⟨0, _⟩ => exact rfl
  | ⟨1, _⟩ => exact rfl

/-- Window 3: the prompts' gate rows. -/
theorem blk_3 (c : Dev nD) (t : Fin cfg0.N) (r : Fin 8) (k : Fin 1024) :
    iblk m c 3 t (ix2 r k) = V m c main_arg2 (ix2 ⟨16 * 8 + r.val, by omega⟩ ⟨2 * 1024 + k.val, by omega⟩) := by
  refine congrArg (V m c main_arg2) (?_ : (win0_3.rect t).emb (ix2 r k) = _)
  funext a
  refine Fin.ext ((win0_3.rect_emb_val_off t (ix2 r k) a).trans ?_)
  rw [at_3 t]
  match a with
  | ⟨0, _⟩ => exact rfl
  | ⟨1, _⟩ => exact rfl

/-- Window 7: the norm's weight. -/
theorem blk_7 (c : Dev nD) (t : Fin cfg0.N) (r : Fin 1) (k : Fin 1024) :
    iblk m c 7 t (ix2 r k) = V m c main_v13 (ix2 ⟨0 * 1 + r.val, by omega⟩ ⟨0 * 1024 + k.val, by omega⟩) := by
  refine congrArg (V m c main_v13) (?_ : (win0_7.rect t).emb (ix2 r k) = _)
  funext a
  refine Fin.ext ((win0_7.rect_emb_val_off t (ix2 r k) a).trans ?_)
  rw [at_7 t]
  match a with
  | ⟨0, _⟩ => exact rfl
  | ⟨1, _⟩ => exact rfl

/-- Window 4: the samples' shift rows. -/
theorem blk_4 (c : Dev nD) (t : Fin cfg0.N) (r : Fin 128) (k : Fin 1024) :
    X0_4 m c t (ix2 r k) = V m c main_arg2 (ix2 ⟨0 * 128 + r.val, by omega⟩ ⟨0 * 1024 + k.val, by omega⟩) := by
  unfold X0_4 Pipeline.Window.fill
  rw [dif_pos (moved0_4 t (ix2 r k))]
  refine congrArg (V m c main_arg2) (?_ : (win0_4.rect t).emb _ = _)
  funext a
  refine Fin.ext ((win0_4.rect_emb_val_off t _ a).trans ?_)
  rw [at_4 t]
  match a with
  | ⟨0, _⟩ => rfl
  | ⟨1, _⟩ => rfl

/-- Window 5: the samples' scale rows. -/
theorem blk_5 (c : Dev nD) (t : Fin cfg0.N) (r : Fin 128) (k : Fin 1024) :
    X0_5 m c t (ix2 r k) = V m c main_arg2 (ix2 ⟨0 * 128 + r.val, by omega⟩ ⟨1 * 1024 + k.val, by omega⟩) := by
  unfold X0_5 Pipeline.Window.fill
  rw [dif_pos (moved0_5 t (ix2 r k))]
  refine congrArg (V m c main_arg2) (?_ : (win0_5.rect t).emb _ = _)
  funext a
  refine Fin.ext ((win0_5.rect_emb_val_off t _ a).trans ?_)
  rw [at_5 t]
  match a with
  | ⟨0, _⟩ => rfl
  | ⟨1, _⟩ => rfl

/-- Window 6: the samples' gate rows. -/
theorem blk_6 (c : Dev nD) (t : Fin cfg0.N) (r : Fin 128) (k : Fin 1024) :
    X0_6 m c t (ix2 r k) = V m c main_arg2 (ix2 ⟨0 * 128 + r.val, by omega⟩ ⟨2 * 1024 + k.val, by omega⟩) := by
  unfold X0_6 Pipeline.Window.fill
  rw [dif_pos (moved0_6 t (ix2 r k))]
  refine congrArg (V m c main_arg2) (?_ : (win0_6.rect t).emb _ = _)
  funext a
  refine Fin.ext ((win0_6.rect_emb_val_off t _ a).trans ?_)
  rw [at_6 t]
  match a with
  | ⟨0, _⟩ => rfl
  | ⟨1, _⟩ => rfl

/-- The weights in scratch. -/
theorem w13_apply (c : Dev nD) (k : Fin 1024) (j : Fin 5632) : w13 m c (ix2 k j) = m ((c : Thread nD τ).loc main_arg4) (ix3 0 k j) := V_main_v14 m c k j
theorem w2_apply (c : Dev nD) (j : Fin 2816) (k : Fin 1024) : w2 m c (ix2 j k) = m ((c : Thread nD τ).loc main_arg5) (ix3 0 j k) := V_main_v15 m c j k

/-- The sample rows. -/
theorem xsRows_apply (c : Dev nD) (r : Fin 128) (k : Fin 1024) :
    xsRows c (V m c main_arg1) (ix2 r k) = m ((c : Thread nD τ).loc main_arg1) (ix3 r 0 k) := by
  unfold xsRows
  rw [V_main_arg1]
  refine congrArg (m ((c : Thread nD τ).loc main_arg1)) ?_
  have hq : Shape.reshapeEquiv (Shape.Squeezes.numel_eq squeezes_S128x1x1024_S128x1024) (ix2 r k) = (ix3 r (0 : Fin 1) k : S128x1x1024.Idx) :=
    Shape.reshapeEquiv_eq_of_rowMajor _ (by
      rw [Shape.rowMajor_val_three, Shape.rowMajor_val_two]
      show ((r.val * 1 + 0) * 1024 + k.val) = r.val * 1024 + k.val
      omega)
  refine (congrArg (Rect.emb (Rect.unit ![0, 0, 0] S128x1x1024.size inb_S128x1x1024_S128x1x1024_0_0_0)) hq).trans ?_
  funext a
  refine Fin.ext ?_
  match a with
  | ⟨0, _⟩ => exact (Nat.zero_add _).trans (Nat.one_mul _)
  | ⟨1, _⟩ => rfl
  | ⟨2, _⟩ => exact (Nat.zero_add _).trans (Nat.one_mul _)

theorem off1_eq : ∀ t : Fin cfg0.N, k0_off1 (grid0.coords t) = ![t.val / 4, 0] := (by decide +kernel : ∀ t : Fin grid0.N, _)

/-- The modulation row a point reads is its batch's. -/
theorem rowAt_apply (t : Fin cfg0.N) (ht : t.val < 32) (h2 : k0_cond2 (grid0.coords t) = 1#1) (X : FVec Ideal S8x1024 .f32) (k : Fin 1024) :
    rowAt (F := Ideal) (grid0.coords t) h2 X (ix2 0 k) = X (ix2 ⟨t.val / 4, by omega⟩ k) := by
  unfold rowAt
  have hoff : k0_off1 (grid0.coords t) = ![t.val / 4, 0] := off1_eq t
  pointwise
  exact congrArg X (congrArg₂ ix2 (Fin.ext (congrFun hoff 0)) (Fin.ext ((congrArg (· + k.val) (congrFun hoff 1)).trans (Nat.zero_add _))))

end Cert.KernelIdeal.Hand

end
-- ==== Proof.Math.lean ====
module

public import Idealize.ShloMosaic.PureOps.Ideal

@[expose] public section

noncomputable section

namespace Cert.Ffn

open Idealize.ShloMosaic

/-! ## One row of the feed-forward step, over the extended reals -/

/-- The reciprocal of a row's root mean square. -/
def rmsInv (x : Fin 1024 → EReal) : EReal :=
  Ideal.rsqrt (Ideal.div (∑ k, x k * x k) (Ideal.ofBits .f32 0x44800000#32) + Ideal.ofBits .f32 0x358637BD#32)

/-- The row normalized, weighted, scaled and shifted. -/
def normed (x nw sc sh : Fin 1024 → EReal) (k : Fin 1024) : EReal :=
  x k * rmsInv x * nw k * (1 + sc k) + sh k

/-- One hidden value: the gate column's product with its logistic, times the up column's. -/
def hidAt (h : Fin 1024 → EReal) (w13 : Fin 1024 → Fin 5632 → EReal) (j : Fin 2816) : EReal :=
  (∑ k, h k * w13 k ⟨j.val, by omega⟩) * Ideal.logistic (∑ k, h k * w13 k ⟨j.val, by omega⟩)
    * ∑ k, h k * w13 k ⟨2816 + j.val, by omega⟩

/-- The row after the step: the row, plus half the gate times the hidden values through the second weight. -/
def step (x sh sc g nw : Fin 1024 → EReal) (w13 : Fin 1024 → Fin 5632 → EReal) (w2 : Fin 2816 → Fin 1024 → EReal) (d : Fin 1024) : EReal :=
  x d + Ideal.ofBits .f32 0x3F000000#32 * g d * ∑ j, hidAt (normed x nw sc sh) w13 j * w2 j d

/-- The logistic as a quotient. -/
theorem logistic_eq (x : EReal) : Ideal.logistic x = Ideal.div 1 (1 + Ideal.exp (-x)) := rfl

end Cert.Ffn

end
-- ==== Proof.Modulation.lean ====
module

public import proofs.«01_k».proof.Proof.Entry
public import proofs.«01_k».proof.Proof.Math
public import proofs.«01_k».proof.Proof.Gen.ReferenceIdeal.Read
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## The modulation's columns -/

/-- One entry of the modulation: the gated row times a column, plus the bias. -/
def modEntry (cc w : Fin 1024 → EReal) (b : EReal) : EReal :=
  (∑ k : Fin 1024, cc k * Ideal.logistic (cc k) * w k) + b

/-- The conditioning rows: 128 of the samples, then 8 of the prompts. -/
def condRow (p : S8x1024.Idx → EReal) (s : S128x1024.Idx → EReal) (r : Fin 136) (k : Fin 1024) : EReal :=
  if h : r.val < 128 then s (ix2 ⟨r.val, h⟩ k) else p (ix2 ⟨r.val - 128, by omega⟩ k)

/-- The conditioning rows the call reads. -/
theorem V_main_v1 (c : Dev nD) (r : Fin 136) (k : Fin 1024) :
    V m c main_v1 (ix2 r k) = condRow (m ((c : Thread nD τ).loc main_arg12)) (m ((c : Thread nD τ).loc main_arg13)) r k := by
  entry_read
  pointwise
  rfl

/-- The modulation's weight and its bias, of the one layer. -/
theorem V_main_v11 (c : Dev nD) (k : Fin 1024) (j : Fin 9216) : V m c main_v11 (ix2 k j) = m ((c : Thread nD τ).loc main_arg14) (ix3 0 k j) := by
  entry_read
  pointwise
theorem V_main_v3 (c : Dev nD) (j : Fin 9216) : V m c main_v3 (ix2 0 j) = m ((c : Thread nD τ).loc main_arg15) (ix2 0 j) := by
  entry_read
  pointwise

/-- Window 16: all the conditioning rows. -/
theorem blk_16 (c : Dev nD) (t : Fin cfg0.N) (r : Fin 136) (k : Fin 1024) :
    iblk m c 16 t (ix2 r k) = V m c main_v1 (ix2 ⟨0 * 136 + r.val, by omega⟩ ⟨0 * 1024 + k.val, by omega⟩) := by
  refine congrArg (V m c main_v1) (?_ : (win0_16.rect t).emb (ix2 r k) = _)
  funext a
  refine Fin.ext ((win0_16.rect_emb_val_off t (ix2 r k) a).trans ?_)
  rw [at_16 t]
  match a with
  | ⟨0, _⟩ => exact rfl
  | ⟨1, _⟩ => exact rfl

/-- Window 17: 256 columns of the modulation's weight. -/
theorem blk_17 (c : Dev nD) (t : Fin cfg0.N) (r : Fin 1024) (k : Fin 256) :
    iblk m c 17 t (ix2 r k) = V m c main_v11 (ix2 ⟨0 * 1024 + r.val, by omega⟩ ⟨(12 + min t.val 23) * 256 + k.val, by omega⟩) := by
  refine congrArg (V m c main_v11) (?_ : (win0_17.rect t).emb (ix2 r k) = _)
  funext a
  refine Fin.ext ((win0_17.rect_emb_val_off t (ix2 r k) a).trans ?_)
  rw [at_17 t]
  match a with
  | ⟨0, _⟩ => exact rfl
  | ⟨1, _⟩ => exact rfl

/-- Window 18: 256 columns of the bias. -/
theorem blk_18 (c : Dev nD) (t : Fin cfg0.N) (r : Fin 1) (k : Fin 256) :
    iblk m c 18 t (ix2 r k) = V m c main_v3 (ix2 ⟨0 * 1 + r.val, by omega⟩ ⟨(12 + min t.val 23) * 256 + k.val, by omega⟩) := by
  refine congrArg (V m c main_v3) (?_ : (win0_18.rect t).emb (ix2 r k) = _)
  funext a
  refine Fin.ext ((win0_18.rect_emb_val_off t (ix2 r k) a).trans ?_)
  rw [at_18 t]
  match a with
  | ⟨0, _⟩ => exact rfl
  | ⟨1, _⟩ => exact rfl

/-- An entry of the block the body leaves. -/
theorem out29_apply (c : Dev nD) (t : Fin cfg0.N) (r : Fin 136) (k : Fin 256) : out29 (F := Ideal) m c t (ix2 r k)
    = modEntry (fun x => iblk m c 16 t (ix2 r x)) (fun x => iblk m c 17 t (ix2 x k)) (iblk m c 18 t (ix2 0 k)) := by
  unfold out29
  pointwise [k0_pay25]
  rfl

/-- An entry of the reference's array. -/
theorem ref29_apply (x12 : S8x1024.Idx → EReal) (x13 : S128x1024.Idx → EReal) (x14 : S1x1024x9216.Idx → EReal) (x15 : S1x9216.Idx → EReal)
    (r : Fin 136) (j : Fin 6144) : Cert.ReferenceIdeal.Read.val_main_v92 (F := Ideal) x12 x13 x14 x15 (ix2 r j)
    = modEntry (condRow x12 x13 r) (fun x => x14 (ix3 0 x ⟨3072 + j.val, by omega⟩)) (x15 (ix2 0 ⟨3072 + j.val, by omega⟩)) := by
  rw [← Cert.ReferenceIdeal.Read.val_main_v92_eq]
  pointwise
  rfl

/-- The block the body leaves is the reference's array at the block's place, -/
theorem point_29 (c : Dev nD) (t : Fin cfg0.N) (r : Fin 136) (k : Fin 256) : out29 (F := Ideal) m c (lastRow t) (ix2 r k)
    = Cert.ReferenceIdeal.Read.val_main_v92 (F := Ideal) (m ((c : Thread nD τ).loc main_arg12)) (m ((c : Thread nD τ).loc main_arg13)) (m ((c : Thread nD τ).loc main_arg14)) (m ((c : Thread nD τ).loc main_arg15))
        (ix2 r ⟨min t.val 23 * 256 + k.val, by omega⟩) := by
  have hl : (lastRow t).val = min t.val 31 := rfl
  rw [out29_apply, ref29_apply]
  have e1 : ∀ x, iblk m c 16 (lastRow t) (ix2 r x) = condRow (m ((c : Thread nD τ).loc main_arg12)) (m ((c : Thread nD τ).loc main_arg13)) r x := fun x => by
    refine (blk_16 m c (lastRow t) r x).trans ?_
    rw [V_main_v1]
    exact congrArg₂ (condRow _ _) (Fin.ext (by simp)) (Fin.ext (by simp))
  have e2 : ∀ x, iblk m c 17 (lastRow t) (ix2 x k)
      = m ((c : Thread nD τ).loc main_arg14) (ix3 0 x ⟨3072 + (min t.val 23 * 256 + k.val), by omega⟩) := fun x => by
    refine (blk_17 m c (lastRow t) x k).trans ?_
    rw [V_main_v11]
    exact congrArg (m ((c : Thread nD τ).loc main_arg14)) (congrArg₂ (ix3 0) (Fin.ext (by simp)) (Fin.ext (by show _ = 3072 + _; dsimp only; omega)))
  have e3 : iblk m c 18 (lastRow t) (ix2 0 k)
      = m ((c : Thread nD τ).loc main_arg15) (ix2 0 ⟨3072 + (min t.val 23 * 256 + k.val), by omega⟩) := by
    refine (blk_18 m c (lastRow t) 0 k).trans ?_
    refine (V_main_v3 m c _).trans ?_
    exact congrArg (m ((c : Thread nD τ).loc main_arg15)) (congrArg (ix2 0) (Fin.ext (by show _ = 3072 + _; dsimp only; omega)))
  rw [funext e1, funext e2, e3]

/-- and the blocks cover the array. -/
theorem final_29 (c : Dev nD) : (dats m 0 c).arrAt 29 (cfgs 0).N
    = Cert.ReferenceIdeal.Read.val_main_v92 (F := Ideal) (m ((c : Thread nD τ).loc main_arg12)) (m ((c : Thread nD τ).loc main_arg13)) (m ((c : Thread nD τ).loc main_arg14)) (m ((c : Thread nD τ).loc main_arg15)) := by
  refine (dats m 0 c).arrAt_eq_of_covers 29 _ (by decide +kernel) fun t hf y => ?_
  rw [after_29]
  have hy : y = (ix2 (y 0) (y 1) : S136x256.Idx) := by funext a; match a with | ⟨0, _⟩ => rfl | ⟨1, _⟩ => rfl
  have he : (win0_29.rect t).emb y = (ix2 (y 0) ⟨min t.val 23 * 256 + (y 1).val, by have : (y 1).val < 256 := (y 1).isLt; omega⟩ : S136x6144.Idx) := by
    funext a
    refine Fin.ext ((win0_29.rect_emb_val_off t y a).trans ?_)
    rw [at_29 t]
    match a with
    | ⟨0, _⟩ => exact Nat.zero_add _
    | ⟨1, _⟩ => exact rfl
  rw [hy]
  refine (point_29 m c t (y 0) (y 1)).trans ?_
  exact congrArg (Cert.ReferenceIdeal.Read.val_main_v92 (F := Ideal) (m ((c : Thread nD τ).loc main_arg12)) (m ((c : Thread nD τ).loc main_arg13)) (m ((c : Thread nD τ).loc main_arg14)) (m ((c : Thread nD τ).loc main_arg15))) (he.symm.trans (by rw [← hy]; rfl))

end Cert.KernelIdeal.Hand

end
-- ==== Proof.Rows.lean ====
module

public import proofs.«01_k».proof.Proof.Dats
public import proofs.«01_k».proof.Proof.Math
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

open Cert.Ffn

/-! ## The prompt rows' block, read at an index -/

/-- The normalized rows: the kernel multiplies weight and scale first. -/
theorem pay23_apply (X : FVec Ideal S512x1024 .f32) (nw sc sh : FVec Ideal S1x1024 .f32) (r : Fin 512) (k : Fin 1024) :
    k0_pay23 (F := Ideal) X nw sc sh (ix2 r k)
      = normed (fun k => X (ix2 r k)) (fun k => nw (ix2 0 k)) (fun k => sc (ix2 0 k)) (fun k => sh (ix2 0 k)) k := by
  unfold normed rmsInv
  pointwise [k0_pay23, k0_pay22]
  rw [mul_assoc (X (ix2 r k) * _)]

/-- The rows after the step, from the normalized rows. -/
theorem pay24_apply (X : FVec Ideal S512x1024 .f32) (H : FVec Ideal S512x1024 .bf16) (a b : FVec Ideal S1024x2816 .bf16)
    (g : FVec Ideal S1x1024 .f32) (w : FVec Ideal S2816x1024 .bf16) (r : Fin 512) (d : Fin 1024) :
    k0_pay24 (F := Ideal) (k0_pay22 (F := Ideal) X) H a b g w (ix2 r d)
      = X (ix2 r d) + Ideal.ofBits .f32 0x3F000000#32 * g (ix2 0 d)
          * ∑ j : Fin 2816, (∑ k, H (ix2 r k) * a (ix2 k j)) * Ideal.logistic (∑ k, H (ix2 r k) * a (ix2 k j))
              * (∑ k, H (ix2 r k) * b (ix2 k j)) * w (ix2 j d) := by
  pointwise [k0_pay24, k0_pay22]

theorem gateHalf_apply (w : FVec Ideal S1024x5632 .bf16) (k : Fin 1024) (j : Fin 2816) :
    gateHalf (F := Ideal) w (ix2 k j) = w (ix2 k ⟨j.val, by omega⟩) := by
  unfold gateHalf
  pointwise

theorem upHalf_apply (w : FVec Ideal S1024x5632 .bf16) (k : Fin 1024) (j : Fin 2816) :
    upHalf (F := Ideal) w (ix2 k j) = w (ix2 k ⟨2816 + j.val, by omega⟩) := by
  unfold upHalf
  pointwise

/-- A block of prompt rows: each row goes through the step with its batch's modulation row. -/
theorem oRows_apply (i : grid0.Coords) (h2 : k0_cond2 i = 1#1) (X : FVec Ideal S512x1024 .f32) (sh sc g : FVec Ideal S8x1024 .f32)
    (nw : FVec Ideal S1x1024 .f32) (w13 : FVec Ideal S1024x5632 .bf16) (w2 : FVec Ideal S2816x1024 .bf16) (r : Fin 512) (d : Fin 1024) :
    oRows (F := Ideal) i h2 X sh sc g nw w13 w2 (ix2 r d)
      = step (fun k => X (ix2 r k)) (fun k => rowAt (F := Ideal) i h2 sh (ix2 0 k)) (fun k => rowAt (F := Ideal) i h2 sc (ix2 0 k)) (fun k => rowAt (F := Ideal) i h2 g (ix2 0 k))
          (fun k => nw (ix2 0 k)) (fun k n => w13 (ix2 k n)) (fun j d => w2 (ix2 j d)) d := by
  unfold oRows step hidAt
  rw [pay24_apply]
  simp only [pay23_apply, gateHalf_apply, upHalf_apply]

/-! ## The sample rows' block -/

/-- The hidden values of the sample rows. -/
theorem pay34_apply (X : FVec Ideal S128x1024 .f32) (nw : FVec Ideal S1x1024 .f32) (sc sh : FVec Ideal S128x1024 .f32)
    (a b : FVec Ideal S1024x2816 .bf16) (r : Fin 128) (j : Fin 2816) :
    k0_pay34 (F := Ideal) X nw sc sh a b (ix2 r j)
      = (∑ k, normed (fun k => X (ix2 r k)) (fun k => nw (ix2 0 k)) (fun k => sc (ix2 r k)) (fun k => sh (ix2 r k)) k * a (ix2 k j))
          * Ideal.logistic (∑ k, normed (fun k => X (ix2 r k)) (fun k => nw (ix2 0 k)) (fun k => sc (ix2 r k)) (fun k => sh (ix2 r k)) k * a (ix2 k j))
          * ∑ k, normed (fun k => X (ix2 r k)) (fun k => nw (ix2 0 k)) (fun k => sc (ix2 r k)) (fun k => sh (ix2 r k)) k * b (ix2 k j) := by
  unfold normed rmsInv
  pointwise [k0_pay34]

/-- The sample rows after the step, from the hidden values. -/
theorem pay5_apply (X : FVec Ideal S128x1024 .f32) (P : FVec Ideal S128x2816 .bf16) (g : FVec Ideal S128x1024 .f32)
    (w : FVec Ideal S2816x1024 .bf16) (r : Fin 128) (d : Fin 1024) :
    k0_pay5 (F := Ideal) X P g (k0_pay35 (F := Ideal)) w (ix2 r d)
      = X (ix2 r d) + Ideal.ofBits .f32 0x3F000000#32 * g (ix2 r d) * ∑ j : Fin 2816, P (ix2 r j) * w (ix2 j d) := by
  pointwise [k0_pay5, k0_pay35]

/-- The sample rows: each row goes through the step with its own modulation row. -/
theorem oSample_apply (X : FVec Ideal S128x1024 .f32) (nw : FVec Ideal S1x1024 .f32) (sh sc g : FVec Ideal S128x1024 .f32)
    (w13 : FVec Ideal S1024x5632 .bf16) (w2 : FVec Ideal S2816x1024 .bf16) (r : Fin 128) (d : Fin 1024) :
    oSample (F := Ideal) X nw sh sc g w13 w2 (ix2 r d)
      = step (fun k => X (ix2 r k)) (fun k => sh (ix2 r k)) (fun k => sc (ix2 r k)) (fun k => g (ix2 r k))
          (fun k => nw (ix2 0 k)) (fun k n => w13 (ix2 k n)) (fun j d => w2 (ix2 j d)) d := by
  unfold oSample step hidAt
  rw [pay5_apply]
  simp only [pay34_apply, gateHalf_apply, upHalf_apply]

end Cert.KernelIdeal.Hand

end
-- ==== Proof.RefFfn.lean ====
module

public import proofs.«01_k».proof.Proof.Math
public import proofs.«01_k».proof.Proof.Gen.ReferenceIdeal.Read
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Read Cert.Ffn Idealize.ShloMosaic Idealize.SL.Sem

variable (x0 : S8x2048x1024.Idx → EReal) (x1 : S128x1x1024.Idx → EReal) (x2 : S136x3072.Idx → EReal) (x3 : S1x1024.Idx → EReal)
  (x4 : S1x1024x5632.Idx → EReal) (x5 : S1x2816x1024.Idx → EReal)

/-- The shift, the scale and the gate of the modulation's row `r`. -/
def modShift (r : Fin 136) (k : Fin 1024) : EReal := x2 (ix2 r ⟨k.val, by omega⟩)
def modScale (r : Fin 136) (k : Fin 1024) : EReal := x2 (ix2 r ⟨1024 + k.val, by omega⟩)
def modGate (r : Fin 136) (k : Fin 1024) : EReal := x2 (ix2 r ⟨2048 + k.val, by omega⟩)

/-! ## The prompt rows -/

/-- The normalized, modulated rows. -/
theorem val_main_v25_at (b : Fin 8) (s : Fin 2048) (k : Fin 1024) : val_main_v25 (F := Ideal) x0 x2 x3 (ix3 b s k)
    = (normed (fun k => x0 (ix3 b s k)) (fun k => x3 (ix2 0 k)) (modScale x2 ⟨128 + b.val, by omega⟩) (modShift x2 ⟨128 + b.val, by omega⟩)) k := by
  pointwise [val_main_v25, val_main_v24, val_main_v23, val_main_v1, val_main_v0, val_main_v22, val_main_v21, val_main_v20, val_main_v18, val_main_v2, val_main_v19, val_main_cst_2, val_main_v17, val_main_v16, val_main_v15, val_main_v4, val_main_v14, val_main_v13, val_main_v12, val_main_v11, val_main_v10, val_main_cst_1, val_main_v9, val_main_v8, val_main_cst_0, val_main_v7, val_main_v6, val_main_cst, val_main_v5]
  rfl

/-- Their product with the first weight. -/
theorem val_main_v31_at (b : Fin 8) (s : Fin 2048) (n : Fin 5632) : val_main_v31 (F := Ideal) x0 x2 x3 x4 (ix3 b s n)
    = ∑ k : Fin 1024, (normed (fun k => x0 (ix3 b s k)) (fun k => x3 (ix2 0 k)) (modScale x2 ⟨128 + b.val, by omega⟩) (modShift x2 ⟨128 + b.val, by omega⟩)) k * x4 (ix3 0 k n) := by
  rw [val_main_v31_apply]
  refine Finset.sum_congr rfl fun k _ => congrArg₂ (· * ·) ?_ ?_
  · refine (congrArg (val_main_v25 (F := Ideal) x0 x2 x3) (?_ : _ = (ix3 b s k))).trans (val_main_v25_at x0 x2 x3 b s k)
    funext a
    match a with
    | ⟨0, _⟩ => rfl
    | ⟨1, _⟩ => rfl
    | ⟨2, _⟩ => rfl
  · pointwise [val_main_v31, val_main_v29]
    rfl

/-- The hidden values. -/
theorem val_main_v35_at (b : Fin 8) (s : Fin 2048) (j : Fin 2816) : val_main_v35 (F := Ideal) x0 x2 x3 x4 (ix3 b s j)
    = hidAt (normed (fun k => x0 (ix3 b s k)) (fun k => x3 (ix2 0 k)) (modScale x2 ⟨128 + b.val, by omega⟩) (modShift x2 ⟨128 + b.val, by omega⟩)) (fun k n => x4 (ix3 0 k n)) j := by
  unfold hidAt
  rw [← val_main_v31_at, ← val_main_v31_at]
  pointwise [val_main_v35, val_main_v33, val_main_v34, val_main_call0_v5, val_main_call0_v3, val_main_call0_v1, val_main_call0_v0, val_main_v32, val_main_call0_v2, val_main_call0_cst, val_main_call0_v4, val_main_call0_cst_0]
  rfl

/-! ## The sample rows -/

/-- The normalized, modulated rows. -/
theorem val_main_v64_at (b : Fin 128) (k : Fin 1024) : val_main_v64 (F := Ideal) x1 x2 x3 (ix3 b 0 k)
    = (normed (fun k => x1 (ix3 b 0 k)) (fun k => x3 (ix2 0 k)) (modScale x2 ⟨b.val, by omega⟩) (modShift x2 ⟨b.val, by omega⟩)) k := by
  pointwise [val_main_v64, val_main_v63, val_main_v42, val_main_v41, val_main_v62, val_main_v61, val_main_v59, val_main_v43, val_main_v60, val_main_cst_7, val_main_v58, val_main_v57, val_main_v56, val_main_v45, val_main_v55, val_main_v54, val_main_v53, val_main_v52, val_main_v51, val_main_cst_6, val_main_v50, val_main_v49, val_main_cst_5, val_main_v48, val_main_v47, val_main_cst_4, val_main_v46]
  rfl

/-- Their product with the first weight. -/
theorem val_main_v70_at (b : Fin 128) (n : Fin 5632) : val_main_v70 (F := Ideal) x1 x2 x3 x4 (ix3 b 0 n)
    = ∑ k : Fin 1024, (normed (fun k => x1 (ix3 b 0 k)) (fun k => x3 (ix2 0 k)) (modScale x2 ⟨b.val, by omega⟩) (modShift x2 ⟨b.val, by omega⟩)) k * x4 (ix3 0 k n) := by
  rw [val_main_v70_apply]
  refine Finset.sum_congr rfl fun k _ => congrArg₂ (· * ·) ?_ ?_
  · refine (congrArg (val_main_v64 (F := Ideal) x1 x2 x3) (?_ : _ = (ix3 b 0 k))).trans (val_main_v64_at x1 x2 x3 b k)
    funext a
    match a with
    | ⟨0, _⟩ => rfl
    | ⟨1, _⟩ => rfl
    | ⟨2, _⟩ => rfl
  · pointwise [val_main_v70, val_main_v68]
    rfl

/-- The hidden values. -/
theorem val_main_v74_at (b : Fin 128) (j : Fin 2816) : val_main_v74 (F := Ideal) x1 x2 x3 x4 (ix3 b 0 j)
    = hidAt (normed (fun k => x1 (ix3 b 0 k)) (fun k => x3 (ix2 0 k)) (modScale x2 ⟨b.val, by omega⟩) (modShift x2 ⟨b.val, by omega⟩)) (fun k n => x4 (ix3 0 k n)) j := by
  unfold hidAt
  rw [← val_main_v70_at, ← val_main_v70_at]
  pointwise [val_main_v74, val_main_v72, val_main_v73, val_main_call1_v5, val_main_call1_v3, val_main_call1_v1, val_main_call1_v0, val_main_v71, val_main_call1_v2, val_main_call1_cst, val_main_call1_v4, val_main_call1_cst_0]
  rfl

/-- An entry of the reference's prompt rows. -/
theorem val_main_v40_at (R : Fin 16384) (d : Fin 1024) : val_main_v40 (F := Ideal) x0 x2 x3 x4 x5 (ix2 R d)
    = step (fun k => x0 (ix3 ⟨R.val / 2048, by omega⟩ ⟨R.val % 2048, by omega⟩ k)) (modShift x2 ⟨128 + R.val / 2048, by omega⟩) (modScale x2 ⟨128 + R.val / 2048, by omega⟩) (modGate x2 ⟨128 + R.val / 2048, by omega⟩) (fun k => x3 (ix2 0 k))
        (fun k n => x4 (ix3 0 k n)) (fun j d => x5 (ix3 0 j d)) d := by
  unfold step
  pointwise [val_main_v40, val_main_v39, val_main_v38, val_main_v36, val_main_v30, val_main_v37, val_main_v28, val_main_v26, val_main_v3, val_main_v0, val_main_v27, val_main_cst_3]
  simp only [val_main_v35_at]
  rfl

/-- An entry of the reference's sample rows. -/
theorem val_main_v78_at (R : Fin 128) (d : Fin 1024) : val_main_v78 (F := Ideal) x1 x2 x3 x4 x5 (ix2 R d)
    = step (fun k => x1 (ix3 R 0 k)) (modShift x2 ⟨R.val, by omega⟩) (modScale x2 ⟨R.val, by omega⟩) (modGate x2 ⟨R.val, by omega⟩) (fun k => x3 (ix2 0 k))
        (fun k n => x4 (ix3 0 k n)) (fun j d => x5 (ix3 0 j d)) d := by
  unfold step
  pointwise [val_main_v78, val_main_v77, val_main_v76, val_main_v75, val_main_v69, val_main_v67, val_main_v65, val_main_v44, val_main_v41, val_main_v66, val_main_cst_8]
  simp only [val_main_v74_at]
  rfl

end Cert.ReferenceIdeal.Hand

end
-- ==== Proof.Feed.lean ====
module

public import proofs.«01_k».proof.Proof.Entry
public import proofs.«01_k».proof.Proof.Rows
public import proofs.«01_k».proof.Proof.RefFfn
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Cert.Ffn Cert.ReferenceIdeal.Hand

variable (m : (ℓ : Loc nD τ sig) → Buf (Elt Ideal) ℓ)

/-! ## The rows the call stores -/

/-- The step respects equal parts. -/
theorem step_congr {x x' sh sh' sc sc' g g' nw nw' : Fin 1024 → EReal} {a a' : Fin 1024 → Fin 5632 → EReal} {b b' : Fin 2816 → Fin 1024 → EReal}
    (hx : ∀ k, x k = x' k) (hsh : ∀ k, sh k = sh' k) (hsc : ∀ k, sc k = sc' k) (hg : ∀ k, g k = g' k) (hnw : ∀ k, nw k = nw' k)
    (ha : ∀ k n, a k n = a' k n) (hb : ∀ j d, b j d = b' j d) (d : Fin 1024) : step x sh sc g nw a b d = step x' sh' sc' g' nw' a' b' d := by
  obtain rfl : x = x' := funext hx
  obtain rfl : sh = sh' := funext hsh
  obtain rfl : sc = sc' := funext hsc
  obtain rfl : g = g' := funext hg
  obtain rfl : nw = nw' := funext hnw
  obtain rfl : a = a' := funext fun k => funext (ha k)
  obtain rfl : b = b' := funext fun j => funext (hb j)
  rfl

/-- The norm's weight, at any point. -/
theorem nw_apply (c : Dev nD) (t : Fin cfg0.N) (k : Fin 1024) : iblk m c 7 t (ix2 0 k) = m ((c : Thread nD τ).loc main_arg3) (ix2 0 k) := by
  refine (blk_7 m c t 0 k).trans ?_
  rw [show (ix2 (⟨0 * 1 + (0 : Fin 1).val, by omega⟩ : Fin 1) (⟨0 * 1024 + k.val, by omega⟩ : Fin 1024) : S1x1024.Idx) = ix2 0 k from
    congrArg₂ ix2 (Fin.ext rfl) (Fin.ext (by simp))]
  exact V_main_v13 m c k

/-- The block a point stores is the reference's array at the block's place, -/
theorem point_19 (c : Dev nD) (t : Fin cfg0.N) (ht : t.val < 32) (h2 : k0_cond2 (grid0.coords t) = 1#1) (r : Fin 512) (d : Fin 1024) :
    out19 (F := Ideal) m c t h2 (ix2 r d)
    = Cert.ReferenceIdeal.Read.val_main_v40 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (ix2 ⟨t.val * 512 + r.val, by omega⟩ d) := by
  rw [val_main_v40_at]
  refine (oRows_apply (grid0.coords t) h2 _ _ _ _ _ _ _ r d).trans ?_
  refine step_congr (fun k => ?_) (fun k => ?_) (fun k => ?_) (fun k => ?_) (nw_apply m c t) (w13_apply m c) (w2_apply m c) d
  · refine (blk_0 m c t r k).trans ((V_main_v0 m c _ _).trans ?_)
    refine congrArg (m ((c : Thread nD τ).loc main_arg0)) ?_
    funext a
    match a with
    | ⟨0, _⟩ => exact Fin.ext (by show (min t.val 31 * 512 + r.val) / 2048 = (t.val * 512 + r.val) / 2048; rw [Nat.min_eq_left (by omega)])
    | ⟨1, _⟩ => exact Fin.ext (by show (min t.val 31 * 512 + r.val) % 2048 = (t.val * 512 + r.val) % 2048; rw [Nat.min_eq_left (by omega)])
    | ⟨2, _⟩ => exact Fin.ext (by show 0 * 1024 + k.val = k.val; omega)
  · refine (rowAt_apply t ht h2 _ k).trans ((blk_1 m c t _ k).trans ?_)
    rw [V_main_arg2]
    refine congrArg (m ((c : Thread nD τ).loc main_arg2)) ?_
    funext a
    match a with
    | ⟨0, _⟩ => exact Fin.ext (by show 16 * 8 + t.val / 4 = 128 + (t.val * 512 + r.val) / 2048; omega)
    | ⟨1, _⟩ => exact Fin.ext (by first | rfl | (show 0 * 1024 + k.val = k.val; omega))
  · refine (rowAt_apply t ht h2 _ k).trans ((blk_2 m c t _ k).trans ?_)
    rw [V_main_arg2]
    refine congrArg (m ((c : Thread nD τ).loc main_arg2)) ?_
    funext a
    match a with
    | ⟨0, _⟩ => exact Fin.ext (by show 16 * 8 + t.val / 4 = 128 + (t.val * 512 + r.val) / 2048; omega)
    | ⟨1, _⟩ => exact Fin.ext (by first | rfl | (show 0 * 1024 + k.val = k.val; omega))
  · refine (rowAt_apply t ht h2 _ k).trans ((blk_3 m c t _ k).trans ?_)
    rw [V_main_arg2]
    refine congrArg (m ((c : Thread nD τ).loc main_arg2)) ?_
    funext a
    match a with
    | ⟨0, _⟩ => exact Fin.ext (by show 16 * 8 + t.val / 4 = 128 + (t.val * 512 + r.val) / 2048; omega)
    | ⟨1, _⟩ => exact Fin.ext (by first | rfl | (show 0 * 1024 + k.val = k.val; omega))

/-- and the blocks cover the array. -/
theorem final_19 (c : Dev nD) : (dats m 0 c).arrAt 19 (cfgs 0).N
    = Cert.ReferenceIdeal.Read.val_main_v40 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_covers 19 _ (by decide +kernel) fun t hf y => ?_
  rw [after_19]
  have hy : y = (ix2 (y 0) (y 1) : S512x1024.Idx) := by funext a; match a with | ⟨0, _⟩ => rfl | ⟨1, _⟩ => rfl
  have hl : (lastRow t).val < 32 := by show min t.val 31 < 32; omega
  have he : (win0_19.rect t).emb y = (ix2 ⟨(lastRow t).val * 512 + (y 0).val, by have : (y 0).val < 512 := (y 0).isLt; omega⟩ (y 1) : S16384x1024.Idx) := by
    funext a
    refine Fin.ext ((win0_19.rect_emb_val_off t y a).trans ?_)
    rw [at_19 t]
    match a with
    | ⟨0, _⟩ => exact rfl
    | ⟨1, _⟩ => exact Nat.zero_add _
  rw [hy]
  refine (point_19 m c (lastRow t) hl (cond2_lastRow t) (y 0) (y 1)).trans ?_
  exact congrArg (Cert.ReferenceIdeal.Read.val_main_v40 (F := Ideal) (m ((c : Thread nD τ).loc main_arg0)) (m ((c : Thread nD τ).loc main_arg2)) (m ((c : Thread nD τ).loc main_arg3)) (m ((c : Thread nD τ).loc main_arg4)) (m ((c : Thread nD τ).loc main_arg5))) (he.symm.trans (by rw [← hy]; rfl))

/-- The sample rows' block is the reference's array, -/
theorem point_20 (c : Dev nD) (t : Fin cfg0.N) (r : Fin 128) (d : Fin 1024) : out20 (F := Ideal) m c t (ix2 r d)
    = Cert.ReferenceIdeal.Read.val_main_v78 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (ix2 r d) := by
  rw [val_main_v78_at]
  refine (oSample_apply _ _ _ _ _ _ _ r d).trans ?_
  refine step_congr (xsRows_apply m c r) (fun k => ?_) (fun k => ?_) (fun k => ?_) (nw_apply m c t) (w13_apply m c) (w2_apply m c) d
  · refine (blk_4 m c t r k).trans ?_
    rw [V_main_arg2]
    refine congrArg (m ((c : Thread nD τ).loc main_arg2)) ?_
    funext a
    match a with
    | ⟨0, _⟩ => exact Fin.ext (by show 0 * 128 + r.val = r.val; omega)
    | ⟨1, _⟩ => exact Fin.ext (by first | rfl | (show 0 * 1024 + k.val = k.val; omega))
  · refine (blk_5 m c t r k).trans ?_
    rw [V_main_arg2]
    refine congrArg (m ((c : Thread nD τ).loc main_arg2)) ?_
    funext a
    match a with
    | ⟨0, _⟩ => exact Fin.ext (by show 0 * 128 + r.val = r.val; omega)
    | ⟨1, _⟩ => exact Fin.ext (by first | rfl | (show 0 * 1024 + k.val = k.val; omega))
  · refine (blk_6 m c t r k).trans ?_
    rw [V_main_arg2]
    refine congrArg (m ((c : Thread nD τ).loc main_arg2)) ?_
    funext a
    match a with
    | ⟨0, _⟩ => exact Fin.ext (by show 0 * 128 + r.val = r.val; omega)
    | ⟨1, _⟩ => exact Fin.ext (by first | rfl | (show 0 * 1024 + k.val = k.val; omega))

/-- and it is the whole array. -/
theorem final_20 (c : Dev nD) : (dats m 0 c).arrAt 20 (cfgs 0).N
    = Cert.ReferenceIdeal.Read.val_main_v78 (F := Ideal) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 20 _ (by decide +kernel) fun t hf y => ?_
  rw [after_20]
  have hy : y = (ix2 (y 0) (y 1) : S128x1024.Idx) := by funext a; match a with | ⟨0, _⟩ => rfl | ⟨1, _⟩ => rfl
  have he : (win0_20.rect t).emb y = (ix2 (y 0) (y 1) : S128x1024.Idx) := by
    funext a
    refine Fin.ext ((win0_20.rect_emb_val_off t y a).trans ?_)
    rw [at_20 t]
    match a with
    | ⟨0, _⟩ => exact Nat.zero_add _
    | ⟨1, _⟩ => exact Nat.zero_add _
  rw [hy]
  refine (point_20 m c t (y 0) (y 1)).trans ?_
  exact congrArg (Cert.ReferenceIdeal.Read.val_main_v78 (F := Ideal) (m ((c : Thread nD τ).loc main_arg1)) (m ((c : Thread nD τ).loc main_arg2)) (m ((c : Thread nD τ).loc main_arg3)) (m ((c : Thread nD τ).loc main_arg4)) (m ((c : Thread nD τ).loc main_arg5))) (he.symm.trans (by rw [← hy]; rfl))

end Cert.KernelIdeal.Hand

end
-- ==== Proof.Values.lean ====
module

public import proofs.«01_k».proof.Proof.Frames
public import proofs.«01_k».proof.Proof.Weights
public import proofs.«01_k».proof.Proof.Modulation
public import proofs.«01_k».proof.Proof.Feed

@[expose] public section

set_option maxRecDepth 16384

noncomputable section

namespace Cert.KernelIdeal.Hand

open Cert.KernelIdeal Cert.KernelIdeal.Gen Idealize.ShloMosaic Idealize.ShloMosaic.TcCoe Idealize.SL.Sem

set_option maxHeartbeats 2000000 in
/-- Result 0 of the call. -/
theorem result_0 (m : (ℓ : Loc nD τ sig) → Buf (Elt Ideal) ℓ) (r : PUnit × MemSt nD τ sig (Elt Ideal))
    (hr : Pipeline.FramePost cfgs (dats m) 0 (V m) r) (c : Dev nD) : r.2.mem ((c.tc : Thread nD τ).loc main_v16_0) = Cert.ReferenceIdeal.Read.val_main_v40 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  ((hr c).1 19).trans (final_19 m c)

set_option maxHeartbeats 2000000 in
/-- Result 1 of the call. -/
theorem result_1 (m : (ℓ : Loc nD τ sig) → Buf (Elt Ideal) ℓ) (r : PUnit × MemSt nD τ sig (Elt Ideal))
    (hr : Pipeline.FramePost cfgs (dats m) 0 (V m) r) (c : Dev nD) : r.2.mem ((c.tc : Thread nD τ).loc main_v16_1) = Cert.ReferenceIdeal.Read.val_main_v78 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  ((hr c).1 20).trans (final_20 m c)

set_option maxHeartbeats 2000000 in
/-- Result 2 of the call. -/
theorem result_2 (m : (ℓ : Loc nD τ sig) → Buf (Elt Ideal) ℓ) (r : PUnit × MemSt nD τ sig (Elt Ideal))
    (hr : Pipeline.FramePost cfgs (dats m) 0 (V m) r) (c : Dev nD) : r.2.mem ((c.tc : Thread nD τ).loc main_v16_2) = Cert.ReferenceIdeal.Read.val_main_v94 (F := Ideal) (m ((c.tc : Thread nD τ).loc main_arg6)) :=
  ((hr c).1 21).trans (final_21 m c)

set_option maxHeartbeats 2000000 in
/-- Result 3 of the call. -/
theorem result_3 (m : (ℓ : Loc nD τ sig) → Buf (Elt Ideal) ℓ) (r : PUnit × MemSt nD τ sig (Elt Ideal))
    (hr : Pipeline.FramePost cfgs (dats m) 0 (V m) r) (c : Dev nD) : r.2.mem ((c.tc : Thread nD τ).loc main_v16_3) = Cert.ReferenceIdeal.Read.val_main_v95 (F := Ideal) (m ((c.tc : Thread nD τ).loc main_arg6)) :=
  ((hr c).1 22).trans (final_22 m c)

set_option maxHeartbeats 2000000 in
/-- Result 4 of the call. -/
theorem result_4 (m : (ℓ : Loc nD τ sig) → Buf (Elt Ideal) ℓ) (r : PUnit × MemSt nD τ sig (Elt Ideal))
    (hr : Pipeline.FramePost cfgs (dats m) 0 (V m) r) (c : Dev nD) : r.2.mem ((c.tc : Thread nD τ).loc main_v16_4) = Cert.ReferenceIdeal.Read.val_main_v97 (F := Ideal) (m ((c.tc : Thread nD τ).loc main_arg6)) :=
  ((hr c).1 23).trans (final_23 m c)

set_option maxHeartbeats 2000000 in
/-- Result 5 of the call. -/
theorem result_5 (m : (ℓ : Loc nD τ sig) → Buf (Elt Ideal) ℓ) (r : PUnit × MemSt nD τ sig (Elt Ideal))
    (hr : Pipeline.FramePost cfgs (dats m) 0 (V m) r) (c : Dev nD) : r.2.mem ((c.tc : Thread nD τ).loc main_v16_5) = Cert.ReferenceIdeal.Read.val_main_v99 (F := Ideal) (m ((c.tc : Thread nD τ).loc main_arg7)) :=
  ((hr c).1 24).trans (final_24 m c)

set_option maxHeartbeats 2000000 in
/-- Result 6 of the call. -/
theorem result_6 (m : (ℓ : Loc nD τ sig) → Buf (Elt Ideal) ℓ) (r : PUnit × MemSt nD τ sig (Elt Ideal))
    (hr : Pipeline.FramePost cfgs (dats m) 0 (V m) r) (c : Dev nD) : r.2.mem ((c.tc : Thread nD τ).loc main_v16_6) = Cert.ReferenceIdeal.Read.val_main_v101 (F := Ideal) (m ((c.tc : Thread nD τ).loc main_arg8)) :=
  ((hr c).1 25).trans (final_25 m c)

set_option maxHeartbeats 2000000 in
/-- Result 7 of the call. -/
theorem result_7 (m : (ℓ : Loc nD τ sig) → Buf (Elt Ideal) ℓ) (r : PUnit × MemSt nD τ sig (Elt Ideal))
    (hr : Pipeline.FramePost cfgs (dats m) 0 (V m) r) (c : Dev nD) : r.2.mem ((c.tc : Thread nD τ).loc main_v16_7) = Cert.ReferenceIdeal.Read.val_main_v103 (F := Ideal) (m ((c.tc : Thread nD τ).loc main_arg9)) :=
  ((hr c).1 26).trans (final_26 m c)

set_option maxHeartbeats 2000000 in
/-- Result 8 of the call. -/
theorem result_8 (m : (ℓ : Loc nD τ sig) → Buf (Elt Ideal) ℓ) (r : PUnit × MemSt nD τ sig (Elt Ideal))
    (hr : Pipeline.FramePost cfgs (dats m) 0 (V m) r) (c : Dev nD) : r.2.mem ((c.tc : Thread nD τ).loc main_v16_8) = Cert.ReferenceIdeal.Read.val_main_v105 (F := Ideal) (m ((c.tc : Thread nD τ).loc main_arg10)) :=
  ((hr c).1 27).trans (final_27 m c)

set_option maxHeartbeats 2000000 in
/-- Result 9 of the call. -/
theorem result_9 (m : (ℓ : Loc nD τ sig) → Buf (Elt Ideal) ℓ) (r : PUnit × MemSt nD τ sig (Elt Ideal))
    (hr : Pipeline.FramePost cfgs (dats m) 0 (V m) r) (c : Dev nD) : r.2.mem ((c.tc : Thread nD τ).loc main_v16_9) = Cert.ReferenceIdeal.Read.val_main_v107 (F := Ideal) (m ((c.tc : Thread nD τ).loc main_arg11)) :=
  ((hr c).1 28).trans (final_28 m c)

set_option maxHeartbeats 2000000 in
/-- Result 10 of the call. -/
theorem result_10 (m : (ℓ : Loc nD τ sig) → Buf (Elt Ideal) ℓ) (r : PUnit × MemSt nD τ sig (Elt Ideal))
    (hr : Pipeline.FramePost cfgs (dats m) 0 (V m) r) (c : Dev nD) : r.2.mem ((c.tc : Thread nD τ).loc main_v16_10) = Cert.ReferenceIdeal.Read.val_main_v92 (F := Ideal) (m ((c.tc : Thread nD τ).loc main_arg12)) (m ((c.tc : Thread nD τ).loc main_arg13)) (m ((c.tc : Thread nD τ).loc main_arg14)) (m ((c.tc : Thread nD τ).loc main_arg15)) :=
  ((hr c).1 29).trans (final_29 m c)

/-- After a run at the extended reals each of the call's eleven results is the reference's, read at the kernel's arguments,
    and the arguments are as launched. -/
theorem kernel_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16_0) = Cert.ReferenceIdeal.Read.val_main_v40 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v16_1) = Cert.ReferenceIdeal.Read.val_main_v78 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v16_2) = Cert.ReferenceIdeal.Read.val_main_v94 (F := Ideal) (m ((c.tc : Thread nD τ).loc main_arg6))
      ∧ r.2.mem ((c.tc : Thread nD τ).loc main_v16_3) = Cert.ReferenceIdeal.Read.val_main_v95 (F := Ideal) (m ((c.tc : Thread nD τ).loc main_arg6))
      ∧ r.2.mem ((c.tc : Thread nD τ).loc main_v16_4) = Cert.ReferenceIdeal.Read.val_main_v97 (F := Ideal) (m ((c.tc : Thread nD τ).loc main_arg6))
      ∧ r.2.mem ((c.tc : Thread nD τ).loc main_v16_5) = Cert.ReferenceIdeal.Read.val_main_v99 (F := Ideal) (m ((c.tc : Thread nD τ).loc main_arg7))
      ∧ r.2.mem ((c.tc : Thread nD τ).loc main_v16_6) = Cert.ReferenceIdeal.Read.val_main_v101 (F := Ideal) (m ((c.tc : Thread nD τ).loc main_arg8))
      ∧ r.2.mem ((c.tc : Thread nD τ).loc main_v16_7) = Cert.ReferenceIdeal.Read.val_main_v103 (F := Ideal) (m ((c.tc : Thread nD τ).loc main_arg9))
      ∧ r.2.mem ((c.tc : Thread nD τ).loc main_v16_8) = Cert.ReferenceIdeal.Read.val_main_v105 (F := Ideal) (m ((c.tc : Thread nD τ).loc main_arg10))
      ∧ r.2.mem ((c.tc : Thread nD τ).loc main_v16_9) = Cert.ReferenceIdeal.Read.val_main_v107 (F := Ideal) (m ((c.tc : Thread nD τ).loc main_arg11))
      ∧ r.2.mem ((c.tc : Thread nD τ).loc main_v16_10) = Cert.ReferenceIdeal.Read.val_main_v92 (F := Ideal) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨result_0 m r h.1 c, result_1 m r h.1 c, result_2 m r h.1 c, result_3 m r h.1 c, result_4 m r h.1 c, result_5 m r h.1 c, result_6 m r h.1 c, result_7 m r h.1 c, result_8 m r h.1 c, result_9 m r h.1 c, result_10 m r h.1 c,
      args_kept m r h.1 c⟩) (run_main (F := Ideal) m ρ)

end Cert.KernelIdeal.Hand

end
-- ==== Proof.Reference.lean ====
module

public import proofs.«01_k».proof.Proof.Gen.ReferenceIdeal.Run
public import proofs.«01_k».proof.Proof.Gen.ReferenceIdeal.Read
public import proofs.«01_k».proof.Defs
public import Idealize.ShloMosaic.Adequacy
public import Idealize.ShloMosaic.Init
public import Idealize.ShloMosaic.Lib.Claim

@[expose] public section

set_option maxRecDepth 16384

noncomputable section

namespace Cert.ReferenceIdeal.Hand

open Cert.ReferenceIdeal Cert.ReferenceIdeal.Gen Idealize.ShloMosaic Idealize.ShloMosaic.TcCoe Idealize.SL.Sem

/-- After a run of the reference each result is the stage of its arguments, and the arguments are as launched. -/
theorem reference_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v40) = Cert.ReferenceIdeal.Read.val_main_v40 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v78) = Cert.ReferenceIdeal.Read.val_main_v78 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v94) = Cert.ReferenceIdeal.Read.val_main_v94 (F := Ideal) (m ((c.tc : Thread nD τ).loc main_arg6))
      ∧ r.2.mem ((c.tc : Thread nD τ).loc main_v95) = Cert.ReferenceIdeal.Read.val_main_v95 (F := Ideal) (m ((c.tc : Thread nD τ).loc main_arg6))
      ∧ r.2.mem ((c.tc : Thread nD τ).loc main_v97) = Cert.ReferenceIdeal.Read.val_main_v97 (F := Ideal) (m ((c.tc : Thread nD τ).loc main_arg6))
      ∧ r.2.mem ((c.tc : Thread nD τ).loc main_v99) = Cert.ReferenceIdeal.Read.val_main_v99 (F := Ideal) (m ((c.tc : Thread nD τ).loc main_arg7))
      ∧ r.2.mem ((c.tc : Thread nD τ).loc main_v101) = Cert.ReferenceIdeal.Read.val_main_v101 (F := Ideal) (m ((c.tc : Thread nD τ).loc main_arg8))
      ∧ r.2.mem ((c.tc : Thread nD τ).loc main_v103) = Cert.ReferenceIdeal.Read.val_main_v103 (F := Ideal) (m ((c.tc : Thread nD τ).loc main_arg9))
      ∧ r.2.mem ((c.tc : Thread nD τ).loc main_v105) = Cert.ReferenceIdeal.Read.val_main_v105 (F := Ideal) (m ((c.tc : Thread nD τ).loc main_arg10))
      ∧ r.2.mem ((c.tc : Thread nD τ).loc main_v107) = Cert.ReferenceIdeal.Read.val_main_v107 (F := Ideal) (m ((c.tc : Thread nD τ).loc main_arg11))
      ∧ r.2.mem ((c.tc : Thread nD τ).loc main_v92) = Cert.ReferenceIdeal.Read.val_main_v92 (F := Ideal) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (Cert.ReferenceIdeal.Read.val_main_v40_eq m c),
      (h c).2.1.trans (Cert.ReferenceIdeal.Read.val_main_v78_eq m c),
      (h c).2.2.1.trans (Cert.ReferenceIdeal.Read.val_main_v94_eq _),
      (h c).2.2.2.1.trans (Cert.ReferenceIdeal.Read.val_main_v95_eq _),
      (h c).2.2.2.2.1.trans (Cert.ReferenceIdeal.Read.val_main_v97_eq _),
      (h c).2.2.2.2.2.1.trans (Cert.ReferenceIdeal.Read.val_main_v99_eq _),
      (h c).2.2.2.2.2.2.1.trans (Cert.ReferenceIdeal.Read.val_main_v101_eq _),
      (h c).2.2.2.2.2.2.2.1.trans (Cert.ReferenceIdeal.Read.val_main_v103_eq _),
      (h c).2.2.2.2.2.2.2.2.1.trans (Cert.ReferenceIdeal.Read.val_main_v105_eq _),
      (h c).2.2.2.2.2.2.2.2.2.1.trans (Cert.ReferenceIdeal.Read.val_main_v107_eq _),
      (h c).2.2.2.2.2.2.2.2.2.2.1.trans (Cert.ReferenceIdeal.Read.val_main_v92_eq _ _ _ _),
      (h c).2.2.2.2.2.2.2.2.2.2.2⟩) (Cert.ReferenceIdeal.Value.run (F := Ideal) m ρ)

/-- The reference runs, leaves its arguments as launched and ends with no wait open. -/
theorem frame_reference : Cert.quiescent_ReferenceIdeal := fun m ρ _ =>
  (θ_run defs _ _).mono (fun r h => ⟨fun c => (h c).2.2.2.2.2.2.2.2.2.2.2, sem_eq_zero_of_no_sems (by decide) r.2⟩) (Cert.ReferenceIdeal.Value.run (F := Ideal) m ρ)

end Cert.ReferenceIdeal.Hand

end
-- ==== Proof.TailSplit.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Tactic

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- What the body runs at the first grid point alone, then `rest`: the sample rows' accumulator starts at the given part. -/
def startThen (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S3x512x128 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S1x4x4x128x256 .f32) (harg12 : arg12.IsWhole) (arg13 : Memref sig .tc .vmem S128x1024 .f32) (harg13 : arg13.IsWhole) (arg14 : Memref sig .tc .vmem S128x7296 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1024x1024 .bf16) (harg25 : arg25.IsWhole) (arg26 : Memref sig .tc .vmem S1024x1024 .bf16) (harg26 : arg26.IsWhole) (arg27 : Memref sig .tc .vmem S512x1024 .f32) (harg27 : arg27.IsWhole) (arg28 : Memref sig .tc .vmem S128x1024 .f32) (harg28 : arg28.IsWhole) (arg29 : Memref sig .tc .vmem S1x4x4x128x256 .f32) (harg29 : arg29.IsWhole) (arg30 : Memref sig .tc .hbm S128x1x1024 .f32) (harg30 : arg30.IsWhole) (arg31 : Memref sig .tc .hbm S1x128x1x1024 .f32) (harg31 : arg31.IsWhole) (arg32 : Memref sig .tc .vmem S128x1024 .f32) (harg32 : arg32.IsWhole) (arg33 : Memref sig .tc .vmem S128x1024 .f32) (harg33 : arg33.IsWhole) (arg34 : Memref sig .tc .vmem S128x1024 .f32) (harg34 : arg34.IsWhole) (arg35 : DmaSems sig S2) (rest : Prog (TpuEff nD τ sig (Elt F) Λ₀ .tc) PUnit) : Prog (TpuEff nD τ sig (Elt F) Λ₀ .tc) PUnit := do
  let v9 : Vec F S128x1024 .f32 ← Prog.lift (.load arg11 (Rect.unit (s := S128x1024) ![0, 0] S128x1024.size inb_S128x1024_S128x1024_0_0).toLoadRect (View.loadsAt_vmem h_S128x1024))
  let v10 : Vec F S128x1024 .f32 ← Prog.lift (.load arg28 (Rect.unit (s := S128x1024) ![0, 0] S128x1024.size inb_S128x1024_S128x1024_0_0).toLoadRect (View.loadsAt_vmem h_S128x1024))
  Prog.lift (.store arg28 (Rect.unit (s := S128x1024) ![0, 0] S128x1024.size inb_S128x1024_S128x1024_0_0) v9 Finset.univ (View.stores_vmem_bits_univ h_S128x1024 rfl) (.inl rfl))
  rest

/-- What the body runs at every point: a block of prompt rows and of the state before the last point, the sample rows at
    the last. -/
def midBody (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S3x512x128 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S1x4x4x128x256 .f32) (harg12 : arg12.IsWhole) (arg13 : Memref sig .tc .vmem S128x1024 .f32) (harg13 : arg13.IsWhole) (arg14 : Memref sig .tc .vmem S128x7296 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1024x1024 .bf16) (harg25 : arg25.IsWhole) (arg26 : Memref sig .tc .vmem S1024x1024 .bf16) (harg26 : arg26.IsWhole) (arg27 : Memref sig .tc .vmem S512x1024 .f32) (harg27 : arg27.IsWhole) (arg28 : Memref sig .tc .vmem S128x1024 .f32) (harg28 : arg28.IsWhole) (arg29 : Memref sig .tc .vmem S1x4x4x128x256 .f32) (harg29 : arg29.IsWhole) (arg30 : Memref sig .tc .hbm S128x1x1024 .f32) (harg30 : arg30.IsWhole) (arg31 : Memref sig .tc .hbm S1x128x1x1024 .f32) (harg31 : arg31.IsWhole) (arg32 : Memref sig .tc .vmem S128x1024 .f32) (harg32 : arg32.IsWhole) (arg33 : Memref sig .tc .vmem S128x1024 .f32) (harg33 : arg33.IsWhole) (arg34 : Memref sig .tc .vmem S128x1024 .f32) (harg34 : arg34.IsWhole) (arg35 : DmaSems sig S2) : Prog (TpuEff nD τ sig (Elt F) Λ₀ .tc) PUnit := do
  let arg0 : BitVec 32 := BitVec.ofNat 32 (i 0).val
  if k0_h2 : k0_cond2 i = 1#1 then do
    let ⟨v515, v517, v522⟩ : Σ' (v515 : FVec F S512x1024 .f32) (v517 : FVec F S1x1024 .f32), FVec F S512x1 .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 arg0 k0_h2
    let v530 : Vec F S512x1024 .f32 ← Prog.lift (.load arg27 (Rect.unit (s := S512x1024) ![0, 0] S512x1024.size inb_S512x1024_S512x1024_0_0).toLoadRect (View.loadsAt_vmem h_S512x1024))
    Prog.lift (.store arg27 (Rect.unit (s := S512x1024) ![0, 0] S512x1024.size inb_S512x1024_S512x1024_0_0) (k0_pay1 v515 v517 v522) Finset.univ (View.stores_vmem_bits_univ h_S512x1024 rfl) (.inl rfl))
    pure ⟨⟩
  else do
    pure ⟨⟩
  let v6 : BitVec 1 := Scalar.cmpi .eq arg0 32#32
  let v7 : BitVec 32 := Scalar.extui v6
  let v8 : BitVec 1 := Scalar.cmpi .ne v7 0#32
  if k0_h3 : v8 = 1#1 then do
    let ⟨v10, v25, v40, v41, v43, v51⟩ : Σ' (v10 : FVec F S128x1024 .f32) (v25 : FVec F S128x256 .f32) (v40 : FVec F S128x256 .f32) (v41 : FVec F S128x256 .f32) (v43 : FVec F S1x256 .f32), FVec F S128x1 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35
    let ⟨v79, v94⟩ : Σ' (v79 : FVec F S128x1024 .f32), FVec F S128x1024 .f32 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 v10 v25 v40 v41 v43 v51
    let ⟨v127, v128, v130, cst_51⟩ : Σ' (v127 : FVec F S128x1024 .f32) (v128 : Vec F S128x1024 .f32) (v130 : FVec F S128x1024 .f32), F .f32 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 v94
    let ⟨v160, v162, v163, v164⟩ : Σ' (v160 : Vec F S128x1024 .f32) (v162 : FVec F S1x1024 .f32) (v163 : Vec F S128x1024 .f32), Vec F S128x1024 .f32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 v79 v127 v128 v130 cst_51
    let ⟨v199, v201, v204, cst_93⟩ : Σ' (v199 : FVec F S128x1024 .f32) (v201 : FVec F S1x1024 .f32) (v204 : FVec F S128x1 .f32), F .f32 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 v160 v162 v163 v164
    let v214 : Vec F S128x1024 .f32 ← Prog.lift (.load arg33 (Rect.unit (s := S128x1024) ![0, 0] S128x1024.size inb_S128x1024_S128x1024_0_0).toLoadRect (View.loadsAt_vmem h_S128x1024))
    Prog.lift (.store arg33 (Rect.unit (s := S128x1024) ![0, 0] S128x1024.size inb_S128x1024_S128x1024_0_0) (k0_pay2 v199 v201 v204 cst_93) Finset.univ (View.stores_vmem_bits_univ h_S128x1024 rfl) (.inl rfl))
    let v217 : DmaSems sig S1 := arg35.slice (Rect.unit (s := S2) ![1] S1.size inb_S2_S1_1)
    let v218 : DmaSems sig S_ := v217.squeeze S_ squeezes_S1_S_
    let v219 : Memref sig .tc .hbm S128x1x1024 .f32 := arg30.slice (Rect.unit (s := S128x1x1024) ![0, 0, 0] S128x1x1024.size inb_S128x1x1024_S128x1x1024_0_0_0) (fun _ => rfl)
    let v220 : Memref sig .tc .hbm S128x1024 .f32 := v219.squeeze S128x1024 squeezes_S128x1x1024_S128x1024
    Prog.lift (.enqueueDma arg33 (.here v220) (.dma v218.sem) harg33.wordExact ((View.wordExact_bits rfl).reshape _ _) ⟨Or.inl rfl, trivial⟩)
    let v221 : DmaSems sig S1 := arg35.slice (Rect.unit (s := S2) ![0] S1.size inb_S2_S1_0)
    let v222 : DmaSems sig S_ := v221.squeeze S_ squeezes_S1_S_
    let v223 : Memref sig .tc .hbm S1x128x1x1024 .f32 := arg31.slice (Rect.unit (s := S1x128x1x1024) ![0, 0, 0, 0] S1x128x1x1024.size inb_S1x128x1x1024_S1x128x1x1024_0_0_0_0) (fun _ => rfl)
    let v224 : Memref sig .tc .hbm S128x1024 .f32 := v223.squeeze S128x1024 squeezes_S1x128x1x1024_S128x1024
    Prog.lift (.waitDma2 v222.sem arg34 v224 harg34.wordExact ((View.wordExact_bits rfl).reshape _ _))
    let v225 : DmaSems sig S1 := arg35.slice (Rect.unit (s := S2) ![1] S1.size inb_S2_S1_1)
    let v226 : DmaSems sig S_ := v225.squeeze S_ squeezes_S1_S_
    let v227 : Memref sig .tc .hbm S128x1x1024 .f32 := arg30.slice (Rect.unit (s := S128x1x1024) ![0, 0, 0] S128x1x1024.size inb_S128x1x1024_S128x1x1024_0_0_0) (fun _ => rfl)
    let v228 : Memref sig .tc .hbm S128x1024 .f32 := v227.squeeze S128x1024 squeezes_S128x1x1024_S128x1024
    Prog.lift (.waitDma2 v226.sem arg33 v228 harg33.wordExact ((View.wordExact_bits rfl).reshape _ _))
    pure ⟨⟩
  else do
    pure ⟨⟩
  pure ⟨⟩

set_option maxRecDepth 65536 in
/-- The body is its first-point statements, where the point is the first, before the rest. -/
theorem body_split (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S3x512x128 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S1x4x4x128x256 .f32) (harg12 : arg12.IsWhole) (arg13 : Memref sig .tc .vmem S128x1024 .f32) (harg13 : arg13.IsWhole) (arg14 : Memref sig .tc .vmem S128x7296 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1024x1024 .bf16) (harg25 : arg25.IsWhole) (arg26 : Memref sig .tc .vmem S1024x1024 .bf16) (harg26 : arg26.IsWhole) (arg27 : Memref sig .tc .vmem S512x1024 .f32) (harg27 : arg27.IsWhole) (arg28 : Memref sig .tc .vmem S128x1024 .f32) (harg28 : arg28.IsWhole) (arg29 : Memref sig .tc .vmem S1x4x4x128x256 .f32) (harg29 : arg29.IsWhole) (arg30 : Memref sig .tc .hbm S128x1x1024 .f32) (harg30 : arg30.IsWhole) (arg31 : Memref sig .tc .hbm S1x128x1x1024 .f32) (harg31 : arg31.IsWhole) (arg32 : Memref sig .tc .vmem S128x1024 .f32) (harg32 : arg32.IsWhole) (arg33 : Memref sig .tc .vmem S128x1024 .f32) (harg33 : arg33.IsWhole) (arg34 : Memref sig .tc .vmem S128x1024 .f32) (harg34 : arg34.IsWhole) (arg35 : DmaSems sig S2) : cc0_ffn2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35
    = if _h : k0_cond1 i = 1#1 then startThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 (midBody i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35) else midBody i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 := by
  rw [cc0_ffn2_eq_skeleton]; rfl

end Cert.Kernel2Ideal.Hand

end
-- ==== Proof.TailState.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Tactic
public import Idealize.ShloMosaic.Lib.Pipeline.Value
public import Idealize.ShloMosaic.Lib.VecWindow
public import Idealize.ShloMosaic.Lib.Pointwise

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The state's block, as one point stores it in sixteen parts -/

/-- The columns of the decays at a point. -/
def decayCols (i : grid0.Coords) (X9 : Vec F S3x512x128 .f32) : FVec F S512x128 .f32 :=
  k0_pay3 (BitVec.ofNat 32 (i 0).val) (View.ld X9 (Rect.unit (s := S3x512x128) ![0, 0, 0] S1x512x128.size inb_S3x512x128_S1x512x128_0_0_0))

/-- The columns of the keys at a point. -/
def keyCols (i : grid0.Coords) (X9 : Vec F S3x512x128 .f32) : FVec F S512x128 .f32 :=
  k0_pay5 (BitVec.ofNat 32 (i 0).val) (View.ld X9 (Rect.unit (s := S3x512x128) ![2, 0, 0] S1x512x128.size inb_S3x512x128_S1x512x128_2_0_0))

/-- What a point before the last stores of the state: each row's state decayed, and the outer product of its key and value added. -/
def sOut (i : grid0.Coords) (X9 : Vec F S3x512x128 .f32) (X10 : Vec F S128x1024 .f32) (X12 : Vec F S1x4x4x128x256 .f32) : Vec F S1x4x4x128x256 .f32 :=
  fun y =>
    have h1 : (y 1).val < 4 := (y 1).isLt
    have h2 : (y 2).val < 4 := (y 2).isLt
    have h3 : (y 3).val < 128 := (y 3).isLt
    have h4 : (y 4).val < 256 := (y 4).isLt
    FloatOps.addf
      (FloatOps.mulf (decayCols i X9 (ix2 ⟨128 * (y 2).val + (y 3).val, by omega⟩ ⟨(y 1).val, by omega⟩)) (X12 y))
      (FloatOps.mulf (keyCols i X9 (ix2 ⟨128 * (y 2).val + (y 3).val, by omega⟩ ⟨(y 1).val, by omega⟩))
        (X10 (ix2 ⟨(4 * (i 0).val + (y 1).val) % 128, Nat.mod_lt _ (by decide)⟩ ⟨256 * (y 2).val + (y 4).val, by omega⟩)))

/-- One of the sixteen parts: row `n` of the block's four, head `hh`. -/
theorem sOut_part (i : grid0.Coords) (hi : (i 0).val < 32) (X9 : Vec F S3x512x128 .f32) (X10 : Vec F S128x1024 .f32) (X12 : Vec F S1x4x4x128x256 .f32)
    (n hh : Fin 4) (off5 : Fin 5 → ℕ) (inb5 : ∀ a, off5 a + S1x1x1x128x256.size a ≤ S1x4x4x128x256.size a)
    (off2 : Fin 2 → ℕ) (inb2 : ∀ a, off2 a + S1x256.size a ≤ S128x1024.size a) (offA : Fin 2 → ℕ)
    (slA : S512x128.Slices offA S128x1) (b1 : S128x1.Broadcasts S128x256) (b2 : S1x256.Broadcasts S128x256)
    (c1 : S1x1x1x128x256.ShapeCasts S128x256) (c2 : S128x256.ShapeCasts S1x1x1x128x256)
    (h5 : off5 = ![0, n.val, hh.val, 0, 0]) (h2 : off2 = ![4 * (i 0).val + n.val, 256 * hh.val]) (hA : offA = ![128 * hh.val, n.val])
    (x : S1x1x1x128x256.Idx) :
    shapeCast S1x1x1x128x256
      (addf (mulf (broadcastTo S128x256 (extractStridedSlice S128x1 offA (decayCols i X9) slA) b1)
          (shapeCast S128x256 (View.ld X12 (Rect.unit (s := S1x4x4x128x256) off5 S1x1x1x128x256.size inb5)) c1))
        (mulf (broadcastTo S128x256 (extractStridedSlice S128x1 offA (keyCols i X9) slA) b1)
          (broadcastTo S128x256 (View.ld X10 (Rect.unit (s := S128x1024) off2 S1x256.size inb2)) b2))) c2 x
      = sOut i X9 X10 X12 ((Rect.unit (s := S1x4x4x128x256) off5 S1x1x1x128x256.size inb5).emb x) := by
  subst h5 h2 hA
  have h0 : (x 0).val < 1 := (x 0).isLt
  have h1 : (x 1).val < 1 := (x 1).isLt
  have h2 : (x 2).val < 1 := (x 2).isLt
  have h3 : (x 3).val < 128 := (x 3).isLt
  have h4 : (x 4).val < 256 := (x 4).isLt
  have hn := n.isLt
  have hh' := hh.isLt
  have e0 : (x 0).val = 0 := by omega
  have e1 : (x 1).val = 0 := by omega
  have e2 : (x 2).val = 0 := by omega
  have cast_at : ∀ (z : FVec F S1x1x1x128x256 .f32), shapeCast S128x256 z c1 (ix2 ⟨(x 3).val, h3⟩ ⟨(x 4).val, h4⟩) = z x := fun z => by
    refine shapeCast_apply _ _ _ x ?_
    rw [Shape.rowMajor_val_five, Shape.rowMajor_val_two]
    show ((((x 0).val * 1 + (x 1).val) * 1 + (x 2).val) * 128 + (x 3).val) * 256 + (x 4).val = (x 3).val * 256 + (x 4).val
    omega
  have col_at : ∀ (z : FVec F S512x128 .f32), broadcastTo S128x256 (extractStridedSlice S128x1 ![128 * hh.val, n.val] z slA) b1 (ix2 ⟨(x 3).val, h3⟩ ⟨(x 4).val, h4⟩)
      = z (ix2 ⟨128 * hh.val + (x 3).val, by omega⟩ ⟨n.val, by omega⟩) := fun z => by
    refine (broadcastTo_apply _ _ _ (ix2 ⟨(x 3).val, h3⟩ 0) ?_).trans (extractStridedSlice_apply _ _ _ _ _ ?_)
    · intro a; fin_cases a <;> rfl
    · intro a; fin_cases a <;> rfl
  have row_at : ∀ (z : FVec F S1x256 .f32), broadcastTo S128x256 z b2 (ix2 ⟨(x 3).val, h3⟩ ⟨(x 4).val, h4⟩) = z (ix2 0 ⟨(x 4).val, h4⟩) := fun z => by
    refine broadcastTo_apply _ _ _ _ ?_
    intro a; fin_cases a <;> rfl
  refine (shapeCast_apply _ _ x (ix2 ⟨(x 3).val, h3⟩ ⟨(x 4).val, h4⟩) ?_).trans ?_
  · rw [Shape.rowMajor_val_five, Shape.rowMajor_val_two]
    show (x 3).val * 256 + (x 4).val = ((((x 0).val * 1 + (x 1).val) * 1 + (x 2).val) * 128 + (x 3).val) * 256 + (x 4).val
    omega
  show FloatOps.addf (FloatOps.mulf (broadcastTo S128x256 _ _ _) (shapeCast S128x256 _ _ _)) (FloatOps.mulf (broadcastTo S128x256 _ _ _) (broadcastTo S128x256 _ _ _)) = _
  rw [col_at, col_at, cast_at, row_at]
  unfold sOut
  have p1 : (0 + 1 * (x 1).val) = 0 := by omega
  refine congrArg₂ _ (congrArg₂ _ (congrArg (decayCols i X9) (congrArg₂ ix2 (Fin.ext ?_) (Fin.ext ?_))) rfl)
    (congrArg₂ _ (congrArg (keyCols i X9) (congrArg₂ ix2 (Fin.ext ?_) (Fin.ext ?_)))
      ((congrArg X10 (funext fun a => Fin.ext ?_))))
  · show 128 * hh.val + (x 3).val = 128 * (hh.val + 1 * (x 2).val) + (0 + 1 * (x 3).val)
    omega
  · show n.val = n.val + 1 * (x 1).val
    omega
  · show 128 * hh.val + (x 3).val = 128 * (hh.val + 1 * (x 2).val) + (0 + 1 * (x 3).val)
    omega
  · show n.val = n.val + 1 * (x 1).val
    omega
  · fin_cases a
    · show 4 * (i 0).val + n.val + 1 * 0 = (4 * (i 0).val + (n.val + 1 * (x 1).val)) % 128
      omega
    · show 256 * hh.val + 1 * (x 4).val = 256 * (hh.val + 1 * (x 2).val) + (0 + 1 * (x 4).val)
      omega

/-- The sixteen parts are the whole block. -/
theorem parts_cover (inb : ∀ n hh : Fin 4, ∀ a, (![0, n.val, hh.val, 0, 0] : Fin 5 → ℕ) a + S1x1x1x128x256.size a ≤ S1x4x4x128x256.size a)
    (L : List (View.Piece (Elt F) S1x4x4x128x256 .f32))
    (h : ∀ n hh : Fin 4, ∃ p ∈ L, p.1 = Rect.unit (s := S1x4x4x128x256) ![0, n.val, hh.val, 0, 0] S1x1x1x128x256.size (inb n hh))
    (y : S1x4x4x128x256.Idx) : ∃ p ∈ L, y ∈ p.1.set := by
  obtain ⟨p, hp, e⟩ := h ⟨(y 1).val, (y 1).isLt⟩ ⟨(y 2).val, (y 2).isLt⟩
  refine ⟨p, hp, ?_⟩
  rw [e, Rect.mem_set_unit]
  have h0 : (y 0).val < 1 := (y 0).isLt
  have h3 : (y 3).val < 128 := (y 3).isLt
  have h4 : (y 4).val < 256 := (y 4).isLt
  intro a
  fin_cases a
  · exact ⟨Nat.zero_le _, by show (y 0).val < 0 + 1; omega⟩
  · exact ⟨le_refl _, by show (y 1).val < (y 1).val + 1; omega⟩
  · exact ⟨le_refl _, by show (y 2).val < (y 2).val + 1; omega⟩
  · exact ⟨Nat.zero_le _, by show (y 3).val < 0 + 128; omega⟩
  · exact ⟨Nat.zero_le _, by show (y 4).val < 0 + 256; omega⟩

/-- The points before the last are the first 32. -/
theorem lt_of_cond2 (i : grid0.Coords) (h : k0_cond2 i = 1#1) : (i 0).val < 32 := by
  have hl : (i 0).val < 33 := (i 0).isLt
  by_contra hc
  have e : (i 0).val = 32 := by omega
  revert h
  unfold k0_cond2
  simp only [e]
  decide

/-- The row of the values that row 0 of a point's four reads. -/
theorem row_0 : ∀ k : Fin 32, (Scalar.indexCast (Scalar.addi (Scalar.muli (BitVec.ofNat 32 k.val) 4#32) 0#32)).toNat = 4 * k.val + 0 := by decide +kernel

/-- The row of the values that row 1 of a point's four reads. -/
theorem row_1 : ∀ k : Fin 32, (Scalar.indexCast (Scalar.addi (Scalar.muli (BitVec.ofNat 32 k.val) 4#32) 1#32)).toNat = 4 * k.val + 1 := by decide +kernel

/-- The row of the values that row 2 of a point's four reads. -/
theorem row_2 : ∀ k : Fin 32, (Scalar.indexCast (Scalar.addi (Scalar.muli (BitVec.ofNat 32 k.val) 4#32) 2#32)).toNat = 4 * k.val + 2 := by decide +kernel

/-- The row of the values that row 3 of a point's four reads. -/
theorem row_3 : ∀ k : Fin 32, (Scalar.indexCast (Scalar.addi (Scalar.muli (BitVec.ofNat 32 k.val) 4#32) 3#32)).toNat = 4 * k.val + 3 := by decide +kernel

end Cert.Kernel2Ideal.Hand

end
-- ==== Proof.TailRows.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Tactic
public import proofs.«01_k».proof.Proof.TailSplit
public import proofs.«01_k».proof.Proof.TailState
public import Idealize.ShloMosaic.Lib.Pipeline.Value
public import Idealize.ShloMosaic.Lib.VecWindow
@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The body's last conditional: whether the grid point is the last. -/
abbrev last (i : grid0.Coords) : BitVec 1 :=
  Scalar.cmpi .ne (Scalar.extui (Scalar.cmpi .eq (BitVec.ofNat 32 (i 0).val) 32#32) : BitVec 32) 0#32

/-- A load of the whole of a view reads it. -/
theorem readAt_full {κ : Kind} {sp : Space} {s : Shape} {e : EltTy} (v : View sig κ sp s e) (f : v.ty.Contents (Elt F)) {off : Fin s.rank → ℕ}
    (inb : ∀ a, off a + s.size a ≤ s.size a) :
    v.readAt (Elt F) (Rect.unit off (no_index s.size) inb).toLoadRect f = v.read (Elt F) f :=
  View.ld_unit_zero (funext fun a => by have := inb a; omega) inb (v.read (Elt F) f)

/-- The row of a block of eight that the grid point reads: the sequence its rows belong to. -/
def rowAt (i : grid0.Coords) (h2 : k0_cond2 i = 1#1) (X : Vec F S8x1024 .f32) : Vec F S1x1024 .f32 :=
  View.ld X (Rect.unit (s := S8x1024) (k0_off5 i) S1x1024.size (k0_off5_inb i h2))

/-- The first half of the columns of the first weight matrix. -/
def gateHalf (w : Vec F S1024x5632 .bf16) : Vec F S1024x2816 .bf16 :=
  View.ld w (Rect.unit (s := S1024x5632) ![0, 0] S1024x2816.size inb_S1024x5632_S1024x2816_0_0)

/-- The second half of the columns of the first weight matrix. -/
def upHalf (w : Vec F S1024x5632 .bf16) : Vec F S1024x2816 .bf16 :=
  View.ld w (Rect.unit (s := S1024x5632) ![0, 2816] S1024x2816.size inb_S1024x5632_S1024x2816_0_2816)

/-- What a point before the last stores of the prompt rows: the block after the feed-forward step and the last norm. -/
def oRows (i : grid0.Coords) (h2 : k0_cond2 i = 1#1) (X1 : Vec F S512x1024 .f32) (X2 X3 X4 : Vec F S8x1024 .f32) (X5 : Vec F S1x1024 .f32)
    (w13 : Vec F S1024x5632 .bf16) (w2 : Vec F S2816x1024 .bf16) (X8 : Vec F S1x1024 .f32) : Vec F S512x1024 .f32 :=
  k0_pay1 (k0_pay65 X1 (rowAt i h2 X2) (k0_pay63 X1) (k0_pay64 X5 (rowAt i h2 X3)) (gateHalf w13) (upHalf w13) (rowAt i h2 X4) w2)
    (k0_pay66 X8)
    (k0_pay67 X1 (rowAt i h2 X2) (k0_pay63 X1) (k0_pay64 X5 (rowAt i h2 X3)) (gateHalf w13) (upHalf w13) (rowAt i h2 X4) w2)

set_option maxHeartbeats 16000000 in
/-- A point before the last: the blocks of the prompt rows and of the state are left at their closed forms; the inputs stay. -/
theorem rows (c : Dev nD) (i : grid0.Coords) (h2 : k0_cond2 i = 1#1) (h3 : ¬ last i = 1#1) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S3x512x128 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S1x4x4x128x256 .f32) (harg12 : arg12.IsWhole) (arg13 : Memref sig .tc .vmem S128x1024 .f32) (harg13 : arg13.IsWhole) (arg14 : Memref sig .tc .vmem S128x7296 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1024x1024 .bf16) (harg25 : arg25.IsWhole) (arg26 : Memref sig .tc .vmem S1024x1024 .bf16) (harg26 : arg26.IsWhole) (arg27 : Memref sig .tc .vmem S512x1024 .f32) (harg27 : arg27.IsWhole) (arg28 : Memref sig .tc .vmem S128x1024 .f32) (harg28 : arg28.IsWhole) (arg29 : Memref sig .tc .vmem S1x4x4x128x256 .f32) (harg29 : arg29.IsWhole)
    (X1 : Vec F S512x1024 .f32) (X2 : Vec F S8x1024 .f32) (X3 : Vec F S8x1024 .f32) (X4 : Vec F S8x1024 .f32) (X5 : Vec F S1x1024 .f32) (X6 : Vec F S1024x5632 .bf16) (X7 : Vec F S2816x1024 .bf16) (X8 : Vec F S1x1024 .f32) (X9 : Vec F S3x512x128 .f32) (X10 : Vec F S128x1024 .f32) (X12 : Vec F S1x4x4x128x256 .f32)
    (Y27 : Vec F S512x1024 .f32) (Y28 : Vec F S128x1024 .f32) (Y29 : Vec F S1x4x4x128x256 .f32) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg12 fullShare X12
      ∗ owns (c : Thread nD τ) arg27 fullShare Y27 ∗ owns (c : Thread nD τ) arg28 fullShare Y28 ∗ owns (c : Thread nD τ) arg29 fullShare Y29
      ∗ ((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg12 fullShare X12
          ∗ owns (c : Thread nD τ) arg27 fullShare (oRows i h2 X1 X2 X3 X4 X5 X6 X7 X8) ∗ (∃ Z, owns (c : Thread nD τ) arg28 fullShare Z) ∗ owns (c : Thread nD τ) arg29 fullShare (sOut i X9 X10 X12)) -∗ K ⟨⟩))
    ⊢ wp frame (wpE (defs₀ (F := F)) Variants.none c none) Set.univ (midBody i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (Memref.whole main_v30_3) (Memref.isWhole_whole _) (Memref.whole main_v30_4) (Memref.isWhole_whole _) (Memref.whole cc0_scratch0) (Memref.isWhole_whole _) (Memref.whole cc0_scratch1) (Memref.isWhole_whole _) (Memref.whole cc0_scratch2) (Memref.isWhole_whole _) cc0_scratch3) K := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f12, %e12, H12⟩, ⟨%f27, %e27, H27⟩, ⟨%f28, %e28, H28⟩, ⟨%f29, %e29, H29⟩, HK⟩
  subst e1
  subst e2
  subst e3
  subst e4
  subst e5
  subst e6
  subst e7
  subst e8
  subst e9
  subst e10
  subst e12
  subst e27
  subst e28
  subst e29
  unfold midBody
  sl_exec_parts
  sl_step
  iapply HK
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H12]
  · iexists _; isplitr; swap; · iexact H12
    ipureintro; rfl
  isplitl [H27]
  · iexists _; isplitr; swap; · iexact H27
    ipureintro
    rw [View.read_writes_full]
    sl_unfold_words
    simp only [readAt_full]
    rfl
  isplitl [H28]
  · iexists _; iexists _; isplitr; swap; · iexact H28
    ipureintro; rfl
  · iexists _; isplitr; swap; · iexact H29
    ipureintro
    sl_unfold_words
    have hi := lt_of_cond2 i h2
    have hr0 := row_0 ⟨(i 0).val, hi⟩
    have hr1 := row_1 ⟨(i 0).val, hi⟩
    have hr2 := row_2 ⟨(i 0).val, hi⟩
    have hr3 := row_3 ⟨(i 0).val, hi⟩
    refine funext fun y => View.read_writes_apply_of_pieces _ _ (sOut i _ _ _) _ ?_ y (parts_cover (by decide) _ ?_ y)
    · refine List.forall_mem_cons.2 ⟨fun x => sOut_part i hi _ _ _ 3 3 _ _ _ _ _ _ _ _ _ _ rfl (congrArg (fun r => ![r, 768]) hr3) rfl x, List.forall_mem_cons.2 ⟨fun x => sOut_part i hi _ _ _ 3 2 _ _ _ _ _ _ _ _ _ _ rfl (congrArg (fun r => ![r, 512]) hr3) rfl x, List.forall_mem_cons.2 ⟨fun x => sOut_part i hi _ _ _ 3 1 _ _ _ _ _ _ _ _ _ _ rfl (congrArg (fun r => ![r, 256]) hr3) rfl x, List.forall_mem_cons.2 ⟨fun x => sOut_part i hi _ _ _ 3 0 _ _ _ _ _ _ _ _ _ _ rfl (congrArg (fun r => ![r, 0]) hr3) rfl x, List.forall_mem_cons.2 ⟨fun x => sOut_part i hi _ _ _ 2 3 _ _ _ _ _ _ _ _ _ _ rfl (congrArg (fun r => ![r, 768]) hr2) rfl x, List.forall_mem_cons.2 ⟨fun x => sOut_part i hi _ _ _ 2 2 _ _ _ _ _ _ _ _ _ _ rfl (congrArg (fun r => ![r, 512]) hr2) rfl x, List.forall_mem_cons.2 ⟨fun x => sOut_part i hi _ _ _ 2 1 _ _ _ _ _ _ _ _ _ _ rfl (congrArg (fun r => ![r, 256]) hr2) rfl x, List.forall_mem_cons.2 ⟨fun x => sOut_part i hi _ _ _ 2 0 _ _ _ _ _ _ _ _ _ _ rfl (congrArg (fun r => ![r, 0]) hr2) rfl x, List.forall_mem_cons.2 ⟨fun x => sOut_part i hi _ _ _ 1 3 _ _ _ _ _ _ _ _ _ _ rfl (congrArg (fun r => ![r, 768]) hr1) rfl x, List.forall_mem_cons.2 ⟨fun x => sOut_part i hi _ _ _ 1 2 _ _ _ _ _ _ _ _ _ _ rfl (congrArg (fun r => ![r, 512]) hr1) rfl x, List.forall_mem_cons.2 ⟨fun x => sOut_part i hi _ _ _ 1 1 _ _ _ _ _ _ _ _ _ _ rfl (congrArg (fun r => ![r, 256]) hr1) rfl x, List.forall_mem_cons.2 ⟨fun x => sOut_part i hi _ _ _ 1 0 _ _ _ _ _ _ _ _ _ _ rfl (congrArg (fun r => ![r, 0]) hr1) rfl x, List.forall_mem_cons.2 ⟨fun x => sOut_part i hi _ _ _ 0 3 _ _ _ _ _ _ _ _ _ _ rfl (congrArg (fun r => ![r, 768]) hr0) rfl x, List.forall_mem_cons.2 ⟨fun x => sOut_part i hi _ _ _ 0 2 _ _ _ _ _ _ _ _ _ _ rfl (congrArg (fun r => ![r, 512]) hr0) rfl x, List.forall_mem_cons.2 ⟨fun x => sOut_part i hi _ _ _ 0 1 _ _ _ _ _ _ _ _ _ _ rfl (congrArg (fun r => ![r, 256]) hr0) rfl x, List.forall_mem_cons.2 ⟨fun x => sOut_part i hi _ _ _ 0 0 _ _ _ _ _ _ _ _ _ _ rfl (congrArg (fun r => ![r, 0]) hr0) rfl x, fun _ h => absurd h List.not_mem_nil⟩⟩⟩⟩⟩⟩⟩⟩⟩⟩⟩⟩⟩⟩⟩⟩
    · intro n hh
      match n, hh with
      | ⟨0, _⟩, ⟨0, _⟩ => exact ⟨_, .tail _ (.tail _ (.tail _ (.tail _ (.tail _ (.tail _ (.tail _ (.tail _ (.tail _ (.tail _ (.tail _ (.tail _ (.tail _ (.tail _ (.tail _ (.head _))))))))))))))), rfl⟩
      | ⟨0, _⟩, ⟨1, _⟩ => exact ⟨_, .tail _ (.tail _ (.tail _ (.tail _ (.tail _ (.tail _ (.tail _ (.tail _ (.tail _ (.tail _ (.tail _ (.tail _ (.tail _ (.tail _ (.head _)))))))))))))), rfl⟩
      | ⟨0, _⟩, ⟨2, _⟩ => exact ⟨_, .tail _ (.tail _ (.tail _ (.tail _ (.tail _ (.tail _ (.tail _ (.tail _ (.tail _ (.tail _ (.tail _ (.tail _ (.tail _ (.head _))))))))))))), rfl⟩
      | ⟨0, _⟩, ⟨3, _⟩ => exact ⟨_, .tail _ (.tail _ (.tail _ (.tail _ (.tail _ (.tail _ (.tail _ (.tail _ (.tail _ (.tail _ (.tail _ (.tail _ (.head _)))))))))))), rfl⟩
      | ⟨1, _⟩, ⟨0, _⟩ => exact ⟨_, .tail _ (.tail _ (.tail _ (.tail _ (.tail _ (.tail _ (.tail _ (.tail _ (.tail _ (.tail _ (.tail _ (.head _))))))))))), rfl⟩
      | ⟨1, _⟩, ⟨1, _⟩ => exact ⟨_, .tail _ (.tail _ (.tail _ (.tail _ (.tail _ (.tail _ (.tail _ (.tail _ (.tail _ (.tail _ (.head _)))))))))), rfl⟩
      | ⟨1, _⟩, ⟨2, _⟩ => exact ⟨_, .tail _ (.tail _ (.tail _ (.tail _ (.tail _ (.tail _ (.tail _ (.tail _ (.tail _ (.head _))))))))), rfl⟩
      | ⟨1, _⟩, ⟨3, _⟩ => exact ⟨_, .tail _ (.tail _ (.tail _ (.tail _ (.tail _ (.tail _ (.tail _ (.tail _ (.head _)))))))), rfl⟩
      | ⟨2, _⟩, ⟨0, _⟩ => exact ⟨_, .tail _ (.tail _ (.tail _ (.tail _ (.tail _ (.tail _ (.tail _ (.head _))))))), rfl⟩
      | ⟨2, _⟩, ⟨1, _⟩ => exact ⟨_, .tail _ (.tail _ (.tail _ (.tail _ (.tail _ (.tail _ (.head _)))))), rfl⟩
      | ⟨2, _⟩, ⟨2, _⟩ => exact ⟨_, .tail _ (.tail _ (.tail _ (.tail _ (.tail _ (.head _))))), rfl⟩
      | ⟨2, _⟩, ⟨3, _⟩ => exact ⟨_, .tail _ (.tail _ (.tail _ (.tail _ (.head _)))), rfl⟩
      | ⟨3, _⟩, ⟨0, _⟩ => exact ⟨_, .tail _ (.tail _ (.tail _ (.head _))), rfl⟩
      | ⟨3, _⟩, ⟨1, _⟩ => exact ⟨_, .tail _ (.tail _ (.head _)), rfl⟩
      | ⟨3, _⟩, ⟨2, _⟩ => exact ⟨_, .tail _ (.head _), rfl⟩
      | ⟨3, _⟩, ⟨3, _⟩ => exact ⟨_, .head _, rfl⟩

end Cert.Kernel2Ideal.Hand

end
-- ==== Proof.TailLast.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Tactic
public import proofs.«01_k».proof.Proof.TailRows
@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The contents of a device's buffer. -/
abbrev Bf (F : FTy → Type) (c : Dev nD) (b : Ref sig .tc) : Type := Buf (Elt F) ((Memref.whole b).view.loc (c : Thread nD τ))

set_option maxHeartbeats 4000000 in
/-- The first point starts the accumulator of the sample rows, whatever it runs after. -/
theorem start (c : Dev nD) (i : grid0.Coords) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S3x512x128 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S1x4x4x128x256 .f32) (harg12 : arg12.IsWhole) (arg13 : Memref sig .tc .vmem S128x1024 .f32) (harg13 : arg13.IsWhole) (arg14 : Memref sig .tc .vmem S128x7296 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1024x1024 .bf16) (harg25 : arg25.IsWhole) (arg26 : Memref sig .tc .vmem S1024x1024 .bf16) (harg26 : arg26.IsWhole) (arg27 : Memref sig .tc .vmem S512x1024 .f32) (harg27 : arg27.IsWhole) (arg28 : Memref sig .tc .vmem S128x1024 .f32) (harg28 : arg28.IsWhole) (arg29 : Memref sig .tc .vmem S1x4x4x128x256 .f32) (harg29 : arg29.IsWhole) (X11 : Vec F S128x1024 .f32) (Y28 : Vec F S128x1024 .f32)
    (rest : Prog (TpuEff nD τ sig (Elt F) Λ₀ .tc) PUnit) (K : PUnit → sProp 𝕄) :
    iprop(owns (c : Thread nD τ) arg11 fullShare X11 ∗ owns (c : Thread nD τ) arg28 fullShare Y28
      ∗ ((owns (c : Thread nD τ) arg11 fullShare X11 ∗ (∃ Z, owns (c : Thread nD τ) arg28 fullShare Z)) -∗ wp frame (wpE (defs₀ (F := F)) Variants.none c none) Set.univ rest K))
    ⊢ wp frame (wpE (defs₀ (F := F)) Variants.none c none) Set.univ (startThen i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (Memref.whole main_v30_3) (Memref.isWhole_whole _) (Memref.whole main_v30_4) (Memref.isWhole_whole _) (Memref.whole cc0_scratch0) (Memref.isWhole_whole _) (Memref.whole cc0_scratch1) (Memref.isWhole_whole _) (Memref.whole cc0_scratch2) (Memref.isWhole_whole _) cc0_scratch3 rest) K := by
  unfold owns
  iintro ⟨⟨%f11, %e11, H11⟩, ⟨%f28, %e28, H28⟩, HK⟩
  subst e11
  subst e28
  unfold startThen
  sl_exec
  iapply HK
  isplitl [H11]
  · iexists _; isplitr; swap; · iexact H11
    ipureintro; rfl
  iexists _; iexists _; isplitr; swap; · iexact H28
  ipureintro; rfl

set_option maxHeartbeats 16000000 in
set_option sl_exec.dmaWindow true in
/-- The last point: the inputs stay, and the body's own copies to the arrays in HBM are over. -/
theorem sample (c : Dev nD) (i : grid0.Coords) (h2 : ¬ k0_cond2 i = 1#1) (h3 : last i = 1#1) (arg1 : Memref sig .tc .vmem S512x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S1x1024 .f32) (harg5 : arg5.IsWhole) (arg6 : Memref sig .tc .vmem S1024x5632 .bf16) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S3x512x128 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S1x4x4x128x256 .f32) (harg12 : arg12.IsWhole) (arg13 : Memref sig .tc .vmem S128x1024 .f32) (harg13 : arg13.IsWhole) (arg14 : Memref sig .tc .vmem S128x7296 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .f32) (harg18 : arg18.IsWhole) (arg19 : Memref sig .tc .vmem S1x1024 .f32) (harg19 : arg19.IsWhole) (arg20 : Memref sig .tc .vmem S1024x1024 .bf16) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1x1024 .f32) (harg24 : arg24.IsWhole) (arg25 : Memref sig .tc .vmem S1024x1024 .bf16) (harg25 : arg25.IsWhole) (arg26 : Memref sig .tc .vmem S1024x1024 .bf16) (harg26 : arg26.IsWhole) (arg27 : Memref sig .tc .vmem S512x1024 .f32) (harg27 : arg27.IsWhole) (arg28 : Memref sig .tc .vmem S128x1024 .f32) (harg28 : arg28.IsWhole) (arg29 : Memref sig .tc .vmem S1x4x4x128x256 .f32) (harg29 : arg29.IsWhole)
    (X5 : Vec F S1x1024 .f32) (X6 : Vec F S1024x5632 .bf16) (X7 : Vec F S2816x1024 .bf16) (X8 : Vec F S1x1024 .f32) (X13 : Vec F S128x1024 .f32) (X14 : Vec F S128x7296 .f32) (X15 : Vec F S128x1024 .f32) (X16 : Vec F S128x1024 .f32) (X17 : Vec F S128x1024 .f32) (X18 : Vec F S128x1024 .f32) (X19 : Vec F S1x1024 .f32) (X20 : Vec F S1024x1024 .bf16) (X21 : Vec F S1x1024 .f32) (X22 : Vec F S1x1024 .f32) (X23 : Vec F S1x1024 .f32) (X24 : Vec F S1x1024 .f32) (X25 : Vec F S1024x1024 .bf16) (X26 : Vec F S1024x1024 .bf16) (Y28 : Vec F S128x1024 .f32)
    (s0 : Bf F c cc0_scratch0) (s1 : Bf F c cc0_scratch1) (s2 : Bf F c cc0_scratch2) (s3 : Bf F c main_v30_3) (s4 : Bf F c main_v30_4) (W : Waits sig Unit) (K : PUnit → sProp 𝕄) :
    iprop(owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare X19 ∗ owns (c : Thread nD τ) arg20 fullShare X20 ∗ owns (c : Thread nD τ) arg21 fullShare X21 ∗ owns (c : Thread nD τ) arg22 fullShare X22 ∗ owns (c : Thread nD τ) arg23 fullShare X23 ∗ owns (c : Thread nD τ) arg24 fullShare X24 ∗ owns (c : Thread nD τ) arg25 fullShare X25 ∗ owns (c : Thread nD τ) arg26 fullShare X26 ∗ owns (c : Thread nD τ) arg28 fullShare Y28
      ∗ ((Memref.whole cc0_scratch0).view.loc (c : Thread nD τ) ↦{fullShare} s0) ∗ ((Memref.whole cc0_scratch1).view.loc (c : Thread nD τ) ↦{fullShare} s1) ∗ ((Memref.whole cc0_scratch2).view.loc (c : Thread nD τ) ↦{fullShare} s2) ∗ ((Memref.whole main_v30_3).view.loc (c : Thread nD τ) ↦{fullShare} s3) ∗ ((Memref.whole main_v30_4).view.loc (c : Thread nD τ) ↦{fullShare} s4)
      ∗ semVal ((c : Thread nD τ), SemLoc.dma 33) 0 ∗ semVal ((c : Thread nD τ), SemLoc.dma 34) 0 ∗ owes (c : Thread nD τ) 0 W
      ∗ ((owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare X19 ∗ owns (c : Thread nD τ) arg20 fullShare X20 ∗ owns (c : Thread nD τ) arg21 fullShare X21 ∗ owns (c : Thread nD τ) arg22 fullShare X22 ∗ owns (c : Thread nD τ) arg23 fullShare X23 ∗ owns (c : Thread nD τ) arg24 fullShare X24 ∗ owns (c : Thread nD τ) arg25 fullShare X25 ∗ owns (c : Thread nD τ) arg26 fullShare X26 ∗ owns (c : Thread nD τ) arg28 fullShare Y28
          ∗ (∃ f : Bf F c cc0_scratch0, ((Memref.whole cc0_scratch0).view.loc (c : Thread nD τ) ↦{fullShare} f)) ∗ (∃ f : Bf F c cc0_scratch1, ((Memref.whole cc0_scratch1).view.loc (c : Thread nD τ) ↦{fullShare} f)) ∗ (∃ f : Bf F c cc0_scratch2, ((Memref.whole cc0_scratch2).view.loc (c : Thread nD τ) ↦{fullShare} f)) ∗ (∃ f : Bf F c main_v30_3, ((Memref.whole main_v30_3).view.loc (c : Thread nD τ) ↦{fullShare} f)) ∗ (∃ f : Bf F c main_v30_4, ((Memref.whole main_v30_4).view.loc (c : Thread nD τ) ↦{fullShare} f))
          ∗ semVal ((c : Thread nD τ), SemLoc.dma 33) 0 ∗ semVal ((c : Thread nD τ), SemLoc.dma 34) 0 ∗ ∃ W', owes (c : Thread nD τ) 0 W') -∗ K ⟨⟩))
    ⊢ wp frame (wpE (defs₀ (F := F)) Variants.none c none) Set.univ (midBody i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 (Memref.whole main_v30_3) (Memref.isWhole_whole _) (Memref.whole main_v30_4) (Memref.isWhole_whole _) (Memref.whole cc0_scratch0) (Memref.isWhole_whole _) (Memref.whole cc0_scratch1) (Memref.isWhole_whole _) (Memref.whole cc0_scratch2) (Memref.isWhole_whole _) cc0_scratch3) K := by
  unfold owns
  iintro ⟨⟨%f5, %e5, H5⟩, ⟨%f6, %e6, H6⟩, ⟨%f7, %e7, H7⟩, ⟨%f8, %e8, H8⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f28, %e28, H28⟩, S0, S1, S2, S3, S4, C0, C1, HW, HK⟩
  subst e5
  subst e6
  subst e7
  subst e8
  subst e13
  subst e14
  subst e15
  subst e16
  subst e17
  subst e18
  subst e19
  subst e20
  subst e21
  subst e22
  subst e23
  subst e24
  subst e25
  subst e26
  subst e28
  unfold midBody
  sl_exec_parts
  sl_step
  iapply HK
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H18]
  · iexists _; isplitr; swap; · iexact H18
    ipureintro; rfl
  isplitl [H19]
  · iexists _; isplitr; swap; · iexact H19
    ipureintro; rfl
  isplitl [H20]
  · iexists _; isplitr; swap; · iexact H20
    ipureintro; rfl
  isplitl [H21]
  · iexists _; isplitr; swap; · iexact H21
    ipureintro; rfl
  isplitl [H22]
  · iexists _; isplitr; swap; · iexact H22
    ipureintro; rfl
  isplitl [H23]
  · iexists _; isplitr; swap; · iexact H23
    ipureintro; rfl
  isplitl [H24]
  · iexists _; isplitr; swap; · iexact H24
    ipureintro; rfl
  isplitl [H25]
  · iexists _; isplitr; swap; · iexact H25
    ipureintro; rfl
  isplitl [H26]
  · iexists _; isplitr; swap; · iexact H26
    ipureintro; rfl
  isplitl [H28]
  · iexists _; isplitr; swap; · iexact H28
    ipureintro; rfl
  isplitl [S0]
  · iexists _; iexact S0
  isplitl [S1]
  · iexists _; iexact S1
  isplitl [S2]
  · iexists _; iexact S2
  isplitl [S3]
  · iexists _; iexact S3
  isplitl [S4]
  · iexists _; iexact S4
  isplitl [C0]
  · iexact C0
  isplitl [C1]
  · iexact C1
  iexists _
  iexact HW

end Cert.Kernel2Ideal.Hand

end
-- ==== Proof.TailDats.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Tactic
public import proofs.«01_k».proof.Proof.TailLast
public import proofs.«01_k».proof.Proof.Gen.Kernel2Ideal.Frame

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ)

/-! ## What each point of the grid leaves in the windows -/

/-- The last point that stores into the prompt rows' window, from `t` on: `t` itself but for the last point. -/
abbrev lastRow (t : Fin cfg0.N) : Fin cfg0.N := ⟨min t.val 31, lt_of_le_of_lt (min_le_left _ _) t.isLt⟩

theorem lastRow_of_lt (t : Fin cfg0.N) (h : t.val < 32) : lastRow t = t := Fin.ext (min_eq_left (by omega))

/-- The points before the last compute a block of prompt rows, -/
theorem cond2_of_lt : ∀ t : Fin cfg0.N, t.val < 32 → k0_cond2 (grid0.coords t) = 1#1 := by decide +kernel
theorem not_cond2 : ∀ t : Fin cfg0.N, ¬ t.val < 32 → ¬ k0_cond2 (grid0.coords t) = 1#1 := by decide +kernel
/-- the last computes the sample rows, -/
theorem not_last : ∀ t : Fin cfg0.N, t.val < 32 → ¬ last (grid0.coords t) = 1#1 := by decide +kernel
theorem last_of_not_lt : ∀ t : Fin cfg0.N, ¬ t.val < 32 → last (grid0.coords t) = 1#1 := by decide +kernel
/-- and the first starts the accumulator. -/
theorem first_of_zero : ∀ t : Fin cfg0.N, t.val = 0 → k0_cond1 (grid0.coords t) = 1#1 := by decide +kernel
theorem not_first : ∀ t : Fin cfg0.N, ¬ t.val = 0 → ¬ k0_cond1 (grid0.coords t) = 1#1 := by decide +kernel

theorem cond2_lastRow (t : Fin cfg0.N) : k0_cond2 (grid0.coords (lastRow t)) = 1#1 :=
  cond2_of_lt _ (lt_of_le_of_lt (min_le_right _ _) (by decide))

/-- The block of prompt rows point `t` stores. -/
abbrev out26 (c : Dev nD) (t : Fin cfg0.N) (h : k0_cond2 (grid0.coords t) = 1#1) : Vec F S512x1024 .f32 :=
  oRows (grid0.coords t) h (iblk m c 0 t) (iblk m c 1 t) (iblk m c 2 t) (iblk m c 3 t) (iblk m c 4 t) (iblk m c 5 t) (iblk m c 6 t) (iblk m c 7 t)
/-- The block of the state point `t` stores. -/
abbrev out28 (c : Dev nD) (t : Fin cfg0.N) (h : k0_cond2 (grid0.coords t) = 1#1) : Vec F S1x4x4x128x256 .f32 :=
  sOut (grid0.coords t) (iblk m c 8 t) (iblk m c 9 t) (iblk m c 11 t)

/-! ## The invariant between points -/

/-- The kernel's own semaphores. -/
abbrev osem0 : Fin 2 → SemLoc sig := fun j => (![SemLoc.dma 33, SemLoc.dma 34]) j
theorem ownSemFacts0 : Pipeline.OwnSemFacts spec0 osem0 := by decide
/-- The body's own copies read no array in HBM, -/
abbrev H0 : Finset (Ref sig .tc) := ∅
theorem H0_sub : H0 ⊆ Pipeline.restRefs sig spec0 := by decide
/-- and write these two. -/
abbrev R0 : Finset (Ref sig .tc) := {main_v30_3, main_v30_4}
theorem R0_sub : R0 ⊆ Pipeline.restRefs sig spec0 \ H0 := by decide

/-- What is held between two points: everything of the body's own at rest. -/
abbrev atRest (c : Dev nD) : sProp 𝕄 := Pipeline.ΦDR osem0 spec0 H0 R0 (V m) c

/-- The two arrays written, at any contents. -/
theorem written_eq (c : Dev nD) : (Pipeline.owned R0 c : sProp 𝕄) = iprop((∃ f : Buf (Elt F) ((c : Thread nD τ).loc main_v30_3), ((c : Thread nD τ).loc main_v30_3) ↦{fullShare} f) ∗ (∃ f : Buf (Elt F) ((c : Thread nD τ).loc main_v30_4), ((c : Thread nD τ).loc main_v30_4) ↦{fullShare} f)) := by
  unfold Pipeline.owned
  rw [BI.bigSep_eq_bigSepL_of_eq [main_v30_3, main_v30_4] (by decide) (by decide)]
  rfl

set_option maxHeartbeats 2000000 in
/-- The same, part by part. -/
theorem atRest_eq (c : Dev nD) : atRest m c = iprop(
    ((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))
    ∗ (∃ r, prngReg c r)
    ∗ (semVal ((c : Thread nD τ), SemLoc.dma 33) 0 ∗ semVal ((c : Thread nD τ), SemLoc.dma 34) 0)
    ∗ (bigSep H0 fun b => ((c.tc : Thread nD τ).loc b) ↦{fullShare} V m c b)
    ∗ ((∃ f : Buf (Elt F) ((c : Thread nD τ).loc main_v30_3), ((c : Thread nD τ).loc main_v30_3) ↦{fullShare} f) ∗ (∃ f : Buf (Elt F) ((c : Thread nD τ).loc main_v30_4), ((c : Thread nD τ).loc main_v30_4) ↦{fullShare} f))) := by
  unfold atRest
  rw [Pipeline.ΦDR_eq, scopedRest0_eq, Pipeline.ownSems0_eq_of_list c osem0 [0, 1] (by decide) (by decide)]
  rw [written_eq]
  rfl

/-- The windows of which the proof data says nothing. -/
def fgt : Fin 29 → Bool := fun w => decide (w.val = 27)

/-- The proof data: each input window left as found, the prompt rows' window at its point's block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => X0_14 m c t
    | ⟨15, _⟩ => X0_15 m c t
    | ⟨16, _⟩ => X0_16 m c t
    | ⟨17, _⟩ => X0_17 m c t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => out26 m c (lastRow t) (cond2_lastRow t)
    | ⟨27, _⟩ => fun _ => Classical.choice inferInstance
    | ⟨28, _⟩ => out28 m c (lastRow t) (cond2_lastRow t)
    | ⟨_ + 29, h⟩ => absurd h (Nat.not_lt.2 (Nat.le_add_left _ _))
  Φ _ := atRest m c
  q w := Pipeline.shareOf spec0 w
  owed _ := 0

theorem dats_A (c : Dev nD) (w : Fin cfg0.W) : (dats m 0 c).A w = V m c (Pipeline.arrRef spec0 w) := by dsimp only [dats]

/-! ## What the body finds -/

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem before_5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl
theorem before_6 (c : Dev nD) (t : Fin cfg0.N) (d) : (dats m 0 c).before 6 t d = iblk m c 6 t :=
  ((dats m 0 c).before_in_eq_fetched 6 rfl (fun _ => rfl) (fun _ _ _ => rfl) (fun _ => rfl) t d).trans rfl
theorem before_7 (c : Dev nD) (t : Fin cfg0.N) (d) : (dats m 0 c).before 7 t d = iblk m c 7 t :=
  ((dats m 0 c).before_in_eq_fetched 7 rfl (fun _ => rfl) (fun _ _ _ => rfl) (fun _ => rfl) t d).trans rfl
theorem before_8 (c : Dev nD) (t : Fin cfg0.N) (d) : (dats m 0 c).before 8 t d = iblk m c 8 t :=
  ((dats m 0 c).before_in_eq_fetched 8 rfl (fun _ => rfl) (fun _ _ _ => rfl) (fun _ => rfl) t d).trans rfl
theorem before_9 (c : Dev nD) (t : Fin cfg0.N) (d) : (dats m 0 c).before 9 t d = iblk m c 9 t :=
  ((dats m 0 c).before_in_eq_fetched 9 rfl (fun _ => rfl) (fun _ _ _ => rfl) (fun _ => rfl) t d).trans rfl
theorem before_10 (c : Dev nD) (t : Fin cfg0.N) (d) : (dats m 0 c).before 10 t d = iblk m c 10 t :=
  ((dats m 0 c).before_in_eq_fetched 10 rfl (fun _ => rfl) (fun _ _ _ => rfl) (fun _ => rfl) t d).trans rfl
theorem before_11 (c : Dev nD) (t : Fin cfg0.N) (d) : (dats m 0 c).before 11 t d = iblk m c 11 t :=
  ((dats m 0 c).before_in_eq_fetched 11 rfl (fun _ => rfl) (fun _ _ _ => rfl) (fun _ => rfl) t d).trans rfl
theorem before_12 (c : Dev nD) (t : Fin cfg0.N) (d) : (dats m 0 c).before 12 t d = iblk m c 12 t :=
  ((dats m 0 c).before_in_eq_fetched 12 rfl (fun _ => rfl) (fun _ _ _ => rfl) (fun _ => rfl) t d).trans rfl
theorem before_13 (c : Dev nD) (t : Fin cfg0.N) (d) : (dats m 0 c).before 13 t d = iblk m c 13 t :=
  ((dats m 0 c).before_in_eq_fetched 13 rfl (fun _ => rfl) (fun _ _ _ => rfl) (fun _ => rfl) t d).trans rfl
theorem before_14 (c : Dev nD) (t : Fin cfg0.N) (d) : (dats m 0 c).before 14 t d = X0_14 m c t :=
  ((dats m 0 c).before_in_eq_fetched 14 rfl (fun _ => rfl)
      (fun t t' h => funext fun a => congrArg (fun n => Pipeline.Clip.of n ((cfg0.win 14).size a) (S136x6144.size a)) (congrFun h a))
      (fun t => by rw [show (dats m 0 c).after 14 t = X0_14 m c t from by dsimp only [dats]]; unfold X0_14; rw [Pipeline.Window.cut_fill]; unfold Dat.blockOf iblk; rw [dats_A]) t d).trans
    (by unfold Dat.fetched X0_14; rw [fill0_14 t d dflt0_14]; unfold Dat.blockOf iblk; rw [dats_A])
theorem before_15 (c : Dev nD) (t : Fin cfg0.N) (d) : (dats m 0 c).before 15 t d = X0_15 m c t :=
  ((dats m 0 c).before_in_eq_fetched 15 rfl (fun _ => rfl)
      (fun t t' h => funext fun a => congrArg (fun n => Pipeline.Clip.of n ((cfg0.win 15).size a) (S136x6144.size a)) (congrFun h a))
      (fun t => by rw [show (dats m 0 c).after 15 t = X0_15 m c t from by dsimp only [dats]]; unfold X0_15; rw [Pipeline.Window.cut_fill]; unfold Dat.blockOf iblk; rw [dats_A]) t d).trans
    (by unfold Dat.fetched X0_15; rw [fill0_15 t d dflt0_15]; unfold Dat.blockOf iblk; rw [dats_A])
theorem before_16 (c : Dev nD) (t : Fin cfg0.N) (d) : (dats m 0 c).before 16 t d = X0_16 m c t :=
  ((dats m 0 c).before_in_eq_fetched 16 rfl (fun _ => rfl)
      (fun t t' h => funext fun a => congrArg (fun n => Pipeline.Clip.of n ((cfg0.win 16).size a) (S136x6144.size a)) (congrFun h a))
      (fun t => by rw [show (dats m 0 c).after 16 t = X0_16 m c t from by dsimp only [dats]]; unfold X0_16; rw [Pipeline.Window.cut_fill]; unfold Dat.blockOf iblk; rw [dats_A]) t d).trans
    (by unfold Dat.fetched X0_16; rw [fill0_16 t d dflt0_16]; unfold Dat.blockOf iblk; rw [dats_A])
theorem before_17 (c : Dev nD) (t : Fin cfg0.N) (d) : (dats m 0 c).before 17 t d = X0_17 m c t :=
  ((dats m 0 c).before_in_eq_fetched 17 rfl (fun _ => rfl)
      (fun t t' h => funext fun a => congrArg (fun n => Pipeline.Clip.of n ((cfg0.win 17).size a) (S136x6144.size a)) (congrFun h a))
      (fun t => by rw [show (dats m 0 c).after 17 t = X0_17 m c t from by dsimp only [dats]]; unfold X0_17; rw [Pipeline.Window.cut_fill]; unfold Dat.blockOf iblk; rw [dats_A]) t d).trans
    (by unfold Dat.fetched X0_17; rw [fill0_17 t d dflt0_17]; unfold Dat.blockOf iblk; rw [dats_A])
theorem before_18 (c : Dev nD) (t : Fin cfg0.N) (d) : (dats m 0 c).before 18 t d = iblk m c 18 t :=
  ((dats m 0 c).before_in_eq_fetched 18 rfl (fun _ => rfl) (fun _ _ _ => rfl) (fun _ => rfl) t d).trans rfl
theorem before_19 (c : Dev nD) (t : Fin cfg0.N) (d) : (dats m 0 c).before 19 t d = iblk m c 19 t :=
  ((dats m 0 c).before_in_eq_fetched 19 rfl (fun _ => rfl) (fun _ _ _ => rfl) (fun _ => rfl) t d).trans rfl
theorem before_20 (c : Dev nD) (t : Fin cfg0.N) (d) : (dats m 0 c).before 20 t d = iblk m c 20 t :=
  ((dats m 0 c).before_in_eq_fetched 20 rfl (fun _ => rfl) (fun _ _ _ => rfl) (fun _ => rfl) t d).trans rfl
theorem before_21 (c : Dev nD) (t : Fin cfg0.N) (d) : (dats m 0 c).before 21 t d = iblk m c 21 t :=
  ((dats m 0 c).before_in_eq_fetched 21 rfl (fun _ => rfl) (fun _ _ _ => rfl) (fun _ => rfl) t d).trans rfl
theorem before_22 (c : Dev nD) (t : Fin cfg0.N) (d) : (dats m 0 c).before 22 t d = iblk m c 22 t :=
  ((dats m 0 c).before_in_eq_fetched 22 rfl (fun _ => rfl) (fun _ _ _ => rfl) (fun _ => rfl) t d).trans rfl
theorem before_23 (c : Dev nD) (t : Fin cfg0.N) (d) : (dats m 0 c).before 23 t d = iblk m c 23 t :=
  ((dats m 0 c).before_in_eq_fetched 23 rfl (fun _ => rfl) (fun _ _ _ => rfl) (fun _ => rfl) t d).trans rfl
theorem before_24 (c : Dev nD) (t : Fin cfg0.N) (d) : (dats m 0 c).before 24 t d = iblk m c 24 t :=
  ((dats m 0 c).before_in_eq_fetched 24 rfl (fun _ => rfl) (fun _ _ _ => rfl) (fun _ => rfl) t d).trans rfl
theorem before_25 (c : Dev nD) (t : Fin cfg0.N) (d) : (dats m 0 c).before 25 t d = iblk m c 25 t :=
  ((dats m 0 c).before_in_eq_fetched 25 rfl (fun _ => rfl) (fun _ _ _ => rfl) (fun _ => rfl) t d).trans rfl

/-- The window is not written back between the last two points, -/
theorem flush_of_31 : ∀ (w : Fin 29) (t : Fin cfg0.N), t.val = 31 → w.val ≠ 27 → 26 ≤ w.val → (cfg0.win w).flush t = false := by decide +kernel
/-- it is stored into at the last but one, -/
theorem idle_of_31 : ∀ (w : Fin 29) (t : Fin cfg0.N), t.val = 31 → w.val ≠ 27 → 26 ≤ w.val → cfg0.idle w (cfg0.grid.coords t) = false := by decide +kernel
/-- and never fetched. -/
theorem fetch_of_out : ∀ (w : Fin 29) (t : Fin cfg0.N), 26 ≤ w.val → (cfg0.win w).fetch t = false := by decide +kernel

/-- No output block is cut. -/
theorem clip_of_out (w : Fin 29) (hw : 26 ≤ w.val) : ∀ i a, (cfg0.win w).clip i a = none := by
  revert hw
  fin_cases w <;> intro hw <;> first | exact absurd hw (by decide) | exact fun _ _ => rfl

theorem lastRow_congr (t t' : Fin cfg0.N) (h : 31 ≤ t.val) (h' : 31 ≤ t'.val) : lastRow t = lastRow t' :=
  Fin.ext ((min_eq_right h).trans (min_eq_right h').symm)

theorem out26_congr (c : Dev nD) (t t' : Fin cfg0.N) (e : t = t') (h h') : out26 m c t h = out26 m c t' h' := by subst e; rfl

/-- The window is found by the last point as the point before left it. -/
theorem before_last_26 (c : Dev nD) (t : Fin cfg0.N) (ht : ¬ t.val < 32)
    (d) : (dats m 0 c).before 26 t d = (dats m 0 c).after 26 t := by
  have e : t.val = 32 := by have h : t.val < 33 := lt_of_lt_of_eq t.isLt N_0; omega
  refine ((dats m 0 c).before_of_pos 26 t (by omega) (fetch_of_out 26 t (by decide)) d).trans ?_
  refine (if_neg (by rw [flush_of_31 26 _ (by simp only [e]) (by decide) (by decide)]; decide)).trans ?_
  unfold Dat.left
  rw [idle_of_31 26 _ (by simp only [e]) (by decide) (by decide)]
  show (dats m 0 c).kept 26 _ d = _
  unfold Dat.kept
  refine (Pipeline.fill_of_clip_none (cfg := cfg0) 26 _ (clip_of_out 26 (by decide) _) d ((dats m 0 c).after 26 ⟨t.val - 1, lt_of_le_of_lt (Nat.sub_le _ _) t.isLt⟩) _).trans ?_
  refine ((cfg0.win 26).fill_cut _ _).trans ?_
  exact out26_congr m c _ _ (lastRow_congr ⟨t.val - 1, lt_of_le_of_lt (Nat.sub_le _ _) t.isLt⟩ t (show 31 ≤ t.val - 1 by omega) (by omega)) (cond2_lastRow _) (cond2_lastRow _)

theorem out28_congr (c : Dev nD) (t t' : Fin cfg0.N) (e : t = t') (h h') : out28 m c t h = out28 m c t' h' := by subst e; rfl

/-- The window is found by the last point as the point before left it. -/
theorem before_last_28 (c : Dev nD) (t : Fin cfg0.N) (ht : ¬ t.val < 32)
    (d) : (dats m 0 c).before 28 t d = (dats m 0 c).after 28 t := by
  have e : t.val = 32 := by have h : t.val < 33 := lt_of_lt_of_eq t.isLt N_0; omega
  refine ((dats m 0 c).before_of_pos 28 t (by omega) (fetch_of_out 28 t (by decide)) d).trans ?_
  refine (if_neg (by rw [flush_of_31 28 _ (by simp only [e]) (by decide) (by decide)]; decide)).trans ?_
  unfold Dat.left
  rw [idle_of_31 28 _ (by simp only [e]) (by decide) (by decide)]
  show (dats m 0 c).kept 28 _ d = _
  unfold Dat.kept
  refine (Pipeline.fill_of_clip_none (cfg := cfg0) 28 _ (clip_of_out 28 (by decide) _) d ((dats m 0 c).after 28 ⟨t.val - 1, lt_of_le_of_lt (Nat.sub_le _ _) t.isLt⟩) _).trans ?_
  refine ((cfg0.win 28).fill_cut _ _).trans ?_
  exact out28_congr m c _ _ (lastRow_congr ⟨t.val - 1, lt_of_le_of_lt (Nat.sub_le _ _) t.isLt⟩ t (show 31 ≤ t.val - 1 by omega) (by omega)) (cond2_lastRow _) (cond2_lastRow _)

end Cert.Kernel2Ideal.Hand

end
-- ==== Proof.TailMath.lean ====
module

public import proofs.«01_k».proof.Proof.Math

@[expose] public section

noncomputable section

namespace Cert.Ffn

open Idealize.ShloMosaic

/-! ## The last norm, and the modulated norm with its two factors multiplied first -/

/-- The row normalized and weighted. -/
def outNorm (y nf : Fin 1024 → EReal) (k : Fin 1024) : EReal := y k * rmsInv y * nf k

/-- The row normalized, weighted, scaled and shifted, weight and scale multiplied first. -/
def normedAlt (x nw sc sh : Fin 1024 → EReal) (k : Fin 1024) : EReal :=
  x k * rmsInv x * (nw k * (1 + sc k)) + sh k

theorem normedAlt_eq (x nw sc sh : Fin 1024 → EReal) : normedAlt x nw sc sh = normed x nw sc sh := by
  funext k
  unfold normedAlt normed
  rw [mul_assoc (x k * _)]

end Cert.Ffn

end
-- ==== Proof.TailEntry.lean ====
module

public import proofs.«01_k».proof.Proof.TailDats
public import proofs.«01_k».proof.Proof.TailMath
public import Idealize.ShloMosaic.Lib.Pipeline.ValueKit
public import Idealize.ShloMosaic.Lib.Claim

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

open Cert.Ffn

/-! ## The prompt rows' block, read at an index -/

/-- The rows after the step. -/
theorem pay65_apply (X : FVec Ideal S512x1024 .f32) (sh nw sc : FVec Ideal S1x1024 .f32) (a b : FVec Ideal S1024x2816 .bf16)
    (g : FVec Ideal S1x1024 .f32) (w : FVec Ideal S2816x1024 .bf16) (r : Fin 512) (d : Fin 1024) :
    k0_pay65 (F := Ideal) X sh (k0_pay63 (F := Ideal) X) (k0_pay64 (F := Ideal) nw sc) a b g w (ix2 r d)
      = X (ix2 r d) + Ideal.ofBits .f32 0x3F000000#32 * g (ix2 0 d)
          * ∑ j : Fin 2816, (∑ k, normedAlt (fun k => X (ix2 r k)) (fun k => nw (ix2 0 k)) (fun k => sc (ix2 0 k)) (fun k => sh (ix2 0 k)) k * a (ix2 k j))
              * Ideal.logistic (∑ k, normedAlt (fun k => X (ix2 r k)) (fun k => nw (ix2 0 k)) (fun k => sc (ix2 0 k)) (fun k => sh (ix2 0 k)) k * a (ix2 k j))
              * (∑ k, normedAlt (fun k => X (ix2 r k)) (fun k => nw (ix2 0 k)) (fun k => sc (ix2 0 k)) (fun k => sh (ix2 0 k)) k * b (ix2 k j)) * w (ix2 j d) := by
  unfold normedAlt rmsInv
  pointwise [k0_pay65, k0_pay63, k0_pay64]

/-- The last norm, from the rows after the step and their mean square. -/
theorem pay1_apply (Y : FVec Ideal S512x1024 .f32) (nf : FVec Ideal S1x1024 .f32) (q : FVec Ideal S512x1 .f32) (r : Fin 512) (d : Fin 1024) :
    k0_pay1 (F := Ideal) Y (k0_pay66 (F := Ideal) nf) q (ix2 r d)
      = Y (ix2 r d) * Ideal.rsqrt (q (ix2 r 0) + Ideal.ofBits .f32 0x358637BD#32) * nf (ix2 0 d) := by
  pointwise [k0_pay1, k0_pay66]

/-- The mean square of the rows after the step. -/
theorem pay67_apply (X : FVec Ideal S512x1024 .f32) (sh : FVec Ideal S1x1024 .f32) (Z : FVec Ideal S512x1024 .f32) (n : FVec Ideal S1x1024 .f32)
    (a b : FVec Ideal S1024x2816 .bf16) (g : FVec Ideal S1x1024 .f32) (w : FVec Ideal S2816x1024 .bf16) (r : Fin 512) :
    k0_pay67 (F := Ideal) X sh Z n a b g w (ix2 r 0)
      = Ideal.div (∑ k : Fin 1024, k0_pay65 (F := Ideal) X sh Z n a b g w (ix2 r k) * k0_pay65 (F := Ideal) X sh Z n a b g w (ix2 r k))
          (Ideal.ofBits .f32 0x44800000#32) := by
  pointwise [k0_pay67]

theorem gateHalf_apply (w : FVec Ideal S1024x5632 .bf16) (k : Fin 1024) (j : Fin 2816) :
    gateHalf (F := Ideal) w (ix2 k j) = w (ix2 k ⟨j.val, by omega⟩) := by
  unfold gateHalf
  pointwise

theorem upHalf_apply (w : FVec Ideal S1024x5632 .bf16) (k : Fin 1024) (j : Fin 2816) :
    upHalf (F := Ideal) w (ix2 k j) = w (ix2 k ⟨2816 + j.val, by omega⟩) := by
  unfold upHalf
  pointwise

/-- A block of prompt rows: each row goes through the step with its batch's modulation row, then through the last norm. -/
theorem oRows_apply (i : grid0.Coords) (h2 : k0_cond2 i = 1#1) (X : FVec Ideal S512x1024 .f32) (sh sc g : FVec Ideal S8x1024 .f32)
    (nw : FVec Ideal S1x1024 .f32) (w13 : FVec Ideal S1024x5632 .bf16) (w2 : FVec Ideal S2816x1024 .bf16) (nf : FVec Ideal S1x1024 .f32) (r : Fin 512) (d : Fin 1024) :
    oRows (F := Ideal) i h2 X sh sc g nw w13 w2 nf (ix2 r d)
      = outNorm (step (fun k => X (ix2 r k)) (fun k => rowAt (F := Ideal) i h2 sh (ix2 0 k)) (fun k => rowAt (F := Ideal) i h2 sc (ix2 0 k)) (fun k => rowAt (F := Ideal) i h2 g (ix2 0 k))
          (fun k => nw (ix2 0 k)) (fun k n => w13 (ix2 k n)) (fun j d => w2 (ix2 j d))) (fun k => nf (ix2 0 k)) d := by
  have hy : ∀ d, k0_pay65 (F := Ideal) X (rowAt i h2 sh) (k0_pay63 (F := Ideal) X) (k0_pay64 (F := Ideal) nw (rowAt i h2 sc)) (gateHalf w13) (upHalf w13) (rowAt i h2 g) w2 (ix2 r d)
      = step (fun k => X (ix2 r k)) (fun k => rowAt (F := Ideal) i h2 sh (ix2 0 k)) (fun k => rowAt (F := Ideal) i h2 sc (ix2 0 k)) (fun k => rowAt (F := Ideal) i h2 g (ix2 0 k))
          (fun k => nw (ix2 0 k)) (fun k n => w13 (ix2 k n)) (fun j d => w2 (ix2 j d)) d := by
    intro d
    rw [pay65_apply]
    unfold step hidAt
    simp only [normedAlt_eq, gateHalf_apply, upHalf_apply]
  unfold oRows outNorm rmsInv
  rw [pay1_apply, pay67_apply]
  simp only [hy]

/-! ## Where each window's block sits, as a function of the point -/

theorem at_0 : ∀ t : Fin cfg0.N, win0_0.index t = ![min t.val 31, 0] := (by decide +kernel : ∀ t : Fin grid0.N, _)
theorem at_1 : ∀ t : Fin cfg0.N, win0_1.index t = ![16, 3] := (by decide +kernel : ∀ t : Fin grid0.N, _)
theorem at_2 : ∀ t : Fin cfg0.N, win0_2.index t = ![16, 4] := (by decide +kernel : ∀ t : Fin grid0.N, _)
theorem at_3 : ∀ t : Fin cfg0.N, win0_3.index t = ![16, 5] := (by decide +kernel : ∀ t : Fin grid0.N, _)
theorem at_4 : ∀ t : Fin cfg0.N, win0_4.index t = ![0, 0] := (by decide +kernel : ∀ t : Fin grid0.N, _)
theorem at_5 : ∀ t : Fin cfg0.N, win0_5.index t = ![0, 0] := (by decide +kernel : ∀ t : Fin grid0.N, _)
theorem at_6 : ∀ t : Fin cfg0.N, win0_6.index t = ![0, 0] := (by decide +kernel : ∀ t : Fin grid0.N, _)
theorem at_7 : ∀ t : Fin cfg0.N, win0_7.index t = ![0, 0] := (by decide +kernel : ∀ t : Fin grid0.N, _)
theorem at_26 : ∀ t : Fin cfg0.N, win0_26.index t = ![min t.val 31, 0] := (by decide +kernel : ∀ t : Fin grid0.N, _)

/-! ## What the body leaves in the prompt rows' window -/

theorem after_26 (c : Dev nD) (t : Fin cfg0.N) : (dats m 0 c).after 26 t = out26 m c (lastRow t) (cond2_lastRow t) := by dsimp only [dats]

/-! ## The arrays the call reads, entry by entry -/

/-- The two norms' weights as rows. -/
theorem V_main_v14 (c : Dev nD) (k : Fin 1024) : V m c main_v14 (ix2 0 k) = m ((c : Thread nD τ).loc main_arg2) (ix2 0 k) := by
  entry_read
  pointwise
theorem V_main_v19 (c : Dev nD) (k : Fin 1024) : V m c main_v19 (ix2 0 k) = m ((c : Thread nD τ).loc main_arg5) (ix1 k) := by
  entry_read
  pointwise

/-- The two feed-forward weights of the one layer. -/
theorem V_main_v16 (c : Dev nD) (k : Fin 1024) (j : Fin 5632) : V m c main_v16 (ix2 k j) = m ((c : Thread nD τ).loc main_arg3) (ix3 0 k j) := by
  entry_read
  pointwise
theorem V_main_v18 (c : Dev nD) (j : Fin 2816) (k : Fin 1024) : V m c main_v18 (ix2 j k) = m ((c : Thread nD τ).loc main_arg4) (ix3 0 j k) := by
  entry_read
  pointwise

/-! ## The blocks, entry by entry -/

/-- Window 0: 512 prompt rows. -/
theorem blk_0 (c : Dev nD) (t : Fin cfg0.N) (r : Fin 512) (k : Fin 1024) :
    iblk m c 0 t (ix2 r k) = V m c main_arg0 (ix2 ⟨min t.val 31 * 512 + r.val, by omega⟩ ⟨0 * 1024 + k.val, by omega⟩) := by
  refine congrArg (V m c main_arg0) (?_ : (win0_0.rect t).emb (ix2 r k) = _)
  funext a
  refine Fin.ext ((win0_0.rect_emb_val_off t (ix2 r k) a).trans ?_)
  rw [at_0 t]
  match a with
  | ⟨0, _⟩ => exact rfl
  | ⟨1, _⟩ => exact rfl

/-- Window 1: the prompts' shift rows. -/
theorem blk_1 (c : Dev nD) (t : Fin cfg0.N) (r : Fin 8) (k : Fin 1024) :
    iblk m c 1 t (ix2 r k) = V m c main_arg1 (ix2 ⟨16 * 8 + r.val, by omega⟩ ⟨3 * 1024 + k.val, by omega⟩) := by
  refine congrArg (V m c main_arg1) (?_ : (win0_1.rect t).emb (ix2 r k) = _)
  funext a
  refine Fin.ext ((win0_1.rect_emb_val_off t (ix2 r k) a).trans ?_)
  rw [at_1 t]
  match a with
  | ⟨0, _⟩ => exact rfl
  | ⟨1, _⟩ => exact rfl

/-- Window 2: the prompts' scale rows. -/
theorem blk_2 (c : Dev nD) (t : Fin cfg0.N) (r : Fin 8) (k : Fin 1024) :
    iblk m c 2 t (ix2 r k) = V m c main_arg1 (ix2 ⟨16 * 8 + r.val, by omega⟩ ⟨4 * 1024 + k.val, by omega⟩) := by
  refine congrArg (V m c main_arg1) (?_ : (win0_2.rect t).emb (ix2 r k) = _)
  funext a
  refine Fin.ext ((win0_2.rect_emb_val_off t (ix2 r k) a).trans ?_)
  rw [at_2 t]
  match a with
  | ⟨0, _⟩ => exact rfl
  | ⟨1, _⟩ => exact rfl

/-- Window 3: the prompts' gate rows. -/
theorem blk_3 (c : Dev nD) (t : Fin cfg0.N) (r : Fin 8) (k : Fin 1024) :
    iblk m c 3 t (ix2 r k) = V m c main_arg1 (ix2 ⟨16 * 8 + r.val, by omega⟩ ⟨5 * 1024 + k.val, by omega⟩) := by
  refine congrArg (V m c main_arg1) (?_ : (win0_3.rect t).emb (ix2 r k) = _)
  funext a
  refine Fin.ext ((win0_3.rect_emb_val_off t (ix2 r k) a).trans ?_)
  rw [at_3 t]
  match a with
  | ⟨0, _⟩ => exact rfl
  | ⟨1, _⟩ => exact rfl

/-- Window 4: the first norm's weight. -/
theorem blk_4 (c : Dev nD) (t : Fin cfg0.N) (r : Fin 1) (k : Fin 1024) :
    iblk m c 4 t (ix2 r k) = V m c main_v14 (ix2 ⟨0 * 1 + r.val, by omega⟩ ⟨0 * 1024 + k.val, by omega⟩) := by
  refine congrArg (V m c main_v14) (?_ : (win0_4.rect t).emb (ix2 r k) = _)
  funext a
  refine Fin.ext ((win0_4.rect_emb_val_off t (ix2 r k) a).trans ?_)
  rw [at_4 t]
  match a with
  | ⟨0, _⟩ => exact rfl
  | ⟨1, _⟩ => exact rfl

/-- Window 5: the first weight. -/
theorem blk_5 (c : Dev nD) (t : Fin cfg0.N) (r : Fin 1024) (k : Fin 5632) :
    iblk m c 5 t (ix2 r k) = V m c main_v16 (ix2 ⟨0 * 1024 + r.val, by omega⟩ ⟨0 * 5632 + k.val, by omega⟩) := by
  refine congrArg (V m c main_v16) (?_ : (win0_5.rect t).emb (ix2 r k) = _)
  funext a
  refine Fin.ext ((win0_5.rect_emb_val_off t (ix2 r k) a).trans ?_)
  rw [at_5 t]
  match a with
  | ⟨0, _⟩ => exact rfl
  | ⟨1, _⟩ => exact rfl

/-- Window 6: the second weight. -/
theorem blk_6 (c : Dev nD) (t : Fin cfg0.N) (r : Fin 2816) (k : Fin 1024) :
    iblk m c 6 t (ix2 r k) = V m c main_v18 (ix2 ⟨0 * 2816 + r.val, by omega⟩ ⟨0 * 1024 + k.val, by omega⟩) := by
  refine congrArg (V m c main_v18) (?_ : (win0_6.rect t).emb (ix2 r k) = _)
  funext a
  refine Fin.ext ((win0_6.rect_emb_val_off t (ix2 r k) a).trans ?_)
  rw [at_6 t]
  match a with
  | ⟨0, _⟩ => exact rfl
  | ⟨1, _⟩ => exact rfl

/-- Window 7: the last norm's weight. -/
theorem blk_7 (c : Dev nD) (t : Fin cfg0.N) (r : Fin 1) (k : Fin 1024) :
    iblk m c 7 t (ix2 r k) = V m c main_v19 (ix2 ⟨0 * 1 + r.val, by omega⟩ ⟨0 * 1024 + k.val, by omega⟩) := by
  refine congrArg (V m c main_v19) (?_ : (win0_7.rect t).emb (ix2 r k) = _)
  funext a
  refine Fin.ext ((win0_7.rect_emb_val_off t (ix2 r k) a).trans ?_)
  rw [at_7 t]
  match a with
  | ⟨0, _⟩ => exact rfl
  | ⟨1, _⟩ => exact rfl

/-! The weights a point reads. -/

theorem nw_apply (c : Dev nD) (t : Fin cfg0.N) (k : Fin 1024) : iblk m c 4 t (ix2 0 k) = m ((c : Thread nD τ).loc main_arg2) (ix2 0 k) := by
  refine (blk_4 m c t 0 k).trans ?_
  rw [show (ix2 (⟨0 * 1 + (0 : Fin 1).val, by omega⟩ : Fin 1) (⟨0 * 1024 + k.val, by omega⟩ : Fin 1024) : S1x1024.Idx) = ix2 0 k from
    congrArg₂ ix2 (Fin.ext (by simp)) (Fin.ext (by simp))]
  exact V_main_v14 m c k

theorem w13_apply (c : Dev nD) (t : Fin cfg0.N) (i : Fin 1024) (k : Fin 5632) : iblk m c 5 t (ix2 i k) = m ((c : Thread nD τ).loc main_arg3) (ix3 0 i k) := by
  refine (blk_5 m c t i k).trans ?_
  rw [show (ix2 (⟨0 * 1024 + (i : Fin 1024).val, by omega⟩ : Fin 1024) (⟨0 * 5632 + k.val, by omega⟩ : Fin 5632) : S1024x5632.Idx) = ix2 i k from
    congrArg₂ ix2 (Fin.ext (by simp)) (Fin.ext (by simp))]
  exact V_main_v16 m c i k

theorem w2_apply (c : Dev nD) (t : Fin cfg0.N) (i : Fin 2816) (k : Fin 1024) : iblk m c 6 t (ix2 i k) = m ((c : Thread nD τ).loc main_arg4) (ix3 0 i k) := by
  refine (blk_6 m c t i k).trans ?_
  rw [show (ix2 (⟨0 * 2816 + (i : Fin 2816).val, by omega⟩ : Fin 2816) (⟨0 * 1024 + k.val, by omega⟩ : Fin 1024) : S2816x1024.Idx) = ix2 i k from
    congrArg₂ ix2 (Fin.ext (by simp)) (Fin.ext (by simp))]
  exact V_main_v18 m c i k

theorem nf_apply (c : Dev nD) (t : Fin cfg0.N) (k : Fin 1024) : iblk m c 7 t (ix2 0 k) = m ((c : Thread nD τ).loc main_arg5) (ix1 k) := by
  refine (blk_7 m c t 0 k).trans ?_
  rw [show (ix2 (⟨0 * 1 + (0 : Fin 1).val, by omega⟩ : Fin 1) (⟨0 * 1024 + k.val, by omega⟩ : Fin 1024) : S1x1024.Idx) = ix2 0 k from
    congrArg₂ ix2 (Fin.ext (by simp)) (Fin.ext (by simp))]
  exact V_main_v19 m c k

theorem off5_eq : ∀ t : Fin cfg0.N, t.val < 32 → k0_off5 (grid0.coords t) = ![t.val / 4, 0] := (by decide +kernel : ∀ t : Fin grid0.N, _)

/-- The modulation row a point reads is its batch's. -/
theorem rowAt_apply (t : Fin cfg0.N) (ht : t.val < 32) (h2 : k0_cond2 (grid0.coords t) = 1#1) (X : FVec Ideal S8x1024 .f32) (k : Fin 1024) :
    rowAt (F := Ideal) (grid0.coords t) h2 X (ix2 0 k) = X (ix2 ⟨t.val / 4, by omega⟩ k) := by
  unfold rowAt
  have hoff : k0_off5 (grid0.coords t) = ![t.val / 4, 0] := off5_eq t ht
  pointwise
  exact congrArg X (congrArg₂ ix2 (Fin.ext (congrFun hoff 0)) (Fin.ext ((congrArg (· + k.val) (congrFun hoff 1)).trans (Nat.zero_add _))))

end Cert.Kernel2Ideal.Hand

end
-- ==== Proof.TailReference.lean ====
module

public import proofs.«01_k».proof.Proof.TailMath
public import proofs.«01_k».proof.Proof.Gen.Reference2Ideal.Read
public import Idealize.ShloMosaic.Lib.Pipeline.ValueKit

@[expose] public section

set_option maxRecDepth 16384

noncomputable section

namespace Cert.Reference2Ideal.Hand

open Cert.Reference2Ideal Cert.Reference2Ideal.Gen Cert.Reference2Ideal.Read Cert.Ffn Idealize.ShloMosaic Idealize.SL.Sem

variable (x0 : S16384x1024.Idx → EReal) (x1 : S136x6144.Idx → EReal) (x2 : S1x1024.Idx → EReal)
  (x3 : S1x1024x5632.Idx → EReal) (x4 : S1x2816x1024.Idx → EReal) (x5 : S1024.Idx → EReal)

/-- The shift, the scale and the gate of the modulation's row `r`. -/
def modShift (r : Fin 136) (k : Fin 1024) : EReal := x1 (ix2 r ⟨3072 + k.val, by omega⟩)
def modScale (r : Fin 136) (k : Fin 1024) : EReal := x1 (ix2 r ⟨4096 + k.val, by omega⟩)
def modGate (r : Fin 136) (k : Fin 1024) : EReal := x1 (ix2 r ⟨5120 + k.val, by omega⟩)

/-- The normalized, modulated rows. -/
theorem val_main_v26_at (b : Fin 8) (s : Fin 2048) (k : Fin 1024) : val_main_v26 (F := Ideal) x0 x1 x2 (ix3 b s k)
    = (normed (fun k => x0 (ix2 ⟨b.val * 2048 + s.val, by omega⟩ k)) (fun k => x2 (ix2 0 k)) (modScale x1 ⟨128 + b.val, by omega⟩) (modShift x1 ⟨128 + b.val, by omega⟩)) k := by
  pointwise [val_main_v26, val_main_v25, val_main_v24, val_main_v2, val_main_v1, val_main_v23, val_main_v22, val_main_v21, val_main_v19, val_main_v3, val_main_v20, val_main_cst_2, val_main_v18, val_main_v17, val_main_v16, val_main_v5, val_main_v15, val_main_v14, val_main_v13, val_main_v12, val_main_v11, val_main_cst_1, val_main_v10, val_main_v9, val_main_cst_0, val_main_v8, val_main_v7, val_main_cst, val_main_v6, val_main_v0]
  rfl

/-- Their product with the first weight. -/
theorem val_main_v32_at (b : Fin 8) (s : Fin 2048) (n : Fin 5632) : val_main_v32 (F := Ideal) x0 x1 x2 x3 (ix3 b s n)
    = ∑ k : Fin 1024, (normed (fun k => x0 (ix2 ⟨b.val * 2048 + s.val, by omega⟩ k)) (fun k => x2 (ix2 0 k)) (modScale x1 ⟨128 + b.val, by omega⟩) (modShift x1 ⟨128 + b.val, by omega⟩)) k * x3 (ix3 0 k n) := by
  rw [val_main_v32_apply]
  refine Finset.sum_congr rfl fun k _ => congrArg₂ (· * ·) ?_ ?_
  · refine (congrArg (val_main_v26 (F := Ideal) x0 x1 x2) (?_ : _ = (ix3 b s k))).trans (val_main_v26_at x0 x1 x2 b s k)
    funext a
    match a with
    | ⟨0, _⟩ => rfl
    | ⟨1, _⟩ => rfl
    | ⟨2, _⟩ => rfl
  · pointwise [val_main_v32, val_main_v30]
    rfl

/-- The hidden values. -/
theorem val_main_v36_at (b : Fin 8) (s : Fin 2048) (j : Fin 2816) : val_main_v36 (F := Ideal) x0 x1 x2 x3 (ix3 b s j)
    = hidAt (normed (fun k => x0 (ix2 ⟨b.val * 2048 + s.val, by omega⟩ k)) (fun k => x2 (ix2 0 k)) (modScale x1 ⟨128 + b.val, by omega⟩) (modShift x1 ⟨128 + b.val, by omega⟩)) (fun k n => x3 (ix3 0 k n)) j := by
  unfold hidAt
  rw [← val_main_v32_at, ← val_main_v32_at]
  pointwise [val_main_v36, val_main_v34, val_main_v35, val_main_call0_v5, val_main_call0_v3, val_main_call0_v1, val_main_call0_v0, val_main_v33, val_main_call0_v2, val_main_call0_cst, val_main_call0_v4, val_main_call0_cst_0]
  rfl

/-- The rows after the step. -/
theorem val_main_v40_at (b : Fin 8) (s : Fin 2048) (e : Fin 1024) : val_main_v40 (F := Ideal) x0 x1 x2 x3 x4 (ix3 b s e)
    = (step (fun k => x0 (ix2 ⟨b.val * 2048 + s.val, by omega⟩ k)) (modShift x1 ⟨128 + b.val, by omega⟩) (modScale x1 ⟨128 + b.val, by omega⟩) (modGate x1 ⟨128 + b.val, by omega⟩) (fun k => x2 (ix2 0 k)) (fun k n => x3 (ix3 0 k n)) (fun j d => x4 (ix3 0 j d))) e := by
  unfold step
  pointwise [val_main_v40, val_main_v39, val_main_v37, val_main_v31, val_main_v38, val_main_v29, val_main_v27, val_main_v4, val_main_v1, val_main_v28, val_main_cst_3, val_main_v0]
  simp only [val_main_v36_at]
  rfl

/-- The rows after the last norm. -/
theorem val_main_v53_at (b : Fin 8) (s : Fin 2048) (e : Fin 1024) : val_main_v53 (F := Ideal) x0 x1 x2 x3 x4 x5 (ix3 b s e)
    = outNorm (step (fun k => x0 (ix2 ⟨b.val * 2048 + s.val, by omega⟩ k)) (modShift x1 ⟨128 + b.val, by omega⟩) (modScale x1 ⟨128 + b.val, by omega⟩) (modGate x1 ⟨128 + b.val, by omega⟩) (fun k => x2 (ix2 0 k)) (fun k n => x3 (ix3 0 k n)) (fun j d => x4 (ix3 0 j d))) (fun k => x5 (ix1 k)) e := by
  unfold outNorm rmsInv
  simp only [← val_main_v40_at]
  pointwise [val_main_v53, val_main_v52, val_main_v51, val_main_v50, val_main_v49, val_main_v48, val_main_v47, val_main_v46, val_main_cst_6, val_main_v45, val_main_v44, val_main_cst_5, val_main_v43, val_main_v42, val_main_cst_4, val_main_v41]

/-- An entry of the reference's prompt rows. -/
theorem val_main_v54_at (R : Fin 16384) (e : Fin 1024) : val_main_v54 (F := Ideal) x0 x1 x2 x3 x4 x5 (ix2 R e)
    = outNorm (step (fun k => x0 (ix2 R k)) (modShift x1 ⟨128 + R.val / 2048, by omega⟩) (modScale x1 ⟨128 + R.val / 2048, by omega⟩) (modGate x1 ⟨128 + R.val / 2048, by omega⟩) (fun k => x2 (ix2 0 k)) (fun k n => x3 (ix3 0 k n)) (fun j d => x4 (ix3 0 j d)))
        (fun k => x5 (ix1 k)) e := by
  have hR : (⟨R.val / 2048 * 2048 + R.val % 2048, by omega⟩ : Fin 16384) = R := Fin.ext (by show R.val / 2048 * 2048 + R.val % 2048 = R.val; omega)
  have h := val_main_v53_at x0 x1 x2 x3 x4 x5 ⟨R.val / 2048, by omega⟩ ⟨R.val % 2048, by omega⟩ e
  simp only [hR] at h
  rw [← h]
  pointwise [val_main_v54]

end Cert.Reference2Ideal.Hand

end
-- ==== Proof.TailStateValues.lean ====
module

public import proofs.«01_k».proof.Proof.TailEntry
public import proofs.«01_k».proof.Proof.TailReference
public import Idealize.ShloMosaic.Lib.Pipeline.ValueKit
public import Idealize.ShloMosaic.Lib.Claim

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Idealize.ShloMosaic.Pipeline (Dat)
open Cert.Ffn Cert.Reference2Ideal.Hand

variable (m : (ℓ : Loc nD τ sig) → Buf (Elt Ideal) ℓ)

/-! ## The state the call stores -/

/-- The word a point rotates its columns by. -/
abbrev shiftWord (k : ℕ) : BitVec 32 :=
    let v9 : BitVec 32 := Scalar.muli (BitVec.ofNat 32 k) 4#32
    let v10 : BitVec 32 := Scalar.subi 128#32 v9
    let v11 : BitVec 1 := Scalar.cmpi .eq 128#32 0#32
    let v12 : BitVec 32 := Scalar.select v11 1#32 128#32
    let v13 : BitVec 32 := Scalar.remsi v10 v12
    let v14 : BitVec 1 := Scalar.cmpi .ne v13 0#32
    let v15 : BitVec 1 := Scalar.cmpi .slt v13 0#32
    let v16 : BitVec 1 := Scalar.cmpi .slt v12 0#32
    let v17 : BitVec 1 := Scalar.xori v15 v16
    let v18 : BitVec 1 := Scalar.andi v17 v14
    let v19 : BitVec 32 := Scalar.addi v13 v12
    Scalar.select v18 v19 v13

/-- It is 128 less the point's first row. -/
theorem shift_word : ∀ k : Fin 32, (shiftWord k.val).toNat = (128 - 4 * k.val) % 128 := by decide +kernel

/-- A point's column of the decays: its rows come first. -/
theorem decayCols_apply (i : grid0.Coords) (hi : (i 0).val < 32) (X9 : FVec Ideal S3x512x128 .f32) (j : Fin 512) (n : Fin 128) (b : Fin 128)
    (hb : b.val = (4 * (i 0).val + n.val) % 128) : decayCols (F := Ideal) i X9 (ix2 j n) = X9 (ix3 0 j b) := by
  have hw := shift_word ⟨(i 0).val, hi⟩
  unfold decayCols k0_pay3
  refine (Pointwise.dynamicRotate_apply 1 _ none _ _ _).trans ?_
  pointwise
  refine congrArg X9 (congrArg₂ (ix3 0) (Fin.ext ?_) (Fin.ext ?_))
  · rfl
  · refine Eq.trans ?_ hb.symm
    clear hb
    have e : (shiftWord (i 0).val).toNat = (128 - 4 * (i 0).val) % 128 := hw
    have hn := n.isLt
    show (n.val + 128 - (shiftWord (i 0).val).toNat % 128) % 128 = _
    rw [e]
    omega

/-- So with the keys. -/
theorem keyCols_apply (i : grid0.Coords) (hi : (i 0).val < 32) (X9 : FVec Ideal S3x512x128 .f32) (j : Fin 512) (n : Fin 128) (b : Fin 128)
    (hb : b.val = (4 * (i 0).val + n.val) % 128) : keyCols (F := Ideal) i X9 (ix2 j n) = X9 (ix3 2 j b) := by
  have hw := shift_word ⟨(i 0).val, hi⟩
  unfold keyCols k0_pay5
  refine (Pointwise.dynamicRotate_apply 1 _ none _ _ _).trans ?_
  pointwise
  refine congrArg X9 (congrArg₂ (ix3 2) (Fin.ext ?_) (Fin.ext ?_))
  · rfl
  · refine Eq.trans ?_ hb.symm
    clear hb
    have e : (shiftWord (i 0).val).toNat = (128 - 4 * (i 0).val) % 128 := hw
    have hn := n.isLt
    show (n.val + 128 - (shiftWord (i 0).val).toNat % 128) % 128 = _
    rw [e]
    omega

end Cert.Kernel2Ideal.Hand

namespace Cert.Reference2Ideal.Hand

open Cert.Reference2Ideal Cert.Reference2Ideal.Gen Idealize.ShloMosaic Idealize.SL.Sem

/-- An entry of the reference's state. -/
theorem val_main_v78_at (x6 : S3x512x128.Idx → EReal) (x7 : S128x1024.Idx → EReal) (x9 : S1x128x4x128x256.Idx → EReal)
    (z : Fin 1) (b : Fin 128) (h : Fin 4) (k : Fin 128) (v : Fin 256) :
    Cert.Reference2Ideal.Read.val_main_v78 (F := Ideal) x6 x7 x9 (ix5 z b h k v)
      = x6 (ix3 0 ⟨h.val * 128 + k.val, by omega⟩ b) * x9 (ix5 0 b h k v)
        + x6 (ix3 2 ⟨h.val * 128 + k.val, by omega⟩ b) * x7 (ix2 b ⟨h.val * 256 + v.val, by omega⟩) := by
  pointwise [Cert.Reference2Ideal.Read.val_main_v78, Cert.Reference2Ideal.Read.val_main_v77, Cert.Reference2Ideal.Read.val_main_v76, Cert.Reference2Ideal.Read.val_main_v75, Cert.Reference2Ideal.Read.val_main_v74, Cert.Reference2Ideal.Read.val_main_v73, Cert.Reference2Ideal.Read.val_main_v72, Cert.Reference2Ideal.Read.val_main_v71, Cert.Reference2Ideal.Read.val_main_v70, Cert.Reference2Ideal.Read.val_main_v69, Cert.Reference2Ideal.Read.val_main_v68, Cert.Reference2Ideal.Read.val_main_v67, Cert.Reference2Ideal.Read.val_main_v66, Cert.Reference2Ideal.Read.val_main_v65, Cert.Reference2Ideal.Read.val_main_v64, Cert.Reference2Ideal.Read.val_main_v63, Cert.Reference2Ideal.Read.val_main_v58, Cert.Reference2Ideal.Read.val_main_v57, Cert.Reference2Ideal.Read.val_main_v56, Cert.Reference2Ideal.Read.val_main_v55]

end Cert.Reference2Ideal.Hand

namespace Cert.Kernel2Ideal.Hand

open Cert.Kernel2Ideal Cert.Kernel2Ideal.Gen Idealize.ShloMosaic Idealize.ShloMosaic.TcCoe Idealize.SL.Sem
open Idealize.ShloMosaic.Pipeline (Dat)
open Cert.Reference2Ideal.Hand

variable (m : (ℓ : Loc nD τ sig) → Buf (Elt Ideal) ℓ)

/-! Where the windows' blocks sit. -/

theorem at_8 : ∀ t : Fin cfg0.N, win0_8.index t = ![0, 0, 0] := (by decide +kernel : ∀ t : Fin grid0.N, _)
theorem at_9 : ∀ t : Fin cfg0.N, win0_9.index t = ![0, 0] := (by decide +kernel : ∀ t : Fin grid0.N, _)
theorem at_11 : ∀ t : Fin cfg0.N, win0_11.index t = ![0, min t.val 31, 0, 0, 0] := (by decide +kernel : ∀ t : Fin grid0.N, _)
theorem at_28 : ∀ t : Fin cfg0.N, win0_28.index t = ![0, min t.val 31, 0, 0, 0] := (by decide +kernel : ∀ t : Fin grid0.N, _)

/-- A point's one coordinate is its number. -/
theorem coords_val : ∀ t : Fin cfg0.N, ((grid0.coords t) 0).val = t.val := (by decide +kernel : ∀ t : Fin grid0.N, _)

theorem after_28 (c : Dev nD) (t : Fin cfg0.N) : (dats m 0 c).after 28 t = out28 m c (lastRow t) (cond2_lastRow t) := by dsimp only [dats]

/-- The columns and the values are read whole, -/
theorem blk_8 (c : Dev nD) (t : Fin cfg0.N) (a : Fin 3) (j : Fin 512) (n : Fin 128) :
    iblk m c 8 t (ix3 a j n) = m ((c : Thread nD τ).loc main_arg6) (ix3 a j n) := by
  refine (congrArg (V m c main_arg6) (?_ : (win0_8.rect t).emb (ix3 a j n) = ix3 a j n)).trans (congrFun (V_main_arg6 m c) _)
  funext x
  refine Fin.ext ((win0_8.rect_emb_val_off t (ix3 a j n) x).trans ?_)
  rw [at_8 t]
  match x with
  | ⟨0, _⟩ => exact (Nat.zero_add _)
  | ⟨1, _⟩ => exact (Nat.zero_add _)
  | ⟨2, _⟩ => exact (Nat.zero_add _)
theorem blk_9 (c : Dev nD) (t : Fin cfg0.N) (b : Fin 128) (n : Fin 1024) :
    iblk m c 9 t (ix2 b n) = m ((c : Thread nD τ).loc main_arg7) (ix2 b n) := by
  refine (congrArg (V m c main_arg7) (?_ : (win0_9.rect t).emb (ix2 b n) = ix2 b n)).trans (congrFun (V_main_arg7 m c) _)
  funext x
  refine Fin.ext ((win0_9.rect_emb_val_off t (ix2 b n) x).trans ?_)
  rw [at_9 t]
  match x with
  | ⟨0, _⟩ => exact (Nat.zero_add _)
  | ⟨1, _⟩ => exact (Nat.zero_add _)
/-- the state four rows at a time. -/
theorem blk_11 (c : Dev nD) (t : Fin cfg0.N) (ht : t.val < 32) (z : Fin 1) (n h : Fin 4) (k : Fin 128) (v : Fin 256) (b : Fin 128) (hb : b.val = t.val * 4 + n.val) :
    iblk m c 11 t (ix5 z n h k v) = m ((c : Thread nD τ).loc main_arg9) (ix5 0 b h k v) := by
  refine (congrArg (V m c main_arg9) (?_ : (win0_11.rect t).emb (ix5 z n h k v) = ix5 0 b h k v)).trans (congrFun (V_main_arg9 m c) _)
  funext x
  refine Fin.ext ((win0_11.rect_emb_val_off t (ix5 z n h k v) x).trans ?_)
  rw [at_11 t]
  match x with
  | ⟨0, _⟩ => show 0 * 1 + z.val = 0; omega
  | ⟨1, _⟩ => show min t.val 31 * 4 + n.val = b.val; rw [Nat.min_eq_left (by omega)]; exact hb.symm
  | ⟨2, _⟩ => show 0 * 4 + h.val = h.val; omega
  | ⟨3, _⟩ => show 0 * 128 + k.val = k.val; omega
  | ⟨4, _⟩ => show 0 * 256 + v.val = v.val; omega

/-- The block of the state a point stores is the reference's array at the block's place, -/
theorem point_28 (c : Dev nD) (t : Fin cfg0.N) (ht : t.val < 32) (h2 : k0_cond2 (grid0.coords t) = 1#1) (z : Fin 1) (n h : Fin 4) (k : Fin 128) (v : Fin 256)
    (b : Fin 128) (hb : b.val = t.val * 4 + n.val) :
    out28 (F := Ideal) m c t h2 (ix5 z n h k v)
    = Cert.Reference2Ideal.Read.val_main_v78 (F := Ideal) (m ((c : Thread nD τ).loc main_arg6)) (m ((c : Thread nD τ).loc main_arg7)) (m ((c : Thread nD τ).loc main_arg9)) (ix5 0 b h k v) := by
  have hc := coords_val t
  rw [val_main_v78_at]
  show decayCols (F := Ideal) (grid0.coords t) (iblk m c 8 t) (ix2 _ _) * iblk m c 11 t (ix5 z n h k v)
    + keyCols (F := Ideal) (grid0.coords t) (iblk m c 8 t) (ix2 _ _) * iblk m c 9 t (ix2 _ _) = _
  refine congrArg₂ (· + ·) (congrArg₂ (· * ·) ?_ (blk_11 m c t ht z n h k v b hb)) (congrArg₂ (· * ·) ?_ ?_)
  · refine (decayCols_apply (grid0.coords t) (by omega) _ _ _ b ?_).trans ((blk_8 m c t 0 _ b).trans ?_)
    · show b.val = (4 * ((grid0.coords t) 0).val + n.val) % 128
      omega
    · exact congrArg (fun j => m ((c : Thread nD τ).loc main_arg6) (ix3 0 j b)) (Fin.ext (by show 128 * h.val + k.val = h.val * 128 + k.val; omega))
  · refine (keyCols_apply (grid0.coords t) (by omega) _ _ _ b ?_).trans ((blk_8 m c t 2 _ b).trans ?_)
    · show b.val = (4 * ((grid0.coords t) 0).val + n.val) % 128
      omega
    · exact congrArg (fun j => m ((c : Thread nD τ).loc main_arg6) (ix3 2 j b)) (Fin.ext (by show 128 * h.val + k.val = h.val * 128 + k.val; omega))
  · refine (blk_9 m c t _ _).trans (congrArg (m ((c : Thread nD τ).loc main_arg7)) (congrArg₂ ix2 (Fin.ext ?_) (Fin.ext ?_)))
    · show (4 * ((grid0.coords t) 0).val + n.val) % 128 = b.val
      omega
    · show 256 * h.val + v.val = h.val * 256 + v.val
      omega

/-- and the blocks cover the array. -/
theorem final_28 (c : Dev nD) : (dats m 0 c).arrAt 28 cfg0.N
    = Cert.Reference2Ideal.Read.val_main_v78 (F := Ideal) (m ((c : Thread nD τ).loc main_arg6)) (m ((c : Thread nD τ).loc main_arg7)) (m ((c : Thread nD τ).loc main_arg9)) := by
  refine (dats m 0 c).arrAt_eq_of_covers 28 _ (by decide +kernel) fun t hf y => ?_
  rw [after_28]
  have hy : y = (ix5 (y 0) (y 1) (y 2) (y 3) (y 4) : S1x4x4x128x256.Idx) := by
    funext a; match a with | ⟨0, _⟩ => rfl | ⟨1, _⟩ => rfl | ⟨2, _⟩ => rfl | ⟨3, _⟩ => rfl | ⟨4, _⟩ => rfl
  have hl : (lastRow t).val < 32 := by show min t.val 31 < 32; omega
  have h0 : (y 0).val < 1 := (y 0).isLt
  have h1 : (y 1).val < 4 := (y 1).isLt
  have he : (win0_28.rect t).emb y = (ix5 0 ⟨(lastRow t).val * 4 + (y 1).val, by omega⟩ (y 2) (y 3) (y 4) : S1x128x4x128x256.Idx) := by
    funext a
    refine Fin.ext ((win0_28.rect_emb_val_off t y a).trans ?_)
    rw [at_28 t]
    match a with
    | ⟨0, _⟩ => show 0 * 1 + (y 0).val = 0; omega
    | ⟨1, _⟩ => exact rfl
    | ⟨2, _⟩ => exact (congrArg (· + (y 2).val) (Nat.zero_mul 4)).trans (Nat.zero_add _)
    | ⟨3, _⟩ => exact (congrArg (· + (y 3).val) (Nat.zero_mul 128)).trans (Nat.zero_add _)
    | ⟨4, _⟩ => exact (congrArg (· + (y 4).val) (Nat.zero_mul 256)).trans (Nat.zero_add _)
  rw [hy]
  refine (point_28 m c (lastRow t) hl (cond2_lastRow t) (y 0) (y 1) (y 2) (y 3) (y 4) ⟨(lastRow t).val * 4 + (y 1).val, by omega⟩ rfl).trans ?_
  exact congrArg (Cert.Reference2Ideal.Read.val_main_v78 (F := Ideal) (m ((c : Thread nD τ).loc main_arg6)) (m ((c : Thread nD τ).loc main_arg7)) (m ((c : Thread nD τ).loc main_arg9))) (he.symm.trans (by rw [← hy]; rfl))

end Cert.Kernel2Ideal.Hand

end
-- ==== Proof.TailRun.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Tactic
public import proofs.«01_k».proof.Proof.TailDats

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- Window `w`'s staging buffer at point `t` holding what the point leaves there. -/
abbrev held (c : Dev nD) (w : Fin cfg0.W) (t : Fin cfg0.N) : sProp 𝕄 :=
  owns (c : Thread nD τ) ((cfg0.win w).stage (cfg0.slots t w)) fullShare ((dats m 0 c).after w t)
/-- Window `w`'s staging buffer at point `t` as the point finds it. -/
abbrev found (c : Dev nD) (w : Fin cfg0.W) (t : Fin cfg0.N) : sProp 𝕄 :=
  iprop(∃ d, owns (c : Thread nD τ) ((cfg0.win w).stage (cfg0.slots t w)) fullShare ((dats m 0 c).before w t d))
/-- Window `w`'s staging buffer at point `t` at any contents. -/
abbrev free (c : Dev nD) (w : Fin cfg0.W) (t : Fin cfg0.N) : sProp 𝕄 :=
  iprop(∃ X, owns (c : Thread nD τ) ((cfg0.win w).stage (cfg0.slots t w)) fullShare X)

theorem held_of_found (c : Dev nD) (w : Fin cfg0.W) (t : Fin cfg0.N) (h : ∀ d, (dats m 0 c).before w t d = (dats m 0 c).after w t) :
    found m c w t ⊢ (held m c w t : sProp 𝕄) := by
  unfold found held
  iintro ⟨%d, H⟩
  rw [h d]
  iexact H

/-- What is left in a window is what its obligation asks, at a point that stores into it or writes it back. -/
theorem leaves_of_held (c : Dev nD) (w : Fin cfg0.W) (t : Fin cfg0.N)
    (h : cfg0.idle w (cfg0.grid.coords t) = false ∨ (cfg0.win w).flush t = true) :
    held m c w t ⊢ ((dats m 0 c).leaves w t : sProp 𝕄) := by
  refine BIBase.Entails.trans ?_ ((dats m 0 c).leaves_intro w t)
  unfold Dat.leavesExact
  rcases h with h | h
  · rw [h]
  · cases cfg0.idle w (cfg0.grid.coords t) <;> simp only [h] <;> exact .rfl

theorem live_or_flush : ∀ (w : Fin 29) (t : Fin cfg0.N), w.val ≠ 27 →
    cfg0.idle w (cfg0.grid.coords t) = false ∨ (cfg0.win w).flush t = true := by decide +kernel

/-- The input windows at point `t`. -/
abbrev ins (c : Dev nD) (t : Fin cfg0.N) : sProp 𝕄 := iprop(held m c 0 t ∗ held m c 1 t ∗ held m c 2 t ∗ held m c 3 t ∗ held m c 4 t ∗ held m c 5 t ∗ held m c 6 t ∗ held m c 7 t ∗ held m c 8 t ∗ held m c 9 t ∗ held m c 10 t ∗ held m c 11 t ∗ held m c 12 t ∗ held m c 13 t ∗ held m c 14 t ∗ held m c 15 t ∗ held m c 16 t ∗ held m c 17 t ∗ held m c 18 t ∗ held m c 19 t ∗ held m c 20 t ∗ held m c 21 t ∗ held m c 22 t ∗ held m c 23 t ∗ held m c 24 t ∗ held m c 25 t)
theorem held_0 (c : Dev nD) (t : Fin cfg0.N) : held m c 0 t = owns (c : Thread nD τ) (st0_0 t) fullShare (iblk m c 0 t) := rfl
theorem held_1 (c : Dev nD) (t : Fin cfg0.N) : held m c 1 t = owns (c : Thread nD τ) (st0_1 t) fullShare (iblk m c 1 t) := rfl
theorem held_2 (c : Dev nD) (t : Fin cfg0.N) : held m c 2 t = owns (c : Thread nD τ) (st0_2 t) fullShare (iblk m c 2 t) := rfl
theorem held_3 (c : Dev nD) (t : Fin cfg0.N) : held m c 3 t = owns (c : Thread nD τ) (st0_3 t) fullShare (iblk m c 3 t) := rfl
theorem held_4 (c : Dev nD) (t : Fin cfg0.N) : held m c 4 t = owns (c : Thread nD τ) (st0_4 t) fullShare (iblk m c 4 t) := rfl
theorem held_5 (c : Dev nD) (t : Fin cfg0.N) : held m c 5 t = owns (c : Thread nD τ) (st0_5 t) fullShare (iblk m c 5 t) := rfl
theorem held_6 (c : Dev nD) (t : Fin cfg0.N) : held m c 6 t = owns (c : Thread nD τ) (st0_6 t) fullShare (iblk m c 6 t) := rfl
theorem held_7 (c : Dev nD) (t : Fin cfg0.N) : held m c 7 t = owns (c : Thread nD τ) (st0_7 t) fullShare (iblk m c 7 t) := rfl
theorem held_8 (c : Dev nD) (t : Fin cfg0.N) : held m c 8 t = owns (c : Thread nD τ) (st0_8 t) fullShare (iblk m c 8 t) := rfl
theorem held_9 (c : Dev nD) (t : Fin cfg0.N) : held m c 9 t = owns (c : Thread nD τ) (st0_9 t) fullShare (iblk m c 9 t) := rfl
theorem held_10 (c : Dev nD) (t : Fin cfg0.N) : held m c 10 t = owns (c : Thread nD τ) (st0_10 t) fullShare (iblk m c 10 t) := rfl
theorem held_11 (c : Dev nD) (t : Fin cfg0.N) : held m c 11 t = owns (c : Thread nD τ) (st0_11 t) fullShare (iblk m c 11 t) := rfl
theorem held_12 (c : Dev nD) (t : Fin cfg0.N) : held m c 12 t = owns (c : Thread nD τ) (st0_12 t) fullShare (iblk m c 12 t) := rfl
theorem held_13 (c : Dev nD) (t : Fin cfg0.N) : held m c 13 t = owns (c : Thread nD τ) (st0_13 t) fullShare (iblk m c 13 t) := rfl
theorem held_14 (c : Dev nD) (t : Fin cfg0.N) : held m c 14 t = owns (c : Thread nD τ) (st0_14 t) fullShare (X0_14 m c t) := rfl
theorem held_15 (c : Dev nD) (t : Fin cfg0.N) : held m c 15 t = owns (c : Thread nD τ) (st0_15 t) fullShare (X0_15 m c t) := rfl
theorem held_16 (c : Dev nD) (t : Fin cfg0.N) : held m c 16 t = owns (c : Thread nD τ) (st0_16 t) fullShare (X0_16 m c t) := rfl
theorem held_17 (c : Dev nD) (t : Fin cfg0.N) : held m c 17 t = owns (c : Thread nD τ) (st0_17 t) fullShare (X0_17 m c t) := rfl
theorem held_18 (c : Dev nD) (t : Fin cfg0.N) : held m c 18 t = owns (c : Thread nD τ) (st0_18 t) fullShare (iblk m c 18 t) := rfl
theorem held_19 (c : Dev nD) (t : Fin cfg0.N) : held m c 19 t = owns (c : Thread nD τ) (st0_19 t) fullShare (iblk m c 19 t) := rfl
theorem held_20 (c : Dev nD) (t : Fin cfg0.N) : held m c 20 t = owns (c : Thread nD τ) (st0_20 t) fullShare (iblk m c 20 t) := rfl
theorem held_21 (c : Dev nD) (t : Fin cfg0.N) : held m c 21 t = owns (c : Thread nD τ) (st0_21 t) fullShare (iblk m c 21 t) := rfl
theorem held_22 (c : Dev nD) (t : Fin cfg0.N) : held m c 22 t = owns (c : Thread nD τ) (st0_22 t) fullShare (iblk m c 22 t) := rfl
theorem held_23 (c : Dev nD) (t : Fin cfg0.N) : held m c 23 t = owns (c : Thread nD τ) (st0_23 t) fullShare (iblk m c 23 t) := rfl
theorem held_24 (c : Dev nD) (t : Fin cfg0.N) : held m c 24 t = owns (c : Thread nD τ) (st0_24 t) fullShare (iblk m c 24 t) := rfl
theorem held_25 (c : Dev nD) (t : Fin cfg0.N) : held m c 25 t = owns (c : Thread nD τ) (st0_25 t) fullShare (iblk m c 25 t) := rfl
theorem held_26 (c : Dev nD) (t : Fin cfg0.N) (h : t.val < 32) (h2) : held m c 26 t = owns (c : Thread nD τ) (st0_26 t) fullShare (out26 m c t h2) :=
  congrArg (owns (c : Thread nD τ) (st0_26 t) fullShare) (out26_congr m c _ _ (lastRow_of_lt t h) (cond2_lastRow t) h2)
theorem held_28 (c : Dev nD) (t : Fin cfg0.N) (h : t.val < 32) (h2) : held m c 28 t = owns (c : Thread nD τ) (st0_28 t) fullShare (out28 m c t h2) :=
  congrArg (owns (c : Thread nD τ) (st0_28 t) fullShare) (out28_congr m c _ _ (lastRow_of_lt t h) (cond2_lastRow t) h2)

/-- The output windows, as the point finds them, -/
abbrev outsFound (c : Dev nD) (t : Fin cfg0.N) : sProp 𝕄 := iprop(found m c 26 t ∗ free c 27 t ∗ found m c 28 t)
/-- and as it leaves them. -/
abbrev outs (c : Dev nD) (t : Fin cfg0.N) : sProp 𝕄 := iprop(held m c 26 t ∗ free c 27 t ∗ held m c 28 t)

/-- What a point does after the first point's statement. -/
abbrev midAt (t : Fin cfg0.N) : Prog (TpuEff nD τ sig (Elt F) Λ₀ .tc) PUnit := midBody (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (Memref.whole main_v30_3) (Memref.isWhole_whole _) (Memref.whole main_v30_4) (Memref.isWhole_whole _) (Memref.whole cc0_scratch0) (Memref.isWhole_whole _) (Memref.whole cc0_scratch1) (Memref.isWhole_whole _) (Memref.whole cc0_scratch2) (Memref.isWhole_whole _) cc0_scratch3
/-- The first point's statement, before what it does else. -/
abbrev startAt (t : Fin cfg0.N) : Prog (TpuEff nD τ sig (Elt F) Λ₀ .tc) PUnit := startThen (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (Memref.whole main_v30_3) (Memref.isWhole_whole _) (Memref.whole main_v30_4) (Memref.isWhole_whole _) (Memref.whole cc0_scratch0) (Memref.isWhole_whole _) (Memref.whole cc0_scratch1) (Memref.isWhole_whole _) (Memref.whole cc0_scratch2) (Memref.isWhole_whole _) cc0_scratch3 (midAt t)

theorem bodyAt0_first (t : Fin cfg0.N) (h : t.val = 0) : (bodyAt0 t : Prog (TpuEff nD τ sig (Elt F) Λ₀ .tc) PUnit) = startAt t :=
  (body_split ..).trans (dif_pos (first_of_zero t h))
theorem bodyAt0_later (t : Fin cfg0.N) (h : ¬ t.val = 0) : (bodyAt0 t : Prog (TpuEff nD τ sig (Elt F) Λ₀ .tc) PUnit) = midAt t :=
  (body_split ..).trans (dif_neg (not_first t h))

set_option maxHeartbeats 4000000 in
/-- A point before the last leaves the prompt rows' window at its block and the inputs as found. -/
theorem mid_rows (c : Dev nD) (t : Fin cfg0.N) (ht : t.val < 32) (K : PUnit → sProp 𝕄) :
    iprop(ins m c t ∗ outsFound m c t ∗ ((ins m c t ∗ outs m c t) -∗ K ⟨⟩))
    ⊢ wp frame (wpE (defs₀ (F := F)) Variants.none c none) Set.univ (midAt t) K := by
  unfold ins outs outsFound
  simp only [held_0 m c t, held_1 m c t, held_2 m c t, held_3 m c t, held_4 m c t, held_5 m c t, held_6 m c t, held_7 m c t, held_8 m c t, held_9 m c t, held_10 m c t, held_11 m c t, held_12 m c t, held_13 m c t, held_14 m c t, held_15 m c t, held_16 m c t, held_17 m c t, held_18 m c t, held_19 m c t, held_20 m c t, held_21 m c t, held_22 m c t, held_23 m c t, held_24 m c t, held_25 m c t, held_26 m c t ht (cond2_of_lt t ht), held_28 m c t ht (cond2_of_lt t ht)]
  unfold found free
  iintro ⟨⟨H0, H1, H2, H3, H4, H5, H6, H7, H8, H9, H10, H11, H12, H13, H14, H15, H16, H17, H18, H19, H20, H21, H22, H23, H24, H25⟩, ⟨⟨%d26, H26⟩, ⟨%d27, H27⟩, ⟨%d28, H28⟩⟩, Hk⟩
  iapply (rows c (grid0.coords t) (cond2_of_lt t ht) (not_last t ht) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ K)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H11]
  · iexact H11
  isplitl [H26]
  · iexact H26
  isplitl [H27]
  · iexact H27
  isplitl [H28]
  · iexact H28
  iintro ⟨H0, H1, H2, H3, H4, H5, H6, H7, H8, H9, H11, H26, H27, H28⟩
  iapply Hk
  isplitl [H0 H1 H2 H3 H4 H5 H6 H7 H8 H9 H10 H11 H12 H13 H14 H15 H16 H17 H18 H19 H20 H21 H22 H23 H24 H25]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    isplitl [H24]
    · iexact H24
    iexact H25
  isplitl [H26]
  · iexact H26
  isplitl [H27]
  · iexact H27
  iexact H28

set_option maxHeartbeats 4000000 in
/-- The first point's statement takes its input as found and an accumulator at any contents. -/
theorem mid_start (c : Dev nD) (t : Fin cfg0.N) (K : PUnit → sProp 𝕄) :
    iprop(held m c 10 t ∗ free c 27 t ∗ ((held m c 10 t ∗ free c 27 t) -∗ wp frame (wpE (defs₀ (F := F)) Variants.none c none) Set.univ (midAt t) K))
    ⊢ wp frame (wpE (defs₀ (F := F)) Variants.none c none) Set.univ (startAt t) K := by
  rw [held_10]
  unfold free
  iintro ⟨H10, ⟨%d27, H27⟩, Hk⟩
  iapply (start c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (midAt t) K)
  isplitl [H10]
  · iexact H10
  isplitl [H27]
  · iexact H27
  iexact Hk

set_option maxHeartbeats 4000000 in
/-- The last point leaves the inputs as found, and the body's own buffers at any contents. -/
theorem mid_sample (c : Dev nD) (t : Fin cfg0.N) (ht : ¬ t.val < 32) (s0 : Bf F c cc0_scratch0) (s1 : Bf F c cc0_scratch1) (s2 : Bf F c cc0_scratch2) (s3 : Bf F c main_v30_3) (s4 : Bf F c main_v30_4) (W : Waits sig Unit) (K : PUnit → sProp 𝕄) :
    iprop(ins m c t ∗ free c 27 t ∗ ((Memref.whole cc0_scratch0).view.loc (c : Thread nD τ) ↦{fullShare} s0) ∗ ((Memref.whole cc0_scratch1).view.loc (c : Thread nD τ) ↦{fullShare} s1) ∗ ((Memref.whole cc0_scratch2).view.loc (c : Thread nD τ) ↦{fullShare} s2) ∗ ((Memref.whole main_v30_3).view.loc (c : Thread nD τ) ↦{fullShare} s3) ∗ ((Memref.whole main_v30_4).view.loc (c : Thread nD τ) ↦{fullShare} s4)
      ∗ semVal ((c : Thread nD τ), SemLoc.dma 33) 0 ∗ semVal ((c : Thread nD τ), SemLoc.dma 34) 0 ∗ owes (c : Thread nD τ) 0 W
      ∗ ((ins m c t ∗ free c 27 t ∗ (∃ f : Bf F c cc0_scratch0, ((Memref.whole cc0_scratch0).view.loc (c : Thread nD τ) ↦{fullShare} f)) ∗ (∃ f : Bf F c cc0_scratch1, ((Memref.whole cc0_scratch1).view.loc (c : Thread nD τ) ↦{fullShare} f)) ∗ (∃ f : Bf F c cc0_scratch2, ((Memref.whole cc0_scratch2).view.loc (c : Thread nD τ) ↦{fullShare} f)) ∗ (∃ f : Bf F c main_v30_3, ((Memref.whole main_v30_3).view.loc (c : Thread nD τ) ↦{fullShare} f)) ∗ (∃ f : Bf F c main_v30_4, ((Memref.whole main_v30_4).view.loc (c : Thread nD τ) ↦{fullShare} f))
      ∗ semVal ((c : Thread nD τ), SemLoc.dma 33) 0 ∗ semVal ((c : Thread nD τ), SemLoc.dma 34) 0 ∗ ∃ W', owes (c : Thread nD τ) 0 W') -∗ K ⟨⟩))
    ⊢ wp frame (wpE (defs₀ (F := F)) Variants.none c none) Set.univ (midAt t) K := by
  unfold ins free
  simp only [held_0 m c t, held_1 m c t, held_2 m c t, held_3 m c t, held_4 m c t, held_5 m c t, held_6 m c t, held_7 m c t, held_8 m c t, held_9 m c t, held_10 m c t, held_11 m c t, held_12 m c t, held_13 m c t, held_14 m c t, held_15 m c t, held_16 m c t, held_17 m c t, held_18 m c t, held_19 m c t, held_20 m c t, held_21 m c t, held_22 m c t, held_23 m c t, held_24 m c t, held_25 m c t]
  iintro ⟨⟨H0, H1, H2, H3, H4, H5, H6, H7, H8, H9, H10, H11, H12, H13, H14, H15, H16, H17, H18, H19, H20, H21, H22, H23, H24, H25⟩, ⟨%d27, H27⟩, S0, S1, S2, S3, S4, C0, C1, HW, Hk⟩
  iapply (sample c (grid0.coords t) (not_cond2 t ht) (last_of_not_lt t ht) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ s0 s1 s2 s3 s4 W K)
  isplitl [H4]
  · iexact H4
  isplitl [H5]
  · iexact H5
  isplitl [H6]
  · iexact H6
  isplitl [H7]
  · iexact H7
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  isplitl [H24]
  · iexact H24
  isplitl [H25]
  · iexact H25
  isplitl [H27]
  · iexact H27
  isplitl [S0]
  · iexact S0
  isplitl [S1]
  · iexact S1
  isplitl [S2]
  · iexact S2
  isplitl [S3]
  · iexact S3
  isplitl [S4]
  · iexact S4
  isplitl [C0]
  · iexact C0
  isplitl [C1]
  · iexact C1
  isplitl [HW]
  · iexact HW
  iintro ⟨H4, H5, H6, H7, H12, H13, H14, H15, H16, H17, H18, H19, H20, H21, H22, H23, H24, H25, H27, S0, S1, S2, S3, S4, C0, C1, HW⟩
  iapply Hk
  isplitl [H0 H1 H2 H3 H4 H5 H6 H7 H8 H9 H10 H11 H12 H13 H14 H15 H16 H17 H18 H19 H20 H21 H22 H23 H24 H25]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    isplitl [H24]
    · iexact H24
    iexact H25
  isplitl [H27]
  · iexists _; iexact H27
  isplitl [S0]
  · iexact S0
  isplitl [S1]
  · iexact S1
  isplitl [S2]
  · iexact S2
  isplitl [S3]
  · iexact S3
  isplitl [S4]
  · iexact S4
  isplitl [C0]
  · iexact C0
  isplitl [C1]
  · iexact C1
  iexact HW

/-! ## The windows in and out of the body -/

set_option maxHeartbeats 4000000 in
/-- The input windows are found at their blocks. -/
theorem enter (c : Dev nD) (t : Fin cfg0.N) :
    iprop(found m c 0 t ∗ found m c 1 t ∗ found m c 2 t ∗ found m c 3 t ∗ found m c 4 t ∗ found m c 5 t ∗ found m c 6 t ∗ found m c 7 t ∗ found m c 8 t ∗ found m c 9 t ∗ found m c 10 t ∗ found m c 11 t ∗ found m c 12 t ∗ found m c 13 t ∗ found m c 14 t ∗ found m c 15 t ∗ found m c 16 t ∗ found m c 17 t ∗ found m c 18 t ∗ found m c 19 t ∗ found m c 20 t ∗ found m c 21 t ∗ found m c 22 t ∗ found m c 23 t ∗ found m c 24 t ∗ found m c 25 t ∗ found m c 26 t ∗ free c 27 t ∗ found m c 28 t) ⊢ (iprop(ins m c t ∗ outsFound m c t) : sProp 𝕄) := by
  unfold ins outsFound
  iintro ⟨H0, H1, H2, H3, H4, H5, H6, H7, H8, H9, H10, H11, H12, H13, H14, H15, H16, H17, H18, H19, H20, H21, H22, H23, H24, H25, H26, H27, H28⟩
  isplitl [H0 H1 H2 H3 H4 H5 H6 H7 H8 H9 H10 H11 H12 H13 H14 H15 H16 H17 H18 H19 H20 H21 H22 H23 H24 H25]
  · isplitl [H0]
    · iapply (held_of_found m c 0 t fun d => before_0 m c t d); iexact H0
    isplitl [H1]
    · iapply (held_of_found m c 1 t fun d => before_1 m c t d); iexact H1
    isplitl [H2]
    · iapply (held_of_found m c 2 t fun d => before_2 m c t d); iexact H2
    isplitl [H3]
    · iapply (held_of_found m c 3 t fun d => before_3 m c t d); iexact H3
    isplitl [H4]
    · iapply (held_of_found m c 4 t fun d => before_4 m c t d); iexact H4
    isplitl [H5]
    · iapply (held_of_found m c 5 t fun d => before_5 m c t d); iexact H5
    isplitl [H6]
    · iapply (held_of_found m c 6 t fun d => before_6 m c t d); iexact H6
    isplitl [H7]
    · iapply (held_of_found m c 7 t fun d => before_7 m c t d); iexact H7
    isplitl [H8]
    · iapply (held_of_found m c 8 t fun d => before_8 m c t d); iexact H8
    isplitl [H9]
    · iapply (held_of_found m c 9 t fun d => before_9 m c t d); iexact H9
    isplitl [H10]
    · iapply (held_of_found m c 10 t fun d => before_10 m c t d); iexact H10
    isplitl [H11]
    · iapply (held_of_found m c 11 t fun d => before_11 m c t d); iexact H11
    isplitl [H12]
    · iapply (held_of_found m c 12 t fun d => before_12 m c t d); iexact H12
    isplitl [H13]
    · iapply (held_of_found m c 13 t fun d => before_13 m c t d); iexact H13
    isplitl [H14]
    · iapply (held_of_found m c 14 t fun d => before_14 m c t d); iexact H14
    isplitl [H15]
    · iapply (held_of_found m c 15 t fun d => before_15 m c t d); iexact H15
    isplitl [H16]
    · iapply (held_of_found m c 16 t fun d => before_16 m c t d); iexact H16
    isplitl [H17]
    · iapply (held_of_found m c 17 t fun d => before_17 m c t d); iexact H17
    isplitl [H18]
    · iapply (held_of_found m c 18 t fun d => before_18 m c t d); iexact H18
    isplitl [H19]
    · iapply (held_of_found m c 19 t fun d => before_19 m c t d); iexact H19
    isplitl [H20]
    · iapply (held_of_found m c 20 t fun d => before_20 m c t d); iexact H20
    isplitl [H21]
    · iapply (held_of_found m c 21 t fun d => before_21 m c t d); iexact H21
    isplitl [H22]
    · iapply (held_of_found m c 22 t fun d => before_22 m c t d); iexact H22
    isplitl [H23]
    · iapply (held_of_found m c 23 t fun d => before_23 m c t d); iexact H23
    isplitl [H24]
    · iapply (held_of_found m c 24 t fun d => before_24 m c t d); iexact H24
    iapply (held_of_found m c 25 t fun d => before_25 m c t d); iexact H25
  isplitl [H26]
  · iexact H26
  isplitl [H27]
  · iexact H27
  iexact H28

/-- At the last point the output windows are found as they are to be left. -/
theorem outs_last (c : Dev nD) (t : Fin cfg0.N) (ht : ¬ t.val < 32) : outsFound m c t ⊢ (outs m c t : sProp 𝕄) := by
  unfold outsFound outs
  iintro ⟨H26, H27, H28⟩
  isplitl [H26]
  · iapply (held_of_found m c 26 t fun d => before_last_26 m c t ht d); iexact H26
  isplitl [H27]
  · iexact H27
  iapply (held_of_found m c 28 t fun d => before_last_28 m c t ht d); iexact H28

set_option maxHeartbeats 4000000 in
/-- What a point leaves is what is asked of it. -/
theorem leave (c : Dev nD) (t : Fin cfg0.N) :
    iprop(ins m c t ∗ outs m c t) ⊢ (iprop((dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t ∗ (dats m 0 c).leaves 7 t ∗ (dats m 0 c).leaves 8 t ∗ (dats m 0 c).leaves 9 t ∗ (dats m 0 c).leaves 10 t ∗ (dats m 0 c).leaves 11 t ∗ (dats m 0 c).leaves 12 t ∗ (dats m 0 c).leaves 13 t ∗ (dats m 0 c).leaves 14 t ∗ (dats m 0 c).leaves 15 t ∗ (dats m 0 c).leaves 16 t ∗ (dats m 0 c).leaves 17 t ∗ (dats m 0 c).leaves 18 t ∗ (dats m 0 c).leaves 19 t ∗ (dats m 0 c).leaves 20 t ∗ (dats m 0 c).leaves 21 t ∗ (dats m 0 c).leaves 22 t ∗ (dats m 0 c).leaves 23 t ∗ (dats m 0 c).leaves 24 t ∗ (dats m 0 c).leaves 25 t ∗ (dats m 0 c).leaves 26 t ∗ free c 27 t ∗ (dats m 0 c).leaves 28 t) : sProp 𝕄) := by
  unfold ins outs
  iintro ⟨⟨H0, H1, H2, H3, H4, H5, H6, H7, H8, H9, H10, H11, H12, H13, H14, H15, H16, H17, H18, H19, H20, H21, H22, H23, H24, H25⟩, ⟨H26, H27, H28⟩⟩
  isplitl [H0]
  · iapply (leaves_of_held m c 0 t (live_or_flush 0 t (by decide))); iexact H0
  isplitl [H1]
  · iapply (leaves_of_held m c 1 t (live_or_flush 1 t (by decide))); iexact H1
  isplitl [H2]
  · iapply (leaves_of_held m c 2 t (live_or_flush 2 t (by decide))); iexact H2
  isplitl [H3]
  · iapply (leaves_of_held m c 3 t (live_or_flush 3 t (by decide))); iexact H3
  isplitl [H4]
  · iapply (leaves_of_held m c 4 t (live_or_flush 4 t (by decide))); iexact H4
  isplitl [H5]
  · iapply (leaves_of_held m c 5 t (live_or_flush 5 t (by decide))); iexact H5
  isplitl [H6]
  · iapply (leaves_of_held m c 6 t (live_or_flush 6 t (by decide))); iexact H6
  isplitl [H7]
  · iapply (leaves_of_held m c 7 t (live_or_flush 7 t (by decide))); iexact H7
  isplitl [H8]
  · iapply (leaves_of_held m c 8 t (live_or_flush 8 t (by decide))); iexact H8
  isplitl [H9]
  · iapply (leaves_of_held m c 9 t (live_or_flush 9 t (by decide))); iexact H9
  isplitl [H10]
  · iapply (leaves_of_held m c 10 t (live_or_flush 10 t (by decide))); iexact H10
  isplitl [H11]
  · iapply (leaves_of_held m c 11 t (live_or_flush 11 t (by decide))); iexact H11
  isplitl [H12]
  · iapply (leaves_of_held m c 12 t (live_or_flush 12 t (by decide))); iexact H12
  isplitl [H13]
  · iapply (leaves_of_held m c 13 t (live_or_flush 13 t (by decide))); iexact H13
  isplitl [H14]
  · iapply (leaves_of_held m c 14 t (live_or_flush 14 t (by decide))); iexact H14
  isplitl [H15]
  · iapply (leaves_of_held m c 15 t (live_or_flush 15 t (by decide))); iexact H15
  isplitl [H16]
  · iapply (leaves_of_held m c 16 t (live_or_flush 16 t (by decide))); iexact H16
  isplitl [H17]
  · iapply (leaves_of_held m c 17 t (live_or_flush 17 t (by decide))); iexact H17
  isplitl [H18]
  · iapply (leaves_of_held m c 18 t (live_or_flush 18 t (by decide))); iexact H18
  isplitl [H19]
  · iapply (leaves_of_held m c 19 t (live_or_flush 19 t (by decide))); iexact H19
  isplitl [H20]
  · iapply (leaves_of_held m c 20 t (live_or_flush 20 t (by decide))); iexact H20
  isplitl [H21]
  · iapply (leaves_of_held m c 21 t (live_or_flush 21 t (by decide))); iexact H21
  isplitl [H22]
  · iapply (leaves_of_held m c 22 t (live_or_flush 22 t (by decide))); iexact H22
  isplitl [H23]
  · iapply (leaves_of_held m c 23 t (live_or_flush 23 t (by decide))); iexact H23
  isplitl [H24]
  · iapply (leaves_of_held m c 24 t (live_or_flush 24 t (by decide))); iexact H24
  isplitl [H25]
  · iapply (leaves_of_held m c 25 t (live_or_flush 25 t (by decide))); iexact H25
  isplitl [H26]
  · iapply (leaves_of_held m c 26 t (live_or_flush 26 t (by decide))); iexact H26
  isplitl [H27]
  · iexact H27
  iapply (leaves_of_held m c 28 t (live_or_flush 28 t (by decide))); iexact H28

/-- Nothing is owed at any point, so what waits are outstanding does not matter. -/
theorem owes_open (c : Dev nD) (t : Fin (cfg0.N + 1)) :
    (dats m 0 c).owesAt () t ⊢ (iprop(∃ W, owes (c : Thread nD τ) 0 W) : sProp 𝕄) := by
  unfold Dat.owesAt Pipeline.owesWithin
  rw [show (dats m 0 c).owed t = 0 from rfl]
  iintro ⟨%W, -, HW⟩
  iexists W
  iexact HW
theorem owes_close (c : Dev nD) (t : Fin (cfg0.N + 1)) (W : Waits sig Unit) :
    owes (c : Thread nD τ) 0 W ⊢ ((dats m 0 c).owesAt () t : sProp 𝕄) := by
  unfold Dat.owesAt Pipeline.owesWithin
  rw [show (dats m 0 c).owed t = 0 from rfl]
  iintro HW
  iexists W
  isplitr
  · ipureintro
    exact fun _ _ => Or.inl trivial
  iexact HW

theorem inv_at (c : Dev nD) (t : Fin (cfg0.N + 1)) : (dats m 0 c).Φ t = atRest m c := by dsimp only [dats]

/-- What the body is given at point `t`, -/
abbrev pre (c : Dev nD) (t : Fin cfg0.N) : sProp 𝕄 :=
  iprop((dats m 0 c).Φ t.castSucc ∗ (dats m 0 c).owesAt () t.castSucc ∗ found m c 0 t ∗ found m c 1 t ∗ found m c 2 t ∗ found m c 3 t ∗ found m c 4 t ∗ found m c 5 t ∗ found m c 6 t ∗ found m c 7 t ∗ found m c 8 t ∗ found m c 9 t ∗ found m c 10 t ∗ found m c 11 t ∗ found m c 12 t ∗ found m c 13 t ∗ found m c 14 t ∗ found m c 15 t ∗ found m c 16 t ∗ found m c 17 t ∗ found m c 18 t ∗ found m c 19 t ∗ found m c 20 t ∗ found m c 21 t ∗ found m c 22 t ∗ found m c 23 t ∗ found m c 24 t ∗ found m c 25 t ∗ found m c 26 t ∗ free c 27 t ∗ found m c 28 t)
/-- and what it is to give back. -/
abbrev post (c : Dev nD) (t : Fin cfg0.N) : sProp 𝕄 :=
  iprop((dats m 0 c).Φ t.succ ∗ (dats m 0 c).owesAt () t.succ ∗ (dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t ∗ (dats m 0 c).leaves 7 t ∗ (dats m 0 c).leaves 8 t ∗ (dats m 0 c).leaves 9 t ∗ (dats m 0 c).leaves 10 t ∗ (dats m 0 c).leaves 11 t ∗ (dats m 0 c).leaves 12 t ∗ (dats m 0 c).leaves 13 t ∗ (dats m 0 c).leaves 14 t ∗ (dats m 0 c).leaves 15 t ∗ (dats m 0 c).leaves 16 t ∗ (dats m 0 c).leaves 17 t ∗ (dats m 0 c).leaves 18 t ∗ (dats m 0 c).leaves 19 t ∗ (dats m 0 c).leaves 20 t ∗ (dats m 0 c).leaves 21 t ∗ (dats m 0 c).leaves 22 t ∗ (dats m 0 c).leaves 23 t ∗ (dats m 0 c).leaves 24 t ∗ (dats m 0 c).leaves 25 t ∗ (dats m 0 c).leaves 26 t ∗ free c 27 t ∗ (dats m 0 c).leaves 28 t)

/-- What is owed does not change from point to point. -/
theorem owes_next (c : Dev nD) (t : Fin cfg0.N) : (dats m 0 c).owesAt () t.castSucc ⊢ ((dats m 0 c).owesAt () t.succ : sProp 𝕄) := by
  iintro H
  icases (owes_open m c t.castSucc) $$ H with ⟨%W, HW⟩
  iapply (owes_close m c t.succ W)
  iexact HW

set_option maxHeartbeats 4000000 in
/-- A point between the first and the last. -/
theorem body_rows (c : Dev nD) (t : Fin cfg0.N) (h0 : ¬ t.val = 0) (ht : t.val < 32) :
    pre m c t ⊢ wp frame (wpE (defs₀ (F := F)) Variants.none c none) Set.univ (bodyAt0 t) (fun _ => post m c t) := by
  rw [bodyAt0_later t h0]
  unfold pre post
  rw [inv_at, inv_at]
  iintro ⟨HΦ, HW, Hw⟩
  icases (enter m c t) $$ Hw with ⟨Hi, Ho⟩
  iapply (mid_rows m c t ht (fun _ => _))
  isplitl [Hi]
  · iexact Hi
  isplitl [Ho]
  · iexact Ho
  iintro ⟨Hi, Ho⟩
  isplitl [HΦ]
  · iexact HΦ
  isplitl [HW]
  · iapply (owes_next m c t); iexact HW
  iapply (leave m c t)
  isplitl [Hi]
  · iexact Hi
  iexact Ho

set_option maxHeartbeats 4000000 in
/-- The first point: the accumulator is started, then as at the others. -/
theorem body_first (c : Dev nD) (t : Fin cfg0.N) (h0 : t.val = 0) :
    pre m c t ⊢ wp frame (wpE (defs₀ (F := F)) Variants.none c none) Set.univ (bodyAt0 t) (fun _ => post m c t) := by
  have ht : t.val < 32 := by omega
  rw [bodyAt0_first t h0]
  unfold pre post
  rw [inv_at, inv_at]
  iintro ⟨HΦ, HW, Hw⟩
  icases (enter m c t) $$ Hw with ⟨⟨H0, H1, H2, H3, H4, H5, H6, H7, H8, H9, H10, H11, H12, H13, H14, H15, H16, H17, H18, H19, H20, H21, H22, H23, H24, H25⟩, ⟨H26, H27, H28⟩⟩
  iapply (mid_start m c t (fun _ => _))
  isplitl [H10]
  · iexact H10
  isplitl [H27]
  · iexact H27
  iintro ⟨H10, H27⟩
  iapply (mid_rows m c t ht (fun _ => _))
  isplitl [H0 H1 H2 H3 H4 H5 H6 H7 H8 H9 H10 H11 H12 H13 H14 H15 H16 H17 H18 H19 H20 H21 H22 H23 H24 H25]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    isplitl [H24]
    · iexact H24
    iexact H25
  isplitl [H26 H27 H28]
  · isplitl [H26]
    · iexact H26
    isplitl [H27]
    · iexact H27
    iexact H28
  iintro ⟨Hi, Ho⟩
  isplitl [HΦ]
  · iexact HΦ
  isplitl [HW]
  · iapply (owes_next m c t); iexact HW
  iapply (leave m c t)
  isplitl [Hi]
  · iexact Hi
  iexact Ho

set_option maxHeartbeats 4000000 in
/-- The last point. -/
theorem body_last (c : Dev nD) (t : Fin cfg0.N) (ht : ¬ t.val < 32) :
    pre m c t ⊢ wp frame (wpE (defs₀ (F := F)) Variants.none c none) Set.univ (bodyAt0 t) (fun _ => post m c t) := by
  rw [bodyAt0_later t (by omega)]
  unfold pre post
  rw [inv_at, inv_at, atRest_eq]
  iintro ⟨⟨⟨⟨%s0, S0⟩, ⟨%s1, S1⟩, ⟨%s2, S2⟩⟩, G, ⟨C0, C1⟩, HH, ⟨%s3, S3⟩, ⟨%s4, S4⟩⟩, HW, Hw⟩
  icases (owes_open m c t.castSucc) $$ HW with ⟨%W, HW⟩
  icases (enter m c t) $$ Hw with ⟨Hi, Ho⟩
  icases (outs_last m c t ht) $$ Ho with ⟨H26, H27, H28⟩
  iapply (mid_sample m c t ht s0 s1 s2 s3 s4 W (fun _ => _))
  isplitl [Hi]
  · iexact Hi
  isplitl [H27]
  · iexact H27
  isplitl [S0]
  · iexact S0
  isplitl [S1]
  · iexact S1
  isplitl [S2]
  · iexact S2
  isplitl [S3]
  · iexact S3
  isplitl [S4]
  · iexact S4
  isplitl [C0]
  · iexact C0
  isplitl [C1]
  · iexact C1
  isplitl [HW]
  · iexact HW
  iintro ⟨Hi, H27, S0, S1, S2, S3, S4, C0, C1, ⟨%W', HW⟩⟩
  isplitl [S0 S1 S2 S3 S4 G C0 C1 HH]
  · isplitl [S0 S1 S2]
    · isplitl [S0]
      · iexact S0
      isplitl [S1]
      · iexact S1
      iexact S2
    isplitl [G]
    · iexact G
    isplitl [C0 C1]
    · isplitl [C0]
      · iexact C0
      iexact C1
    isplitl [HH]
    · iexact HH
    isplitl [S3]
    · iexact S3
    iexact S4
  isplitl [HW]
  · iapply (owes_close m c t.succ W'); iexact HW
  iapply (leave m c t)
  isplitl [Hi]
  · iexact Hi
  isplitl [H26]
  · iexact H26
  isplitl [H27]
  · iexact H27
  iexact H28

theorem defs₀_row (t : Fin cfg0.N) : defs₀ (F := F) .tc cfg0.body (cfg0.bodyArgs t (cfg0.slots t)) = bodyAt0 t := by
  unfold defs₀; rw [Defs.onTc_tc]

set_option maxHeartbeats 2000000 in
/-- The body, at every point, takes what the pipeline gives it to what the proof data says it leaves. -/
theorem body_obligation (c : Dev nD) : Pipeline.BodyObligationLoose (dats m 0 c) (defs₀ (F := F)) Variants.none () Set.univ fgt := by
  intro t
  rw [bigSep_W0, bigSep_W0, defs₀_row]
  by_cases h0 : t.val = 0
  · exact triple_restated (body_first m c t h0) rfl .rfl fun _ => .rfl
  by_cases ht : t.val < 32
  · exact triple_restated (body_rows m c t h0 ht) rfl .rfl fun _ => .rfl
  · exact triple_restated (body_last m c t ht) rfl .rfl fun _ => .rfl

/-! ## The whole run -/

/-- What the run ends in: every window's array that the proof data speaks of is as it says, every other buffer of a
    device but the two written by the body's own copies as at the region's entry. -/
abbrev Ends (r : PUnit × MemSt nD τ sig (Elt F)) : Prop :=
  Pipeline.RDat.FramePostR cfg0 (fun c => (dats m 0 c).toRForget fgt) R0 (V m) r

set_option maxHeartbeats 800000 in
/-- @main up to the region. -/
theorem hmain' : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
set_option maxHeartbeats 2000000 in
/-- The program runs to the end, and no wait is left open. -/
theorem run_main : θ_run defs (onTc (τ := τ) (main (F := F))) (s₀ m ρ) (fun r => Ends m r ∧ r.2.sem = fun _ => 0) :=
  Pipeline.θ_run_frame_dmaR_forget_shared cfgs (dats m) 0 launch₀0 osem0 defs₀ Variants.none fgt ownSemFacts0 H0 R0 H0_sub R0_sub m ρ main
    (fun c => body_obligation m c) (fun _ _ _ => rfl) (fun _ _ => rfl) (V m) (hmain' m) (fun c w => dats_A m c w)
    (fun c => .rfl) (fun c => .rfl)
    (Q' := fun r => Ends m r ∧ r.2.sem = fun _ => 0) (hQ' := fun _ h => h)

/-- A window's array the proof data speaks of ends as it says. -/
theorem arr_at (r : PUnit × MemSt nD τ sig (Elt F)) (hr : Ends m r) (c : Dev nD) (w : Fin cfg0.W) (h : fgt w = false) :
    r.2.mem ((cfg0.spec w).arr.view.loc (c.tc : Thread nD τ)) = (dats m 0 c).arrAt w cfg0.N :=
  ((dats m 0 c).toRForget_arrAt_iff h _ _).mp ((hr c).1 w)

/-- An input's array ends as it was at the region's entry. -/
theorem arr_in (r : PUnit × MemSt nD τ sig (Elt F)) (hr : Ends m r) (c : Dev nD) (w : Fin cfg0.W) (hw : (cfg0.win w).isOut = false)
    (h : fgt w = false) : r.2.mem ((cfg0.spec w).arr.view.loc (c.tc : Thread nD τ)) = (dats m 0 c).A w :=
  (arr_at m r hr c w h).trans ((dats m 0 c).arrAt_in w hw _)

set_option maxHeartbeats 2000000 in
/-- After the run every argument array of a device is left as it was launched. -/
theorem args_kept (r : PUnit × MemSt nD τ sig (Elt F)) (hr : Ends m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  ⟨(arr_in m r hr c 0 rfl (by decide)).trans ((dats_A m c 0).trans (V_main_arg0 m c)),
      (arr_in m r hr c 17 rfl (by decide)).trans ((dats_A m c 17).trans (V_main_arg1 m c)),
      ((hr c).2 main_arg2 (Finset.mem_sdiff.mpr ⟨Pipeline.mem_restRefs_of main_arg2 (by decide) (by decide), by decide⟩)).trans (V_main_arg2 m c),
      ((hr c).2 main_arg3 (Finset.mem_sdiff.mpr ⟨Pipeline.mem_restRefs_of main_arg3 (by decide) (by decide), by decide⟩)).trans (V_main_arg3 m c),
      ((hr c).2 main_arg4 (Finset.mem_sdiff.mpr ⟨Pipeline.mem_restRefs_of main_arg4 (by decide) (by decide), by decide⟩)).trans (V_main_arg4 m c),
      ((hr c).2 main_arg5 (Finset.mem_sdiff.mpr ⟨Pipeline.mem_restRefs_of main_arg5 (by decide) (by decide), by decide⟩)).trans (V_main_arg5 m c),
      (arr_in m r hr c 8 rfl (by decide)).trans ((dats_A m c 8).trans (V_main_arg6 m c)),
      (arr_in m r hr c 9 rfl (by decide)).trans ((dats_A m c 9).trans (V_main_arg7 m c)),
      (arr_in m r hr c 10 rfl (by decide)).trans ((dats_A m c 10).trans (V_main_arg8 m c)),
      (arr_in m r hr c 11 rfl (by decide)).trans ((dats_A m c 11).trans (V_main_arg9 m c)),
      (arr_in m r hr c 12 rfl (by decide)).trans ((dats_A m c 12).trans (V_main_arg10 m c)),
      (arr_in m r hr c 13 rfl (by decide)).trans ((dats_A m c 13).trans (V_main_arg11 m c)),
      ((hr c).2 main_arg12 (Finset.mem_sdiff.mpr ⟨Pipeline.mem_restRefs_of main_arg12 (by decide) (by decide), by decide⟩)).trans (V_main_arg12 m c),
      ((hr c).2 main_arg13 (Finset.mem_sdiff.mpr ⟨Pipeline.mem_restRefs_of main_arg13 (by decide) (by decide), by decide⟩)).trans (V_main_arg13 m c),
      ((hr c).2 main_arg14 (Finset.mem_sdiff.mpr ⟨Pipeline.mem_restRefs_of main_arg14 (by decide) (by decide), by decide⟩)).trans (V_main_arg14 m c),
      ((hr c).2 main_arg15 (Finset.mem_sdiff.mpr ⟨Pipeline.mem_restRefs_of main_arg15 (by decide) (by decide), by decide⟩)).trans (V_main_arg15 m c),
      ((hr c).2 main_arg16 (Finset.mem_sdiff.mpr ⟨Pipeline.mem_restRefs_of main_arg16 (by decide) (by decide), by decide⟩)).trans (V_main_arg16 m c),
      ((hr c).2 main_arg17 (Finset.mem_sdiff.mpr ⟨Pipeline.mem_restRefs_of main_arg17 (by decide) (by decide), by decide⟩)).trans (V_main_arg17 m c),
      ((hr c).2 main_arg18 (Finset.mem_sdiff.mpr ⟨Pipeline.mem_restRefs_of main_arg18 (by decide) (by decide), by decide⟩)).trans (V_main_arg18 m c),
      ((hr c).2 main_arg19 (Finset.mem_sdiff.mpr ⟨Pipeline.mem_restRefs_of main_arg19 (by decide) (by decide), by decide⟩)).trans (V_main_arg19 m c)⟩

/-- Every argument array is left as it was launched, and no wait is left open. -/
theorem frame_main : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) ∧ r.2.sem = fun _ => 0) :=
  (θ_run defs _ _).mono (fun r h => ⟨fun c => args_kept m r h.1 c, h.2⟩) (run_main m ρ)

end Cert.Kernel2Ideal.Hand

end
-- ==== Proof.TailFrames.lean ====
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.TailRun

@[expose] public section

set_option maxRecDepth 16384

noncomputable section

namespace Cert.Kernel2Ideal.Hand

open Cert.Kernel2Ideal Cert.Kernel2Ideal.Gen Idealize.ShloMosaic Idealize.ShloMosaic.TcCoe Idealize.SL.Sem

/-- The frame of this text at the machine's own floats. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0)

theorem frameBits : FrameBits := fun m ρ _ => frame_main (F := Bits) m ρ

/-- The kernel as printed and the kernel read at the extended reals are one text, so their frames are one statement. -/
theorem frameBits_eq : Cert.quiescent_Kernel2 = FrameBits := by sl_kernel_rfl

/-- The kernel read at the machine's own floats runs, leaves its arguments as launched and ends with no wait open. -/
theorem frame_kernel : Cert.quiescent_Kernel2 := frameBits_eq.mpr frameBits

/-- So does the kernel read at the extended reals. -/
theorem frame_ideal : Cert.quiescent_Kernel2Ideal := fun m ρ _ => frame_main (F := Ideal) m ρ

end Cert.Kernel2Ideal.Hand

end
-- ==== Proof.TailValues.lean ====
module

public import proofs.«01_k».proof.Proof.TailStateValues
public import proofs.«01_k».proof.Proof.TailFrames
public import Idealize.ShloMosaic.Lib.Pipeline.ValueKit
public import proofs.«01_k».proof.Proof.Gen.Reference2Ideal.Run
public import Idealize.ShloMosaic.Adequacy
public import Idealize.ShloMosaic.Init
public import Idealize.ShloMosaic.Lib.Claim

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Idealize.ShloMosaic.Pipeline (Dat)
open Cert.Ffn Cert.Reference2Ideal.Hand

variable (m : (ℓ : Loc nD τ sig) → Buf (Elt Ideal) ℓ)

/-! ## The prompt rows the call stores -/

/-- The step and the last norm respect equal parts. -/
theorem outNorm_congr {x x' sh sh' sc sc' g g' nw nw' nf nf' : Fin 1024 → EReal} {a a' : Fin 1024 → Fin 5632 → EReal} {b b' : Fin 2816 → Fin 1024 → EReal}
    (hx : ∀ k, x k = x' k) (hsh : ∀ k, sh k = sh' k) (hsc : ∀ k, sc k = sc' k) (hg : ∀ k, g k = g' k) (hnw : ∀ k, nw k = nw' k)
    (ha : ∀ k n, a k n = a' k n) (hb : ∀ j d, b j d = b' j d) (hnf : ∀ k, nf k = nf' k) (d : Fin 1024) :
    outNorm (step x sh sc g nw a b) nf d = outNorm (step x' sh' sc' g' nw' a' b') nf' d := by
  obtain rfl : x = x' := funext hx
  obtain rfl : sh = sh' := funext hsh
  obtain rfl : sc = sc' := funext hsc
  obtain rfl : g = g' := funext hg
  obtain rfl : nw = nw' := funext hnw
  obtain rfl : a = a' := funext fun k => funext (ha k)
  obtain rfl : b = b' := funext fun j => funext (hb j)
  obtain rfl : nf = nf' := funext hnf
  rfl

/-- The block a point stores is the reference's array at the block's place, -/
theorem point_26 (c : Dev nD) (t : Fin cfg0.N) (ht : t.val < 32) (h2 : k0_cond2 (grid0.coords t) = 1#1) (r : Fin 512) (d : Fin 1024) :
    out26 (F := Ideal) m c t h2 (ix2 r d)
    = Cert.Reference2Ideal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.val * 512 + r.val, by omega⟩ d) := by
  rw [val_main_v54_at]
  refine (oRows_apply (grid0.coords t) h2 _ _ _ _ _ _ _ _ r d).trans ?_
  refine outNorm_congr (fun k => ?_) (fun k => ?_) (fun k => ?_) (fun k => ?_) (nw_apply m c t) (w13_apply m c t) (w2_apply m c t) (nf_apply m c t) d
  · refine (blk_0 m c t r k).trans ?_
    rw [V_main_arg0]
    refine congrArg (m ((c : Thread nD τ).loc main_arg0)) ?_
    funext a
    match a with
    | ⟨0, _⟩ => exact Fin.ext (by show min t.val 31 * 512 + r.val = t.val * 512 + r.val; rw [Nat.min_eq_left (by omega)])
    | ⟨1, _⟩ => exact Fin.ext (by show 0 * 1024 + k.val = k.val; omega)
  · refine (rowAt_apply t ht h2 _ k).trans ((blk_1 m c t _ k).trans ?_)
    rw [V_main_arg1]
    refine congrArg (m ((c : Thread nD τ).loc main_arg1)) ?_
    funext a
    match a with
    | ⟨0, _⟩ => exact Fin.ext (by show 16 * 8 + t.val / 4 = 128 + (t.val * 512 + r.val) / 2048; omega)
    | ⟨1, _⟩ => rfl
  · refine (rowAt_apply t ht h2 _ k).trans ((blk_2 m c t _ k).trans ?_)
    rw [V_main_arg1]
    refine congrArg (m ((c : Thread nD τ).loc main_arg1)) ?_
    funext a
    match a with
    | ⟨0, _⟩ => exact Fin.ext (by show 16 * 8 + t.val / 4 = 128 + (t.val * 512 + r.val) / 2048; omega)
    | ⟨1, _⟩ => rfl
  · refine (rowAt_apply t ht h2 _ k).trans ((blk_3 m c t _ k).trans ?_)
    rw [V_main_arg1]
    refine congrArg (m ((c : Thread nD τ).loc main_arg1)) ?_
    funext a
    match a with
    | ⟨0, _⟩ => exact Fin.ext (by show 16 * 8 + t.val / 4 = 128 + (t.val * 512 + r.val) / 2048; omega)
    | ⟨1, _⟩ => rfl

/-- and the blocks cover the array. -/
theorem final_26 (c : Dev nD) : (dats m 0 c).arrAt 26 cfg0.N
    = Cert.Reference2Ideal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 26 _ (by decide +kernel) fun t hf y => ?_
  rw [after_26]
  have hy : y = (ix2 (y 0) (y 1) : S512x1024.Idx) := by funext a; match a with | ⟨0, _⟩ => rfl | ⟨1, _⟩ => rfl
  have hl : (lastRow t).val < 32 := by show min t.val 31 < 32; omega
  have he : (win0_26.rect t).emb y = (ix2 ⟨(lastRow t).val * 512 + (y 0).val, by have : (y 0).val < 512 := (y 0).isLt; omega⟩ (y 1) : S16384x1024.Idx) := by
    funext a
    refine Fin.ext ((win0_26.rect_emb_val_off t y a).trans ?_)
    rw [at_26 t]
    match a with
    | ⟨0, _⟩ => exact rfl
    | ⟨1, _⟩ => exact Nat.zero_add _
  rw [hy]
  refine (point_26 m c (lastRow t) hl (cond2_lastRow t) (y 0) (y 1)).trans ?_
  exact congrArg (Cert.Reference2Ideal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (he.symm.trans (by rw [← hy]; rfl))

set_option maxHeartbeats 2000000 in
/-- The call's first result. -/
theorem result_0 (r : PUnit × MemSt nD τ sig (Elt Ideal)) (hr : Ends m r) (c : Dev nD) :
    r.2.mem ((c.tc : Thread nD τ).loc main_v30_0) = Cert.Reference2Ideal.Read.val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (arr_at m r hr c 26 (by decide)).trans (final_26 m c)

/-- The call's third result. -/
theorem result_2 (r : PUnit × MemSt nD τ sig (Elt Ideal)) (hr : Ends m r) (c : Dev nD) :
    r.2.mem ((c.tc : Thread nD τ).loc main_v30_2) = Cert.Reference2Ideal.Read.val_main_v78 (F := Ideal) (m ((c.tc : Thread nD τ).loc main_arg6)) (m ((c.tc : Thread nD τ).loc main_arg7)) (m ((c.tc : Thread nD τ).loc main_arg9)) :=
  (arr_at m r hr c 28 (by decide)).trans (final_28 m c)

/-- After a run at the extended reals the prompt rows and the state the call returns are the reference's, read at the kernel's arguments,
    and the arguments are as launched. -/
theorem kernel_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v30_0) = Cert.Reference2Ideal.Read.val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v30_2) = Cert.Reference2Ideal.Read.val_main_v78 (F := Ideal) (m ((c.tc : Thread nD τ).loc main_arg6)) (m ((c.tc : Thread nD τ).loc main_arg7)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨result_0 m r h.1 c, result_2 m r h.1 c, args_kept m r h.1 c⟩) (run_main (F := Ideal) m ρ)

end Cert.Kernel2Ideal.Hand

namespace Cert.Reference2Ideal.Hand

open Cert.Reference2Ideal Cert.Reference2Ideal.Gen Idealize.ShloMosaic Idealize.ShloMosaic.TcCoe Idealize.SL.Sem

/-- After a run of the reference its results are the stages of its arguments, and the arguments are as launched. -/
theorem reference_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v54) = Cert.Reference2Ideal.Read.val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v78) = Cert.Reference2Ideal.Read.val_main_v78 (F := Ideal) (m ((c.tc : Thread nD τ).loc main_arg6)) (m ((c.tc : Thread nD τ).loc main_arg7)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c).1.trans (Cert.Reference2Ideal.Read.val_main_v54_eq m c), (h c).2.1.trans (Cert.Reference2Ideal.Read.val_main_v78_eq _ _ _), (h c).2.2⟩)
    (Cert.Reference2Ideal.Value.run (F := Ideal) m ρ)

/-- The reference runs, leaves its arguments as launched and ends with no wait open. -/
theorem frame_reference : Cert.quiescent_Reference2Ideal := fun m ρ _ =>
  (θ_run defs _ _).mono (fun r h => ⟨fun c => (h c).2.2, sem_eq_zero_of_no_sems (by decide) r.2⟩) (Cert.Reference2Ideal.Value.run (F := Ideal) m ρ)

end Cert.Reference2Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Values
public import proofs.«01_k».proof.Proof.Reference
public import proofs.«01_k».proof.Proof.TailValues
public import Idealize.ShloMosaic.Adequacy
public import Idealize.ShloMosaic.Init

@[expose] public section

noncomputable section

namespace Cert.Proof

open Idealize.ShloMosaic Idealize.SL.Sem Cert.Kernel

/-- From memories that agree on the arguments, the kernel and the reference, both at the extended reals, end with the same
    eleven results. -/
theorem algebraic : Cert.algebraic_KernelIdeal_ReferenceIdeal := by
  intro m ρ m' ρ' _ ha
  have a0 := fun c => (ha c).1
  have a1 := fun c => (ha c).2.1
  have a2 := fun c => (ha c).2.2.1
  have a3 := fun c => (ha c).2.2.2.1
  have a4 := fun c => (ha c).2.2.2.2.1
  have a5 := fun c => (ha c).2.2.2.2.2.1
  have a6 := fun c => (ha c).2.2.2.2.2.2.1
  have a7 := fun c => (ha c).2.2.2.2.2.2.2.1
  have a8 := fun c => (ha c).2.2.2.2.2.2.2.2.1
  have a9 := fun c => (ha c).2.2.2.2.2.2.2.2.2.1
  have a10 := fun c => (ha c).2.2.2.2.2.2.2.2.2.2.1
  have a11 := fun c => (ha c).2.2.2.2.2.2.2.2.2.2.2.1
  have a12 := fun c => (ha c).2.2.2.2.2.2.2.2.2.2.2.2.1
  have a13 := fun c => (ha c).2.2.2.2.2.2.2.2.2.2.2.2.2.1
  have a14 := fun c => (ha c).2.2.2.2.2.2.2.2.2.2.2.2.2.2.1
  have a15 := fun c => (ha c).2.2.2.2.2.2.2.2.2.2.2.2.2.2.2
  refine ⟨fun c => Cert.ReferenceIdeal.Read.val_main_v40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v78 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v94 (F := Ideal) (m ((c.tc : Thread Cert.KernelIdeal.nD Cert.KernelIdeal.τ).loc Cert.KernelIdeal.main_arg6)),
    fun c => Cert.ReferenceIdeal.Read.val_main_v95 (F := Ideal) (m ((c.tc : Thread Cert.KernelIdeal.nD Cert.KernelIdeal.τ).loc Cert.KernelIdeal.main_arg6)),
    fun c => Cert.ReferenceIdeal.Read.val_main_v97 (F := Ideal) (m ((c.tc : Thread Cert.KernelIdeal.nD Cert.KernelIdeal.τ).loc Cert.KernelIdeal.main_arg6)),
    fun c => Cert.ReferenceIdeal.Read.val_main_v99 (F := Ideal) (m ((c.tc : Thread Cert.KernelIdeal.nD Cert.KernelIdeal.τ).loc Cert.KernelIdeal.main_arg7)),
    fun c => Cert.ReferenceIdeal.Read.val_main_v101 (F := Ideal) (m ((c.tc : Thread Cert.KernelIdeal.nD Cert.KernelIdeal.τ).loc Cert.KernelIdeal.main_arg8)),
    fun c => Cert.ReferenceIdeal.Read.val_main_v103 (F := Ideal) (m ((c.tc : Thread Cert.KernelIdeal.nD Cert.KernelIdeal.τ).loc Cert.KernelIdeal.main_arg9)),
    fun c => Cert.ReferenceIdeal.Read.val_main_v105 (F := Ideal) (m ((c.tc : Thread Cert.KernelIdeal.nD Cert.KernelIdeal.τ).loc Cert.KernelIdeal.main_arg10)),
    fun c => Cert.ReferenceIdeal.Read.val_main_v107 (F := Ideal) (m ((c.tc : Thread Cert.KernelIdeal.nD Cert.KernelIdeal.τ).loc Cert.KernelIdeal.main_arg11)),
    fun c => Cert.ReferenceIdeal.Read.val_main_v92 (F := Ideal) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact Cert.KernelIdeal.Hand.kernel_value m ρ
  · refine (θ_run Cert.ReferenceIdeal.defs _ _).mono (fun r h c => ⟨(h c).1.trans (by rw [a0 c, a2 c, a3 c, a4 c, a5 c]),
      (h c).2.1.trans (by rw [a1 c, a2 c, a3 c, a4 c, a5 c]),
      (h c).2.2.1.trans (by rw [a6 c]),
      (h c).2.2.2.1.trans (by rw [a6 c]),
      (h c).2.2.2.2.1.trans (by rw [a6 c]),
      (h c).2.2.2.2.2.1.trans (by rw [a7 c]),
      (h c).2.2.2.2.2.2.1.trans (by rw [a8 c]),
      (h c).2.2.2.2.2.2.2.1.trans (by rw [a9 c]),
      (h c).2.2.2.2.2.2.2.2.1.trans (by rw [a10 c]),
      (h c).2.2.2.2.2.2.2.2.2.1.trans (by rw [a11 c]),
      (h c).2.2.2.2.2.2.2.2.2.2.1.trans (by rw [a12 c, a13 c, a14 c, a15 c]),
      (h c).2.2.2.2.2.2.2.2.2.2.2⟩) (Cert.ReferenceIdeal.Hand.reference_value m' ρ')

/-- So do the second kernel and its reference, with the same prompt rows and the same state. -/
theorem algebraic2 : Cert.algebraic_Kernel2Ideal_Reference2Ideal := by
  intro m ρ m' ρ' _ ha
  have a0 := fun c => (ha c).1
  have a1 := fun c => (ha c).2.1
  have a2 := fun c => (ha c).2.2.1
  have a3 := fun c => (ha c).2.2.2.1
  have a4 := fun c => (ha c).2.2.2.2.1
  have a5 := fun c => (ha c).2.2.2.2.2.1
  have a6 := fun c => (ha c).2.2.2.2.2.2.1
  have a7 := fun c => (ha c).2.2.2.2.2.2.2.1
  have a9 := fun c => (ha c).2.2.2.2.2.2.2.2.2.1
  refine ⟨fun c => Cert.Reference2Ideal.Read.val_main_v54 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)), fun c => Cert.Reference2Ideal.Read.val_main_v78 (F := Ideal) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg9)), ?_, ?_⟩
  · exact Cert.Kernel2Ideal.Hand.kernel_value m ρ
  · refine (θ_run Cert.Reference2Ideal.defs _ _).mono (fun r h c => ⟨(h c).1.trans (by rw [a0 c, a1 c, a2 c, a3 c, a4 c, a5 c]), (h c).2.1.trans (by rw [a6 c, a7 c, a9 c]), (h c).2.2⟩) (Cert.Reference2Ideal.Hand.reference_value m' ρ')

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.KernelIdeal.Hand.frame_kernel, Cert.KernelIdeal.Hand.frame_ideal, Cert.ReferenceIdeal.Hand.frame_reference,
  Cert.Kernel2Ideal.Hand.frame_kernel, Cert.Kernel2Ideal.Hand.frame_ideal, Cert.Reference2Ideal.Hand.frame_reference,
  trivial, algebraic, trivial, algebraic2⟩

end Cert.Proof

end
